-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S50000x512 : Shape := ⟨2, ![50000, 512]⟩
abbrev S1000x512 : Shape := ⟨2, ![1000, 512]⟩
abbrev S50000 : Shape := ⟨1, ![50000]⟩
abbrev S1024x1 : Shape := ⟨2, ![1024, 1]⟩
abbrev S1 : Shape := ⟨1, ![1]⟩
abbrev S512x512 : Shape := ⟨2, ![512, 512]⟩
abbrev S512 : Shape := ⟨1, ![512]⟩
abbrev S49999 : Shape := ⟨1, ![49999]⟩
abbrev S_ : Shape := ⟨0, ![]⟩

class Facts : Prop where
  slices_S50000_S49999_0 : S50000.Slices ![0] S49999
  slices_S50000_S49999_1 : S50000.Slices ![1] S49999
  reducesTo_S49999_S_d0 : S49999.ReducesTo [0] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S1000x512 : S_.BroadcastsInDim S1000x512 (![] : Fin 0 → Fin S1000x512.rank)
  reducesTo_S1000x512_S_d0_1 : S1000x512.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S1 .f32) (main_arg5 : FVec F S512x512 .f32) (main_v13 : IVec S_ 1) (main_v16 : IVec S1024x1 1) (main_c_4 : IVec S_ 1) : IVec S_ 1 :=
  let main_v17 : IVec S_ 1 := (fun x v => Host.reduce IntOp.andi x v reducesTo_S1024x1_S_d0_1 h_S_) main_v16 main_c_4
  let main_v18 : IVec S_ 1 := andi main_v13 main_v17
  let main_v19 : FVec F S1 .f32 := Host.absf main_arg4
  let main_cst_5 : FVec F S_ .f32 := constant S_ .f32 0x7F800000#32
  let main_v20 : FVec F S1 .f32 := broadcastInDim S1 ![] bcast_S_S1 main_cst_5
  let main_v21 : IVec S1 1 := cmpf .olt main_v19 main_v20
  let main_c_6 : IVec S_ 1 := constantI S_ 1 1#1
  let main_v22 : IVec S_ 1 := (fun x v => Host.reduce IntOp.andi x v reducesTo_S1_S_d0 h_S_) main_v21 main_c_6
  let main_v23 : IVec S_ 1 := andi main_v18 main_v22
  let main_v24 : FVec F S512x512 .f32 := Host.absf main_arg5
  let main_cst_7 : FVec F S_ .f32 := constant S_ .f32 0x7F800000#32
  let main_v25 : FVec F S512x512 .f32 := broadcastInDim S512x512 ![] bcast_S_S512x512 main_cst_7
  let main_v26 : IVec S512x512 1 := cmpf .olt main_v24 main_v25
  let main_c_8 : IVec S_ 1 := constantI S_ 1 1#1
  let main_v27 : IVec S_ 1 := (fun x v => Host.reduce IntOp.andi x v reducesTo_S512x512_S_d0_1 h_S_) main_v26 main_c_8
  let main_v28 : IVec S_ 1 := andi main_v23 main_v27
  main_v28

def fn {F : FTy → Type} [FloatOps F] (main_arg0 : FVec F S50000x512 .f32) (main_arg1 : FVec F S1000x512 .f32) (main_arg2 : IVec S50000 32) (main_arg3 : FVec F S1024x1 .f32) (main_arg4 : FVec F S1 .f32) (main_arg5 : FVec F S512x512 .f32) (main_arg6 : FVec F S512 .f32) : IVec S_ 1 :=
  let main_v0 : IVec S49999 32 := (extractStridedSlice S49999 ![0] · slices_S50000_S49999_0) main_arg2
  let main_v1 : IVec S49999 32 := (extractStridedSlice S49999 ![1] · slices_S50000_S49999_1) main_arg2
  let main_v2 : IVec S49999 1 := cmpi .sle main_v0 main_v1
  let main_c : IVec S_ 1 := constantI S_ 1 1#1
  let main_v3 : IVec S_ 1 := (fun x v => Host.reduce IntOp.andi x v reducesTo_S49999_S_d0 h_S_) main_v2 main_c
  let main_v4 : FVec F S50000x512 .f32 := Host.absf main_arg0
  let main_cst : FVec F S_ .f32 := constant S_ .f32 0x7F800000#32
  let main_v5 : FVec F S50000x512 .f32 := broadcastInDim S50000x512 ![] bcast_S_S50000x512 main_cst
  let main_v6 : IVec S50000x512 1 := cmpf .olt main_v4 main_v5
  let main_c_0 : IVec S_ 1 := constantI S_ 1 1#1
  let main_v7 : IVec S_ 1 := (fun x v => Host.reduce IntOp.andi x v reducesTo_S50000x512_S_d0_1 h_S_) main_v6 main_c_0
  let main_v8 : IVec S_ 1 := andi main_v3 main_v7
  let main_v9 : FVec F S1000x512 .f32 := Host.absf main_arg1
  let main_cst_1 : FVec F S_ .f32 := constant S_ .f32 0x7F800000#32
  let main_v10 : FVec F S1000x512 .f32 := broadcastInDim S1000x512 ![] bcast_S_S1000x512 main_cst_1
  let main_v11 : IVec S1000x512 1 := cmpf .olt main_v9 main_v10
  let main_c_2 : IVec S_ 1 := constantI S_ 1 1#1
  let main_v12 : IVec S_ 1 := (fun x v => Host.reduce IntOp.andi x v reducesTo_S1000x512_S_d0_1 h_S_) main_v11 main_c_2
  let main_v13 : IVec S_ 1 := andi main_v8 main_v12
  let main_v14 : FVec F S1024x1 .f32 := Host.absf main_arg3
  let main_cst_3 : FVec F S_ .f32 := constant S_ .f32 0x7F800000#32
  let main_v15 : FVec F S1024x1 .f32 := broadcastInDim S1024x1 ![] bcast_S_S1024x1 main_cst_3
  let main_v16 : IVec S1024x1 1 := cmpf .olt main_v14 main_v15
  let main_c_4 : IVec S_ 1 := constantI S_ 1 1#1
  fn_part1 (F := F) main_arg4 main_arg5 main_v13 main_v16 main_c_4
-- ==== Kernel.lean ====
abbrev S50000x512 : Shape := ⟨2, ![50000, 512]⟩
abbrev S1000x512 : Shape := ⟨2, ![1000, 512]⟩
abbrev S50000 : Shape := ⟨1, ![50000]⟩
abbrev S1024x1 : Shape := ⟨2, ![1024, 1]⟩
abbrev S1 : Shape := ⟨1, ![1]⟩
abbrev S512x512 : Shape := ⟨2, ![512, 512]⟩
abbrev S512 : Shape := ⟨1, ![512]⟩
abbrev S1x1 : Shape := ⟨2, ![1, 1]⟩
abbrev S512x1 : Shape := ⟨2, ![512, 1]⟩
abbrev S50000x1 : Shape := ⟨2, ![50000, 1]⟩
abbrev S1000x1 : Shape := ⟨2, ![1000, 1]⟩
abbrev S24x1 : Shape := ⟨2, ![24, 1]⟩
abbrev S1024 : Shape := ⟨1, ![1024]⟩
abbrev S1024x512 : Shape := ⟨2, ![1024, 512]⟩
abbrev S1024x16 : Shape := ⟨2, ![1024, 16]⟩
abbrev S96 : Shape := ⟨1, ![96]⟩
abbrev S96x512 : Shape := ⟨2, ![96, 512]⟩
abbrev S32x512 : Shape := ⟨2, ![32, 512]⟩
abbrev S32x16 : Shape := ⟨2, ![32, 16]⟩
abbrev S16 : Shape := ⟨1, ![16]⟩
abbrev S_ : Shape := ⟨0, ![]⟩
abbrev S1x16 : Shape := ⟨2, ![1, 16]⟩
abbrev S1x512 : Shape := ⟨2, ![1, 512]⟩

abbrev nBuf : Table → Nat
  | .hbm => 18
  | .local .tc .vmem => 13
  | .local .tc .smem => 1
  | .local .scVector .vmem => 7
  | _ => 0

abbrev bufTy : (tb : Table) → Fin (nBuf tb) → BufTy
  | .hbm, ⟨0, _⟩ => ⟨S50000x512, .f32⟩
  | .hbm, ⟨1, _⟩ => ⟨S1000x512, .f32⟩
  | .hbm, ⟨2, _⟩ => ⟨S50000, .i32⟩
  | .hbm, ⟨3, _⟩ => ⟨S1024x1, .f32⟩
  | .hbm, ⟨4, _⟩ => ⟨S1, .f32⟩
  | .hbm, ⟨5, _⟩ => ⟨S512x512, .f32⟩
  | .hbm, ⟨6, _⟩ => ⟨S512, .f32⟩
  | .hbm, ⟨7, _⟩ => ⟨S1x1, .f32⟩
  | .hbm, ⟨8, _⟩ => ⟨S512x1, .f32⟩
  | .hbm, ⟨9, _⟩ => ⟨S512x1, .f32⟩
  | .hbm, ⟨10, _⟩ => ⟨S50000x1, .f32⟩
  | .hbm, ⟨11, _⟩ => ⟨S1024x1, .f32⟩
  | .hbm, ⟨12, _⟩ => ⟨S50000, .f32⟩
  | .hbm, ⟨13, _⟩ => ⟨S1024, .f32⟩
  | .hbm, ⟨14, _⟩ => ⟨S1024x512, .f32⟩
  | .hbm, ⟨15, _⟩ => ⟨S1024x16, .f32⟩
  | .hbm, ⟨16, _⟩ => ⟨S1x512, .f32⟩
  | .hbm, ⟨17, _⟩ => ⟨S1000x512, .f32⟩
  | .local .tc .vmem, ⟨0, _⟩ => ⟨S1000x512, .f32⟩
  | .local .tc .vmem, ⟨1, _⟩ => ⟨S1000x512, .f32⟩
  | .local .tc .vmem, ⟨2, _⟩ => ⟨S1000x512, .f32⟩
  | .local .tc .vmem, ⟨3, _⟩ => ⟨S512x1, .f32⟩
  | .local .tc .vmem, ⟨4, _⟩ => ⟨S512x1, .f32⟩
  | .local .tc .vmem, ⟨5, _⟩ => ⟨S1000x1, .f32⟩
  | .local .tc .vmem, ⟨6, _⟩ => ⟨S1000x1, .f32⟩
  | .local .tc .vmem, ⟨7, _⟩ => ⟨S1024x1, .f32⟩
  | .local .tc .vmem, ⟨8, _⟩ => ⟨S1024x512, .f32⟩
  | .local .tc .vmem, ⟨9, _⟩ => ⟨S1024x16, .f32⟩
  | .local .tc .vmem, ⟨10, _⟩ => ⟨S512x512, .f32⟩
  | .local .tc .vmem, ⟨11, _⟩ => ⟨S1x512, .f32⟩
  | .local .tc .vmem, ⟨12, _⟩ => ⟨S1000x512, .f32⟩
  | .local .tc .smem, ⟨0, _⟩ => ⟨S1x1, .f32⟩
  | .local .scVector .vmem, ⟨0, _⟩ => ⟨S50000, .i32⟩
  | .local .scVector .vmem, ⟨1, _⟩ => ⟨S96, .f32⟩
  | .local .scVector .vmem, ⟨2, _⟩ => ⟨S1024, .f32⟩
  | .local .scVector .vmem, ⟨3, _⟩ => ⟨S96x512, .f32⟩
  | .local .scVector .vmem, ⟨4, _⟩ => ⟨S96, .f32⟩
  | .local .scVector .vmem, ⟨5, _⟩ => ⟨S32x512, .f32⟩
  | .local .scVector .vmem, ⟨6, _⟩ => ⟨S32x16, .f32⟩
  | _, _ => ⟨S50000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_arg0_scv : Ref sig .scVector := ⟨.hbm, 0, rfl⟩
abbrev main_arg2_scv : Ref sig .scVector := ⟨.hbm, 2, rfl⟩
abbrev main_v4_scv : Ref sig .scVector := ⟨.hbm, 12, rfl⟩
abbrev main_v5_scv : Ref sig .scVector := ⟨.hbm, 13, rfl⟩
abbrev main_v6_0_scv : Ref sig .scVector := ⟨.hbm, 14, rfl⟩
abbrev main_v6_1_scv : Ref sig .scVector := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_chk1 (v7 : IVec S16 32) : Prop :=
  (∀ a x, ((![v7] : Fin 1 → IVec S16 32) a x).toNat < S50000.size a)
theorem k1_idx1_inb : ∀ (v7 : IVec S16 32) (k1_hw1 : k1_chk1 v7), ∀ a x, ((![v7] : Fin 1 → IVec S16 32) a x).toNat < S50000.size a := fun v7 k1_hw1 => k1_hw1

def k1_chk2 (v23 : IVec S16 32) : Prop :=
  (∀ a x, ((![v23] : Fin 1 → IVec S16 32) a x).toNat < S50000.size a)
theorem k1_idx2_inb : ∀ (v23 : IVec S16 32) (k1_hw2 : k1_chk2 v23), ∀ a x, ((![v23] : Fin 1 → IVec S16 32) a x).toNat < S50000.size a := fun v23 k1_hw2 => k1_hw2

def k1_chk3 (v39 : IVec S16 32) : Prop :=
  (∀ a x, ((![v39] : Fin 1 → IVec S16 32) a x).toNat < S50000.size a)
theorem k1_idx3_inb : ∀ (v39 : IVec S16 32) (k1_hw3 : k1_chk3 v39), ∀ a x, ((![v39] : Fin 1 → IVec S16 32) a x).toNat < S50000.size a := fun v39 k1_hw3 => k1_hw3

def k1_chk4 (v55 : IVec S16 32) : Prop :=
  (∀ a x, ((![v55] : Fin 1 → IVec S16 32) a x).toNat < S50000.size a)
theorem k1_idx4_inb : ∀ (v55 : IVec S16 32) (k1_hw4 : k1_chk4 v55), ∀ a x, ((![v55] : Fin 1 → IVec S16 32) a x).toNat < S50000.size a := fun v55 k1_hw4 => k1_hw4

def k1_chk5 (v71 : IVec S16 32) : Prop :=
  (∀ a x, ((![v71] : Fin 1 → IVec S16 32) a x).toNat < S50000.size a)
theorem k1_idx5_inb : ∀ (v71 : IVec S16 32) (k1_hw5 : k1_chk5 v71), ∀ a x, ((![v71] : Fin 1 → IVec S16 32) a x).toNat < S50000.size a := fun v71 k1_hw5 => k1_hw5

def k1_chk6 (v87 : IVec S16 32) : Prop :=
  (∀ a x, ((![v87] : Fin 1 → IVec S16 32) a x).toNat < S50000.size a)
theorem k1_idx6_inb : ∀ (v87 : IVec S16 32) (k1_hw6 : k1_chk6 v87), ∀ a x, ((![v87] : Fin 1 → IVec S16 32) a x).toNat < S50000.size a := fun v87 k1_hw6 => k1_hw6

def k1_chk7 (v103 : IVec S16 32) : Prop :=
  (∀ a x, ((![v103] : Fin 1 → IVec S16 32) a x).toNat < S50000.size a)
theorem k1_idx7_inb : ∀ (v103 : IVec S16 32) (k1_hw7 : k1_chk7 v103), ∀ a x, ((![v103] : Fin 1 → IVec S16 32) a x).toNat < S50000.size a := fun v103 k1_hw7 => k1_hw7

def k1_chk8 (v119 : IVec S16 32) : Prop :=
  (∀ a x, ((![v119] : Fin 1 → IVec S16 32) a x).toNat < S50000.size a)
theorem k1_idx8_inb : ∀ (v119 : IVec S16 32) (k1_hw8 : k1_chk8 v119), ∀ a x, ((![v119] : Fin 1 → IVec S16 32) a x).toNat < S50000.size a := fun v119 k1_hw8 => k1_hw8

def k1_chk9 (v135 : IVec S16 32) : Prop :=
  (∀ a x, ((![v135] : Fin 1 → IVec S16 32) a x).toNat < S50000.size a)
theorem k1_idx9_inb : ∀ (v135 : IVec S16 32) (k1_hw9 : k1_chk9 v135), ∀ a x, ((![v135] : Fin 1 → IVec S16 32) a x).toNat < S50000.size a := fun v135 k1_hw9 => k1_hw9

def k1_chk10 (v151 : IVec S16 32) : Prop :=
  (∀ a x, ((![v151] : Fin 1 → IVec S16 32) a x).toNat < S50000.size a)
theorem k1_idx10_inb : ∀ (v151 : IVec S16 32) (k1_hw10 : k1_chk10 v151), ∀ a x, ((![v151] : Fin 1 → IVec S16 32) a x).toNat < S50000.size a := fun v151 k1_hw10 => k1_hw10

def k1_chk11 (v167 : IVec S16 32) : Prop :=
  (∀ a x, ((![v167] : Fin 1 → IVec S16 32) a x).toNat < S50000.size a)
theorem k1_idx11_inb : ∀ (v167 : IVec S16 32) (k1_hw11 : k1_chk11 v167), ∀ a x, ((![v167] : Fin 1 → IVec S16 32) a x).toNat < S50000.size a := fun v167 k1_hw11 => k1_hw11

def k1_chk12 (v183 : IVec S16 32) : Prop :=
  (∀ a x, ((![v183] : Fin 1 → IVec S16 32) a x).toNat < S50000.size a)
theorem k1_idx12_inb : ∀ (v183 : IVec S16 32) (k1_hw12 : k1_chk12 v183), ∀ a x, ((![v183] : Fin 1 → IVec S16 32) a x).toNat < S50000.size a := fun v183 k1_hw12 => k1_hw12

def k1_chk13 (v199 : IVec S16 32) : Prop :=
  (∀ a x, ((![v199] : Fin 1 → IVec S16 32) a x).toNat < S50000.size a)
theorem k1_idx13_inb : ∀ (v199 : IVec S16 32) (k1_hw13 : k1_chk13 v199), ∀ a x, ((![v199] : Fin 1 → IVec S16 32) a x).toNat < S50000.size a := fun v199 k1_hw13 => k1_hw13

def k1_chk14 (v215 : IVec S16 32) : Prop :=
  (∀ a x, ((![v215] : Fin 1 → IVec S16 32) a x).toNat < S50000.size a)
theorem k1_idx14_inb : ∀ (v215 : IVec S16 32) (k1_hw14 : k1_chk14 v215), ∀ a x, ((![v215] : Fin 1 → IVec S16 32) a x).toNat < S50000.size a := fun v215 k1_hw14 => k1_hw14

def k1_chk15 (v231 : IVec S16 32) : Prop :=
  (∀ a x, ((![v231] : Fin 1 → IVec S16 32) a x).toNat < S50000.size a)
theorem k1_idx15_inb : ∀ (v231 : IVec S16 32) (k1_hw15 : k1_chk15 v231), ∀ a x, ((![v231] : Fin 1 → IVec S16 32) a x).toNat < S50000.size a := fun v231 k1_hw15 => k1_hw15

def k1_chk16 (v247 : IVec S16 32) : Prop :=
  (∀ a x, ((![v247] : Fin 1 → IVec S16 32) a x).toNat < S50000.size a)
theorem k1_idx16_inb : ∀ (v247 : IVec S16 32) (k1_hw16 : k1_chk16 v247), ∀ a x, ((![v247] : Fin 1 → IVec S16 32) a x).toNat < S50000.size a := fun v247 k1_hw16 => k1_hw16
@[reducible] def k1_t1_loop : Scf.Loop 32 :=
  let c0_i32_96 : BitVec 32 := 0#32
  let c32_i32_97 : BitVec 32 := 32#32
  let v260 : BitVec 32 := Scalar.addi c0_i32_96 c32_i32_97
  let c1_i32_98 : BitVec 32 := 1#32
  ⟨c0_i32_96, v260, c1_i32_98⟩

def k1_chk17 (v263 : IVec S16 32) : Prop :=
  (∀ a x, ((![v263] : Fin 1 → IVec S16 32) a x).toNat < S1024.size a)
theorem k1_idx17_inb : ∀ (v263 : IVec S16 32) (k1_hw17 : k1_chk17 v263), ∀ a x, ((![v263] : Fin 1 → IVec S16 32) a x).toNat < S1024.size a := fun v263 k1_hw17 => k1_hw17
@[reducible] def k1_t2_loop : Scf.Loop 32 :=
  let c0_i32_101 : BitVec 32 := 0#32
  let c523_i32 : BitVec 32 := 523#32
  let v266 : BitVec 32 := Scalar.addi c0_i32_101 c523_i32
  let c1_i32_102 : BitVec 32 := 1#32
  ⟨c0_i32_101, v266, c1_i32_102⟩
def k1_mult1 (arg19 : BitVec 32) : BitVec 32 :=
  let c0_i32_108 : BitVec 32 := 0#32
  let v339 : BitVec 1 := Scalar.cmpi .sgt arg19 c0_i32_108
  let v340 : BitVec 32 := Scalar.extui v339
  let c0_i32_109 : BitVec 32 := 0#32
  let v341 : BitVec 1 := Scalar.cmpi .slt arg19 c0_i32_109
  let v342 : BitVec 32 := Scalar.extui v341
  let v343 : BitVec 32 := Scalar.subi v340 v342
  let c8_i32_107 : BitVec 32 := 8#32
  let c0_i32_110 : BitVec 32 := 0#32
  let v344 : BitVec 1 := Scalar.cmpi .sgt c8_i32_107 c0_i32_110
  let v345 : BitVec 32 := Scalar.extui v344
  let c0_i32_111 : BitVec 32 := 0#32
  let v346 : BitVec 1 := Scalar.cmpi .slt c8_i32_107 c0_i32_111
  let v347 : BitVec 32 := Scalar.extui v346
  let v348 : BitVec 32 := Scalar.subi v345 v347
  let v349 : BitVec 1 := Scalar.cmpi .ne v343 v348
  let v350 : BitVec 32 := Scalar.remsi arg19 c8_i32_107
  let c0_i32_112 : BitVec 32 := 0#32
  let v351 : BitVec 1 := Scalar.cmpi .ne v350 c0_i32_112
  let v352 : BitVec 1 := Scalar.andi v349 v351
  let v338 : BitVec 32 := Scalar.divsi arg19 c8_i32_107
  let c1_i32_113 : BitVec 32 := 1#32
  let v353 : BitVec 32 := Scalar.subi v338 c1_i32_113
  let v354 : BitVec 32 := Scalar.select v352 v353 v338
  let c8_i32_114 : BitVec 32 := 8#32
  let v355 : BitVec 32 := Scalar.muli v354 c8_i32_114
  let c49904_i32 : BitVec 32 := 49904#32
  let v356 : BitVec 32 := Scalar.minsi v355 c49904_i32
  v356
def k1_cond1 (arg18 : BitVec 32) : BitVec 1 :=
  let c1_i32_105 : BitVec 32 := 1#32
  let v334 : BitVec 1 := Scalar.cmpi .eq arg18 c1_i32_105
  let v335 : BitVec 32 := Scalar.extui v334
  let c0_i32_106 : BitVec 32 := 0#32
  let v336 : BitVec 1 := Scalar.cmpi .ne v335 c0_i32_106
  v336

def k1_off1 (arg19 : BitVec 32) : Fin 2 → Nat :=
  let c0_i32_108 : BitVec 32 := 0#32
  let v339 : BitVec 1 := Scalar.cmpi .sgt arg19 c0_i32_108
  let v340 : BitVec 32 := Scalar.extui v339
  let c0_i32_109 : BitVec 32 := 0#32
  let v341 : BitVec 1 := Scalar.cmpi .slt arg19 c0_i32_109
  let v342 : BitVec 32 := Scalar.extui v341
  let v343 : BitVec 32 := Scalar.subi v340 v342
  let c8_i32_107 : BitVec 32 := 8#32
  let c0_i32_110 : BitVec 32 := 0#32
  let v344 : BitVec 1 := Scalar.cmpi .sgt c8_i32_107 c0_i32_110
  let v345 : BitVec 32 := Scalar.extui v344
  let c0_i32_111 : BitVec 32 := 0#32
  let v346 : BitVec 1 := Scalar.cmpi .slt c8_i32_107 c0_i32_111
  let v347 : BitVec 32 := Scalar.extui v346
  let v348 : BitVec 32 := Scalar.subi v345 v347
  let v349 : BitVec 1 := Scalar.cmpi .ne v343 v348
  let v350 : BitVec 32 := Scalar.remsi arg19 c8_i32_107
  let c0_i32_112 : BitVec 32 := 0#32
  let v351 : BitVec 1 := Scalar.cmpi .ne v350 c0_i32_112
  let v352 : BitVec 1 := Scalar.andi v349 v351
  let v338 : BitVec 32 := Scalar.divsi arg19 c8_i32_107
  let c1_i32_113 : BitVec 32 := 1#32
  let v353 : BitVec 32 := Scalar.subi v338 c1_i32_113
  let v354 : BitVec 32 := Scalar.select v352 v353 v338
  let c8_i32_114 : BitVec 32 := 8#32
  let v355 : BitVec 32 := Scalar.muli v354 c8_i32_114
  let c49904_i32 : BitVec 32 := 49904#32
  let v356 : BitVec 32 := Scalar.minsi v355 c49904_i32
  let v357 : BitVec 32 := v356
  let c0_i32_174_r2 : BitVec 32 := 0#32
  ![v357.toNat, 0]
def k1_off2 (arg19 : BitVec 32) : Fin 1 → Nat :=
  let c0_i32_108 : BitVec 32 := 0#32
  let v339 : BitVec 1 := Scalar.cmpi .sgt arg19 c0_i32_108
  let v340 : BitVec 32 := Scalar.extui v339
  let c0_i32_109 : BitVec 32 := 0#32
  let v341 : BitVec 1 := Scalar.cmpi .slt arg19 c0_i32_109
  let v342 : BitVec 32 := Scalar.extui v341
  let v343 : BitVec 32 := Scalar.subi v340 v342
  let c8_i32_107 : BitVec 32 := 8#32
  let c0_i32_110 : BitVec 32 := 0#32
  let v344 : BitVec 1 := Scalar.cmpi .sgt c8_i32_107 c0_i32_110
  let v345 : BitVec 32 := Scalar.extui v344
  let c0_i32_111 : BitVec 32 := 0#32
  let v346 : BitVec 1 := Scalar.cmpi .slt c8_i32_107 c0_i32_111
  let v347 : BitVec 32 := Scalar.extui v346
  let v348 : BitVec 32 := Scalar.subi v345 v347
  let v349 : BitVec 1 := Scalar.cmpi .ne v343 v348
  let v350 : BitVec 32 := Scalar.remsi arg19 c8_i32_107
  let c0_i32_112 : BitVec 32 := 0#32
  let v351 : BitVec 1 := Scalar.cmpi .ne v350 c0_i32_112
  let v352 : BitVec 1 := Scalar.andi v349 v351
  let v338 : BitVec 32 := Scalar.divsi arg19 c8_i32_107
  let c1_i32_113 : BitVec 32 := 1#32
  let v353 : BitVec 32 := Scalar.subi v338 c1_i32_113
  let v354 : BitVec 32 := Scalar.select v352 v353 v338
  let c8_i32_114 : BitVec 32 := 8#32
  let v355 : BitVec 32 := Scalar.muli v354 c8_i32_114
  let c49904_i32 : BitVec 32 := 49904#32
  let v356 : BitVec 32 := Scalar.minsi v355 c49904_i32
  let v357 : BitVec 32 := v356
  ![v357.toNat]

def k1_chk18 (arg18 : BitVec 32) (arg19 : BitVec 32) : Prop :=
  (∀ (k1_h1 : k1_cond1 arg18 = 1#1), 8 ∣ (k1_mult1 arg19).toNat) ∧
  (∀ (k1_h1 : k1_cond1 arg18 = 1#1), ∀ a, (k1_off1 arg19) a + S96x512.size a ≤ S50000x512.size a) ∧
  (∀ (k1_h1 : k1_cond1 arg18 = 1#1), ∀ a, (k1_off2 arg19) a + S96.size a ≤ S50000.size a)
theorem k1_mult1_dvd : ∀ (arg18 : BitVec 32) (arg19 : BitVec 32) (k1_hw18 : k1_chk18 arg18 arg19), ∀ (k1_h1 : k1_cond1 arg18 = 1#1), 8 ∣ (k1_mult1 arg19).toNat := fun arg18 arg19 k1_hw18 k1_h1 => k1_hw18.1 k1_h1
theorem k1_off1_inb : ∀ (arg18 : BitVec 32) (arg19 : BitVec 32) (k1_hw18 : k1_chk18 arg18 arg19), ∀ (k1_h1 : k1_cond1 arg18 = 1#1), ∀ a, (k1_off1 arg19) a + S96x512.size a ≤ S50000x512.size a := fun arg18 arg19 k1_hw18 k1_h1 => k1_hw18.2.1 k1_h1
theorem k1_off2_inb : ∀ (arg18 : BitVec 32) (arg19 : BitVec 32) (k1_hw18 : k1_chk18 arg18 arg19), ∀ (k1_h1 : k1_cond1 arg18 = 1#1), ∀ a, (k1_off2 arg19) a + S96.size a ≤ S50000.size a := fun arg18 arg19 k1_hw18 k1_h1 => k1_hw18.2.2 k1_h1

def k1_chk19 (arg18 : BitVec 32) (v361 : IVec S16 32) : Prop :=
  (∀ (k1_h1 : k1_cond1 arg18 = 1#1), ∀ a x, ((![v361] : Fin 1 → IVec S16 32) a x).toNat < S50000.size a)
theorem k1_idx18_inb : ∀ (arg18 : BitVec 32) (v361 : IVec S16 32) (k1_hw19 : k1_chk19 arg18 v361), ∀ (k1_h1 : k1_cond1 arg18 = 1#1), ∀ a x, ((![v361] : Fin 1 → IVec S16 32) a x).toNat < S50000.size a := fun arg18 v361 k1_hw19 k1_h1 => k1_hw19 k1_h1

def k1_chk20 (arg18 : BitVec 32) (v389 : IVec S16 32) : Prop :=
  (∀ (k1_h1 : k1_cond1 arg18 = 1#1), ∀ a x, ((![v389] : Fin 1 → IVec S16 32) a x).toNat < S50000.size a)
theorem k1_idx19_inb : ∀ (arg18 : BitVec 32) (v389 : IVec S16 32) (k1_hw20 : k1_chk20 arg18 v389), ∀ (k1_h1 : k1_cond1 arg18 = 1#1), ∀ a x, ((![v389] : Fin 1 → IVec S16 32) a x).toNat < S50000.size a := fun arg18 v389 k1_hw20 k1_h1 => k1_hw20 k1_h1

def k1_chk21 (arg18 : BitVec 32) (v417 : IVec S16 32) : Prop :=
  (∀ (k1_h1 : k1_cond1 arg18 = 1#1), ∀ a x, ((![v417] : Fin 1 → IVec S16 32) a x).toNat < S50000.size a)
theorem k1_idx20_inb : ∀ (arg18 : BitVec 32) (v417 : IVec S16 32) (k1_hw21 : k1_chk21 arg18 v417), ∀ (k1_h1 : k1_cond1 arg18 = 1#1), ∀ a x, ((![v417] : Fin 1 → IVec S16 32) a x).toNat < S50000.size a := fun arg18 v417 k1_hw21 k1_h1 => k1_hw21 k1_h1

def k1_chk22 (arg18 : BitVec 32) (v445 : IVec S16 32) : Prop :=
  (∀ (k1_h1 : k1_cond1 arg18 = 1#1), ∀ a x, ((![v445] : Fin 1 → IVec S16 32) a x).toNat < S50000.size a)
theorem k1_idx21_inb : ∀ (arg18 : BitVec 32) (v445 : IVec S16 32) (k1_hw22 : k1_chk22 arg18 v445), ∀ (k1_h1 : k1_cond1 arg18 = 1#1), ∀ a x, ((![v445] : Fin 1 → IVec S16 32) a x).toNat < S50000.size a := fun arg18 v445 k1_hw22 k1_h1 => k1_hw22 k1_h1

def k1_chk23 (arg18 : BitVec 32) (v473 : IVec S16 32) : Prop :=
  (∀ (k1_h1 : k1_cond1 arg18 = 1#1), ∀ a x, ((![v473] : Fin 1 → IVec S16 32) a x).toNat < S50000.size a)
theorem k1_idx22_inb : ∀ (arg18 : BitVec 32) (v473 : IVec S16 32) (k1_hw23 : k1_chk23 arg18 v473), ∀ (k1_h1 : k1_cond1 arg18 = 1#1), ∀ a x, ((![v473] : Fin 1 → IVec S16 32) a x).toNat < S50000.size a := fun arg18 v473 k1_hw23 k1_h1 => k1_hw23 k1_h1

def k1_chk24 (arg18 : BitVec 32) (v501 : IVec S16 32) : Prop :=
  (∀ (k1_h1 : k1_cond1 arg18 = 1#1), ∀ a x, ((![v501] : Fin 1 → IVec S16 32) a x).toNat < S50000.size a)
theorem k1_idx23_inb : ∀ (arg18 : BitVec 32) (v501 : IVec S16 32) (k1_hw24 : k1_chk24 arg18 v501), ∀ (k1_h1 : k1_cond1 arg18 = 1#1), ∀ a x, ((![v501] : Fin 1 → IVec S16 32) a x).toNat < S50000.size a := fun arg18 v501 k1_hw24 k1_h1 => k1_hw24 k1_h1
@[reducible] def k1_t3_loop : Scf.Loop 32 :=
  let c0_i32_169 : BitVec 32 := 0#32
  let c96_i32 : BitVec 32 := 96#32
  let v527 : BitVec 32 := Scalar.addi c0_i32_169 c96_i32
  let c1_i32_170 : BitVec 32 := 1#32
  ⟨c0_i32_169, v527, c1_i32_170⟩

def k1_chk25 (arg18 : BitVec 32) (v537 : IVec S16 32) : Prop :=
  (∀ (k1_h1 : k1_cond1 arg18 = 1#1), ∀ a x, ((![v537] : Fin 1 → IVec S16 32) a x).toNat < S96.size a)
theorem k1_idx24_inb : ∀ (arg18 : BitVec 32) (v537 : IVec S16 32) (k1_hw25 : k1_chk25 arg18 v537), ∀ (k1_h1 : k1_cond1 arg18 = 1#1), ∀ a x, ((![v537] : Fin 1 → IVec S16 32) a x).toNat < S96.size a := fun arg18 v537 k1_hw25 k1_h1 => k1_hw25 k1_h1
def k1_off3 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v539 : Index := Scalar.indexCast arg53
  let c0_174 : Index := 0#32
  ![v539.toNat, 0]
def k1_off4 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v543 : Index := Scalar.indexCast arg53
  let c16_175 : Index := 16#32
  ![v543.toNat, 16]
def k1_off5 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v547 : Index := Scalar.indexCast arg53
  let c32_176 : Index := 32#32
  ![v547.toNat, 32]
def k1_off6 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v551 : Index := Scalar.indexCast arg53
  let c48_177 : Index := 48#32
  ![v551.toNat, 48]
def k1_off7 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v555 : Index := Scalar.indexCast arg53
  let c64_178 : Index := 64#32
  ![v555.toNat, 64]
def k1_off8 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v559 : Index := Scalar.indexCast arg53
  let c80_179 : Index := 80#32
  ![v559.toNat, 80]
def k1_off9 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v563 : Index := Scalar.indexCast arg53
  let c96_180 : Index := 96#32
  ![v563.toNat, 96]
def k1_off10 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v567 : Index := Scalar.indexCast arg53
  let c112_181 : Index := 112#32
  ![v567.toNat, 112]
def k1_off11 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v571 : Index := Scalar.indexCast arg53
  let c128_182 : Index := 128#32
  ![v571.toNat, 128]
def k1_off12 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v575 : Index := Scalar.indexCast arg53
  let c144_183 : Index := 144#32
  ![v575.toNat, 144]
def k1_off13 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v579 : Index := Scalar.indexCast arg53
  let c160_184 : Index := 160#32
  ![v579.toNat, 160]
def k1_off14 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v583 : Index := Scalar.indexCast arg53
  let c176_185 : Index := 176#32
  ![v583.toNat, 176]
def k1_off15 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v587 : Index := Scalar.indexCast arg53
  let c192_186 : Index := 192#32
  ![v587.toNat, 192]
def k1_off16 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v591 : Index := Scalar.indexCast arg53
  let c208_187 : Index := 208#32
  ![v591.toNat, 208]
def k1_off17 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v595 : Index := Scalar.indexCast arg53
  let c224_188 : Index := 224#32
  ![v595.toNat, 224]
def k1_off18 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v599 : Index := Scalar.indexCast arg53
  let c240_189 : Index := 240#32
  ![v599.toNat, 240]
def k1_off19 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v603 : Index := Scalar.indexCast arg53
  let c256_190 : Index := 256#32
  ![v603.toNat, 256]
def k1_off20 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v607 : Index := Scalar.indexCast arg53
  let c272_191 : Index := 272#32
  ![v607.toNat, 272]
def k1_off21 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v611 : Index := Scalar.indexCast arg53
  let c288_192 : Index := 288#32
  ![v611.toNat, 288]
def k1_off22 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v615 : Index := Scalar.indexCast arg53
  let c304_193 : Index := 304#32
  ![v615.toNat, 304]
def k1_off23 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v619 : Index := Scalar.indexCast arg53
  let c320_194 : Index := 320#32
  ![v619.toNat, 320]
def k1_off24 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v623 : Index := Scalar.indexCast arg53
  let c336_195 : Index := 336#32
  ![v623.toNat, 336]
def k1_off25 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v627 : Index := Scalar.indexCast arg53
  let c352_196 : Index := 352#32
  ![v627.toNat, 352]
def k1_off26 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v631 : Index := Scalar.indexCast arg53
  let c368_197 : Index := 368#32
  ![v631.toNat, 368]
def k1_off27 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v635 : Index := Scalar.indexCast arg53
  let c384_198 : Index := 384#32
  ![v635.toNat, 384]
def k1_off28 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v639 : Index := Scalar.indexCast arg53
  let c400_199 : Index := 400#32
  ![v639.toNat, 400]
def k1_off29 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v643 : Index := Scalar.indexCast arg53
  let c416_200 : Index := 416#32
  ![v643.toNat, 416]
def k1_off30 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v647 : Index := Scalar.indexCast arg53
  let c432_201 : Index := 432#32
  ![v647.toNat, 432]
def k1_off31 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v651 : Index := Scalar.indexCast arg53
  let c448_202 : Index := 448#32
  ![v651.toNat, 448]
def k1_off32 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v655 : Index := Scalar.indexCast arg53
  let c464_203 : Index := 464#32
  ![v655.toNat, 464]
def k1_off33 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v659 : Index := Scalar.indexCast arg53
  let c480_204 : Index := 480#32
  ![v659.toNat, 480]
def k1_off34 (k1_t3 : Fin k1_t3_loop.trips) : Fin 2 → Nat :=
  let c0_i32_169 : BitVec 32 := 0#32
  let c1_i32_170 : BitVec 32 := 1#32
  let arg53 : BitVec 32 := Scf.iv c0_i32_169 c1_i32_170 k1_t3
  let v663 : Index := Scalar.indexCast arg53
  let c496_205 : Index := 496#32
  ![v663.toNat, 496]
def k1_off35 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v268 : Index := Scalar.indexCast arg15
  let c0 : Index := 0#32
  ![v268.toNat, 0]
def k1_off36 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v270 : Index := Scalar.indexCast arg15
  let c16 : Index := 16#32
  ![v270.toNat, 16]
def k1_off37 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v272 : Index := Scalar.indexCast arg15
  let c32 : Index := 32#32
  ![v272.toNat, 32]
def k1_off38 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v274 : Index := Scalar.indexCast arg15
  let c48 : Index := 48#32
  ![v274.toNat, 48]
def k1_off39 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v276 : Index := Scalar.indexCast arg15
  let c64 : Index := 64#32
  ![v276.toNat, 64]
def k1_off40 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v278 : Index := Scalar.indexCast arg15
  let c80 : Index := 80#32
  ![v278.toNat, 80]
def k1_off41 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v280 : Index := Scalar.indexCast arg15
  let c96 : Index := 96#32
  ![v280.toNat, 96]
def k1_off42 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v282 : Index := Scalar.indexCast arg15
  let c112 : Index := 112#32
  ![v282.toNat, 112]
def k1_off43 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v284 : Index := Scalar.indexCast arg15
  let c128 : Index := 128#32
  ![v284.toNat, 128]
def k1_off44 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v286 : Index := Scalar.indexCast arg15
  let c144 : Index := 144#32
  ![v286.toNat, 144]
def k1_off45 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v288 : Index := Scalar.indexCast arg15
  let c160 : Index := 160#32
  ![v288.toNat, 160]
def k1_off46 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v290 : Index := Scalar.indexCast arg15
  let c176 : Index := 176#32
  ![v290.toNat, 176]
def k1_off47 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v292 : Index := Scalar.indexCast arg15
  let c192 : Index := 192#32
  ![v292.toNat, 192]
def k1_off48 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v294 : Index := Scalar.indexCast arg15
  let c208 : Index := 208#32
  ![v294.toNat, 208]
def k1_off49 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v296 : Index := Scalar.indexCast arg15
  let c224 : Index := 224#32
  ![v296.toNat, 224]
def k1_off50 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v298 : Index := Scalar.indexCast arg15
  let c240 : Index := 240#32
  ![v298.toNat, 240]
def k1_off51 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v300 : Index := Scalar.indexCast arg15
  let c256 : Index := 256#32
  ![v300.toNat, 256]
def k1_off52 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v302 : Index := Scalar.indexCast arg15
  let c272 : Index := 272#32
  ![v302.toNat, 272]
def k1_off53 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v304 : Index := Scalar.indexCast arg15
  let c288 : Index := 288#32
  ![v304.toNat, 288]
def k1_off54 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v306 : Index := Scalar.indexCast arg15
  let c304 : Index := 304#32
  ![v306.toNat, 304]
def k1_off55 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v308 : Index := Scalar.indexCast arg15
  let c320 : Index := 320#32
  ![v308.toNat, 320]
def k1_off56 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v310 : Index := Scalar.indexCast arg15
  let c336 : Index := 336#32
  ![v310.toNat, 336]
def k1_off57 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v312 : Index := Scalar.indexCast arg15
  let c352 : Index := 352#32
  ![v312.toNat, 352]
def k1_off58 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v314 : Index := Scalar.indexCast arg15
  let c368 : Index := 368#32
  ![v314.toNat, 368]
def k1_off59 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v316 : Index := Scalar.indexCast arg15
  let c384 : Index := 384#32
  ![v316.toNat, 384]
def k1_off60 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v318 : Index := Scalar.indexCast arg15
  let c400 : Index := 400#32
  ![v318.toNat, 400]
def k1_off61 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v320 : Index := Scalar.indexCast arg15
  let c416 : Index := 416#32
  ![v320.toNat, 416]
def k1_off62 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v322 : Index := Scalar.indexCast arg15
  let c432 : Index := 432#32
  ![v322.toNat, 432]
def k1_off63 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v324 : Index := Scalar.indexCast arg15
  let c448 : Index := 448#32
  ![v324.toNat, 448]
def k1_off64 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v326 : Index := Scalar.indexCast arg15
  let c464 : Index := 464#32
  ![v326.toNat, 464]
def k1_off65 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v328 : Index := Scalar.indexCast arg15
  let c480 : Index := 480#32
  ![v328.toNat, 480]
def k1_off66 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v330 : Index := Scalar.indexCast arg15
  let c496 : Index := 496#32
  ![v330.toNat, 496]
def k1_off67 (k1_t1 : Fin k1_t1_loop.trips) : Fin 2 → Nat :=
  let c0_i32_96 : BitVec 32 := 0#32
  let c1_i32_98 : BitVec 32 := 1#32
  let arg15 : BitVec 32 := Scf.iv c0_i32_96 c1_i32_98 k1_t1
  let v332 : Index := Scalar.indexCast arg15
  let c0_104 : Index := 0#32
  ![v332.toNat, 0]
def k1_off68 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_100_r4 : BitVec 32 := 0#32
  ![v2.toNat, 0]
def k1_off69 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_100_r5 : BitVec 32 := 0#32
  ![v2.toNat, 0]
abbrev grid2 : Pipeline.Grid := .none

abbrev stage2_0 : Fin 1 → Memref sig .tc .vmem S1024x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1000x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x512 : Shape := ⟨2, ![50000, 512]⟩
abbrev S1000x512 : Shape := ⟨2, ![1000, 512]⟩
abbrev S50000 : Shape := ⟨1, ![50000]⟩
abbrev S1024x1 : Shape := ⟨2, ![1024, 1]⟩
abbrev S1 : Shape := ⟨1, ![1]⟩
abbrev S512x512 : Shape := ⟨2, ![512, 512]⟩
abbrev S512 : Shape := ⟨1, ![512]⟩
abbrev S_ : Shape := ⟨0, ![]⟩
abbrev S50000x1 : Shape := ⟨2, ![50000, 1]⟩
abbrev S50000x1024 : Shape := ⟨2, ![50000, 1024]⟩
abbrev S1x1 : Shape := ⟨2, ![1, 1]⟩
abbrev S1x50000 : Shape := ⟨2, ![1, 50000]⟩
abbrev S1000 : Shape := ⟨1, ![1000]⟩
abbrev S1000x1 : Shape := ⟨2, ![1000, 1]⟩
abbrev S1000x50000 : Shape := ⟨2, ![1000, 50000]⟩
abbrev S1x512 : Shape := ⟨2, ![1, 512]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S1000x512, .f32⟩
  | .hbm, ⟨2, _⟩ => ⟨S50000, .i32⟩
  | .hbm, ⟨3, _⟩ => ⟨S1024x1, .f32⟩
  | .hbm, ⟨4, _⟩ => ⟨S1, .f32⟩
  | .hbm, ⟨5, _⟩ => ⟨S512x512, .f32⟩
  | .hbm, ⟨6, _⟩ => ⟨S512, .f32⟩
  | .hbm, ⟨7, _⟩ => ⟨S_, .f32⟩
  | .hbm, ⟨8, _⟩ => ⟨S1000x512, .f32⟩
  | .hbm, ⟨9, _⟩ => ⟨S1000x512, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x512, .f32⟩
  | .hbm, ⟨19, _⟩ => ⟨S50000x1024, .f32⟩
  | .hbm, ⟨20, _⟩ => ⟨S50000x1, .f32⟩
  | .hbm, ⟨21, _⟩ => ⟨S1x1, .f32⟩
  | .hbm, ⟨22, _⟩ => ⟨S50000x1, .f32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .i1⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x1, .f32⟩
  | .hbm, ⟨31, _⟩ => ⟨S1x50000, .i32⟩
  | .hbm, ⟨32, _⟩ => ⟨S1000, .i32⟩
  | .hbm, ⟨33, _⟩ => ⟨S1000x1, .i32⟩
  | .hbm, ⟨34, _⟩ => ⟨S1000x50000, .i32⟩
  | .hbm, ⟨35, _⟩ => ⟨S1000x50000, .i32⟩
  | .hbm, ⟨36, _⟩ => ⟨S1000x50000, .i1⟩
  | .hbm, ⟨37, _⟩ => ⟨S50000, .f32⟩
  | .hbm, ⟨38, _⟩ => ⟨S1x50000, .f32⟩
  | .hbm, ⟨39, _⟩ => ⟨S_, .f32⟩
  | .hbm, ⟨40, _⟩ => ⟨S_, .f32⟩
  | .hbm, ⟨41, _⟩ => ⟨S1000x50000, .f32⟩
  | .hbm, ⟨42, _⟩ => ⟨S1000x50000, .f32⟩
  | .hbm, ⟨43, _⟩ => ⟨S1000x50000, .f32⟩
  | .hbm, ⟨44, _⟩ => ⟨S_, .f32⟩
  | .hbm, ⟨45, _⟩ => ⟨S1000, .f32⟩
  | .hbm, ⟨46, _⟩ => ⟨S1000x1, .f32⟩
  | .hbm, ⟨47, _⟩ => ⟨S_, .f32⟩
  | .hbm, ⟨48, _⟩ => ⟨S1000x1, .f32⟩
  | .hbm, ⟨49, _⟩ => ⟨S1000x1, .i1⟩
  | .hbm, ⟨50, _⟩ => ⟨S_, .f32⟩
  | .hbm, ⟨51, _⟩ => ⟨S_, .f32⟩
  | .hbm, ⟨52, _⟩ => ⟨S1000x1, .f32⟩
  | .hbm, ⟨53, _⟩ => ⟨S1000x1, .f32⟩
  | .hbm, ⟨54, _⟩ => ⟨S_, .i32⟩
  | .hbm, ⟨55, _⟩ => ⟨S50000, .i32⟩
  | .hbm, ⟨56, _⟩ => ⟨S50000, .i1⟩
  | .hbm, ⟨57, _⟩ => ⟨S_, .i32⟩
  | .hbm, ⟨58, _⟩ => ⟨S50000, .i32⟩
  | .hbm, ⟨59, _⟩ => ⟨S50000, .i32⟩
  | .hbm, ⟨60, _⟩ => ⟨S50000, .i32⟩
  | .hbm, ⟨61, _⟩ => ⟨S50000x1, .i32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S_, .f32⟩
  | .hbm, ⟨66, _⟩ => ⟨S1000x1, .f32⟩
  | .hbm, ⟨67, _⟩ => ⟨S50000x1, .i32⟩
  | .hbm, ⟨68, _⟩ => ⟨S1000x1, .f32⟩
  | .hbm, ⟨69, _⟩ => ⟨S_, .i32⟩
  | .hbm, ⟨70, _⟩ => ⟨S50000, .i32⟩
  | .hbm, ⟨71, _⟩ => ⟨S50000, .i1⟩
  | .hbm, ⟨72, _⟩ => ⟨S_, .i32⟩
  | .hbm, ⟨73, _⟩ => ⟨S50000, .i32⟩
  | .hbm, ⟨74, _⟩ => ⟨S50000, .i32⟩
  | .hbm, ⟨75, _⟩ => ⟨S50000, .i32⟩
  | .hbm, ⟨76, _⟩ => ⟨S50000x1, .i32⟩
  | .hbm, ⟨77, _⟩ => ⟨S50000x1, .f32⟩
  | .hbm, ⟨78, _⟩ => ⟨S50000x1, .f32⟩
  | .hbm, ⟨79, _⟩ => ⟨S50000x512, .f32⟩
  | .hbm, ⟨80, _⟩ => ⟨S1x512, .f32⟩
  | .hbm, ⟨81, _⟩ => ⟨S50000x512, .f32⟩
  | .hbm, ⟨82, _⟩ => ⟨S50000x512, .f32⟩
  | .hbm, ⟨83, _⟩ => ⟨S50000x512, .f32⟩
  | .hbm, ⟨84, _⟩ => ⟨S50000x512, .f32⟩
  | .hbm, ⟨85, _⟩ => ⟨S_, .f32⟩
  | .hbm, ⟨86, _⟩ => ⟨S1000x512, .f32⟩
  | .hbm, ⟨87, _⟩ => ⟨S50000x1, .i32⟩
  | .hbm, ⟨88, _⟩ => ⟨S1000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Proof.Setup.lean ====
/-  The kernel's names as the proof uses them: the program as the launch theorem sees it, the resource algebra,
    the memrefs the SparseCore body runs on, and the body's loops at them. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI Idealize.SL.Sem
open Idealize.ShloMosaic.Rounds

variable {F : FTy → Type}

/-! ## The program as the launch theorem sees it -/

/-- The labels, with the pipelines'. -/
abbrev ΛP : Labels := Pipeline.Sig Λ₀ (Fin 2) fun p => (pcfgs (F := F) p).Adm
/-- The SparseCore call. -/
abbrev K : SparseCore.Cfg τ sig (ΛP (F := F)) 1 := sc (F := F)
/-- It runs on sixteen tiles -/
theorem nSub_zero : (K (F := F)).nSub 0 = 16 := rfl
/-- of each of two cores. -/
theorem nCore_zero : (K (F := F)).nCore 0 = 2 := rfl
/-- The program's definitions. -/
abbrev D [FloatOps F] : Defs nD τ sig (Elt F) (ΛP (F := F)) := Pipeline.defs pcfgs defs₀
/-- No loop needs a variant, -/
abbrev 𝒱₀ : Variants := Variants.none
/-- with the pipelines' or without. -/
abbrev 𝒱 : Variants := 𝒱₀.lift
/-- The variant of nothing. -/
abbrev v₀ : 𝒱.V := Sum.inl none

/-- The call's semaphores are distinct and not scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

/-- The handshakes' rounds; -/
abbrev UH : Type := URounds (GSem nD τ sig) ℕ
/-- the pipelines' rounds; -/
abbrev UP : Type := URounds (GSem nD τ sig) Unit
/-- both, and the transfers' counters. -/
abbrev UU : Type := UH × UP × Counters

/-! ## The memrefs the SparseCore body runs on -/

/-- The rows' features; -/
abbrev xV : Memref sig .scVector .hbm S50000x512 .f32 := Memref.whole main_arg0_scv
/-- the ids; -/
abbrev iV : Memref sig .scVector .hbm S50000 .i32 := Memref.whole main_arg2_scv
/-- the rows' scores; -/
abbrev tV : Memref sig .scVector .hbm S50000 .f32 := Memref.whole main_v4_scv
/-- the graphs' scores; -/
abbrev sV : Memref sig .scVector .hbm S1024 .f32 := Memref.whole main_v5_scv
/-- the sums; -/
abbrev uV : Memref sig .scVector .hbm S1024x512 .f32 := Memref.whole main_v6_0_scv
/-- the denominators; -/
abbrev dV : Memref sig .scVector .hbm S1024x16 .f32 := Memref.whole main_v6_1_scv
/-- the tile's copy of the ids; -/
abbrev bI : Memref sig .scVector .vmem S50000 .i32 := Memref.whole cc1_scratch0
/-- of a block of rows' scores; -/
abbrev bT : Memref sig .scVector .vmem S96 .f32 := Memref.whole cc1_scratch1
/-- of the graphs' scores; -/
abbrev bS : Memref sig .scVector .vmem S1024 .f32 := Memref.whole cc1_scratch2
/-- of a block of rows' features; -/
abbrev bX : Memref sig .scVector .vmem S96x512 .f32 := Memref.whole cc1_scratch3
/-- the block's weights; -/
abbrev bE : Memref sig .scVector .vmem S96 .f32 := Memref.whole cc1_scratch4
/-- the tile's sums; -/
abbrev bU : Memref sig .scVector .vmem S32x512 .f32 := Memref.whole cc1_scratch5
/-- the tile's denominators. -/
abbrev bD : Memref sig .scVector .vmem S32x16 .f32 := Memref.whole cc1_scratch6

/-- The tile's core -/
abbrev cV (L : grid1.Coords) : Fin τ.nSC := (L 0).castLE hcore1
/-- and its number there. -/
abbrev jV (L : grid1.Coords) : Fin τ.nSub := (L 1).castLE hsub1

end Cert.Proof.Pool

end
-- ==== Proof.Words.lean ====
/-  The 32-bit words of the SparseCore body, read as natural numbers: the block a pointer names, the lanes of a
    group, the number of lanes a mask sets, the probes of the search. -/
module

public import proofs.«01_k».proof.Proof.Setup

@[expose] public section

noncomputable section

namespace Cert.Proof.Pool

open Cert.KernelIdeal Cert.KernelIdeal.Gen
open Idealize.ShloMosaic

/-- A natural number as a 32-bit word. -/
abbrev W (n : ℕ) : BitVec 32 := BitVec.ofNat 32 n

/-- A small number's word as a natural number -/
theorem W_toNat {n : ℕ} (h : n < 2 ^ 31) : (W n).toNat = n := by rw [BitVec.toNat_ofNat]; omega
/-- and as an integer. -/
theorem W_toInt {n : ℕ} (h : n < 2 ^ 31) : (W n).toInt = n := by
  rw [BitVec.toInt_eq_toNat_of_lt (by rw [W_toNat h]; omega), W_toNat h]
/-- Small numbers with the same word are the same. -/
theorem W_inj {m n : ℕ} (hm : m < 2 ^ 31) (hn : n < 2 ^ 31) : W m = W n ↔ m = n := by
  rw [← BitVec.toNat_inj, W_toNat hm, W_toNat hn]
/-- A word is the word of its number. -/
theorem W_of_toNat {x : BitVec 32} {n : ℕ} (h : x.toNat = n) : x = W n := by
  subst h; apply BitVec.eq_of_toNat_eq; rw [BitVec.toNat_ofNat, Nat.mod_eq_of_lt x.isLt]

/-- Words add as numbers do, -/
theorem addi_W {m n : ℕ} : Scalar.addi (W m) (W n) = W (m + n) := by
  show W m + W n = W (m + n)
  exact (BitVec.ofNat_add m n).symm

/-- subtract, -/
theorem subi_W {m n : ℕ} (h : n ≤ m) (hm : m < 2 ^ 31) : Scalar.subi (W m) (W n) = W (m - n) := by
  show W m - W n = W (m - n)
  apply BitVec.eq_of_toNat_eq
  rw [BitVec.toNat_sub, W_toNat hm, W_toNat (by omega), W_toNat (by omega)]
  omega

/-- divide, -/
theorem divsi_W {m n : ℕ} (hm : m < 2 ^ 31) (hn : n < 2 ^ 31) (h0 : 0 < n) : Scalar.divsi (W m) (W n) = W (m / n) := by
  have hc : ¬IntOp.SDivCorner (W m) (W n) := IntOp.not_corner_of_pos (by rw [W_toInt hn]; omega)
  have hmm : (W m).msb = false := by rw [BitVec.msb_eq_false_iff_two_mul_lt, W_toNat hm]; omega
  have hmn : (W n).msb = false := by rw [BitVec.msb_eq_false_iff_two_mul_lt, W_toNat hn]; omega
  rw [Scalar.divsi, IntOp.divsi, if_neg hc, BitVec.sdiv_eq, hmm, hmn]
  apply BitVec.eq_of_toNat_eq
  show (W m / W n).toNat = _
  rw [BitVec.toNat_udiv, W_toNat hm, W_toNat hn, W_toNat (lt_of_le_of_lt (Nat.div_le_self _ _) hm)]

/-- multiply -/
theorem muli_W {m n : ℕ} : Scalar.muli (W m) (W n) = W (m * n) := by
  show W m * W n = W (m * n)
  exact (BitVec.ofNat_mul m n).symm

/-- and have the least of two as numbers do. -/
theorem minsi_W {m n : ℕ} (hm : m < 2 ^ 31) (hn : n < 2 ^ 31) : Scalar.minsi (W m) (W n) = W (min m n) := by
  show (if (W m).slt (W n) then W m else W n) = _
  have : (W m).slt (W n) = decide (m < n) := by
    rw [Bool.eq_iff_iff, BitVec.slt_iff_toInt_lt, W_toInt hm, W_toInt hn, decide_eq_true_iff]; omega
  rw [this]
  by_cases h : m < n
  · rw [if_pos (by simpa using h), Nat.min_eq_left h.le]
  · rw [if_neg (by simpa using h), Nat.min_eq_right (by omega)]

/-- A condition as a bit. -/
abbrev bit (p : Prop) [Decidable p] : BitVec 1 := BitVec.ofBool (decide p)

/-- A condition's bit is one where the condition holds. -/
theorem bit_eq_one {p : Prop} [Decidable p] : bit p = 1#1 ↔ p := by
  by_cases h : p <;> simp [bit, h]

/-- A bit that is one where a condition holds is the condition's. -/
theorem eq_bit {c : BitVec 1} {p : Prop} [Decidable p] (h : c = 1#1 ↔ p) : c = bit p := by
  by_cases hp : p
  · rw [h.2 hp, bit_eq_one.2 hp]
  · have hc : ¬c = 1#1 := fun hh => hp (h.1 hh)
    have hb : ¬bit p = 1#1 := fun hh => hp (bit_eq_one.1 hh)
    generalize bit p = b at hb ⊢; clear h; revert b c; decide

/-- Words compare as numbers do: equal, -/
theorem cmpi_eq_W {m n : ℕ} (hm : m < 2 ^ 31) (hn : n < 2 ^ 31) : Scalar.cmpi .eq (W m) (W n) = bit (m = n) :=
  eq_bit (IntOp.cmpi_eq.trans (W_inj hm hn))
/-- greater, -/
theorem cmpi_sgt_W {m n : ℕ} (hm : m < 2 ^ 31) (hn : n < 2 ^ 31) : Scalar.cmpi .sgt (W m) (W n) = bit (n < m) :=
  eq_bit (IntOp.cmpi_sgt.trans (by rw [W_toInt hm, W_toInt hn]; omega))
/-- less -/
theorem cmpi_slt_W {m n : ℕ} (hm : m < 2 ^ 31) (hn : n < 2 ^ 31) : Scalar.cmpi .slt (W m) (W n) = bit (m < n) :=
  eq_bit (IntOp.cmpi_slt.trans (by rw [W_toInt hm, W_toInt hn]; omega))
/-- and at most. -/
theorem cmpi_sle_W {m n : ℕ} (hm : m < 2 ^ 31) (hn : n < 2 ^ 31) : Scalar.cmpi .sle (W m) (W n) = bit (m ≤ n) :=
  eq_bit (IntOp.cmpi_sle.trans (by rw [W_toInt hm, W_toInt hn]; omega))

/-! ## The block a pointer names -/

/-- The first row of the block the pointer `n` reads: `n` rounded down to a multiple of eight, kept 96 rows short of the end. -/
def blk (n : ℕ) : ℕ := min (n / 8 * 8) 49904

/-- The block's first row is at most 96 short of the end. -/
theorem blk_le (n : ℕ) : blk n ≤ 49904 := Nat.min_le_right _ _
/-- The block's first row is a multiple of eight. -/
theorem blk_dvd (n : ℕ) : 8 ∣ blk n := by unfold blk; omega

/-- The block's first row, as the body computes it. -/
theorem mult_eq {n : ℕ} (h : n ≤ 50000) : k1_mult1 (W n) = W (blk n) := by
  have e8 : (8#32 : BitVec 32) = W 8 := rfl
  have e0 : (0#32 : BitVec 32) = W 0 := rfl
  have e9 : (49904#32 : BitVec 32) = W 49904 := rfl
  have hsel : ∀ x y : BitVec 32, Scalar.select (Scalar.andi (Scalar.cmpi .ne
      (Scalar.subi (Scalar.extui (Scalar.cmpi .sgt (W n) 0#32)) (Scalar.extui (Scalar.cmpi .slt (W n) 0#32)))
      (Scalar.subi (Scalar.extui (Scalar.cmpi .sgt 8#32 0#32)) (Scalar.extui (Scalar.cmpi .slt 8#32 0#32))))
      (Scalar.cmpi .ne (Scalar.remsi (W n) 8#32) 0#32)) x y = y := by
    intro x y
    rcases Nat.eq_zero_or_pos n with rfl | h0
    · have hz : Scalar.andi (Scalar.cmpi .ne
        (Scalar.subi (Scalar.extui (Scalar.cmpi .sgt (W 0) 0#32)) (Scalar.extui (Scalar.cmpi .slt (W 0) 0#32)))
        (Scalar.subi (Scalar.extui (Scalar.cmpi .sgt 8#32 0#32)) (Scalar.extui (Scalar.cmpi .slt 8#32 0#32))))
        (Scalar.cmpi .ne (Scalar.remsi (W 0) 8#32) 0#32) = (0#1 : BitVec 1) := by decide
      rw [hz]; exact ValueIdx.select_zero _ _
    · rw [show Scalar.cmpi .sgt (W n) 0#32 = 1#1 from (cmpi_sgt_W (n := 0) (by omega) (by omega)).trans (bit_eq_one.2 h0),
        show Scalar.cmpi .slt (W n) 0#32 = 0#1 from (cmpi_slt_W (n := 0) (by omega) (by omega)).trans (by simp [bit])]
      have hz : Scalar.cmpi .ne (Scalar.subi (Scalar.extui (1#1 : BitVec 1)) (Scalar.extui (0#1 : BitVec 1)))
        (Scalar.subi (Scalar.extui (Scalar.cmpi .sgt 8#32 0#32)) (Scalar.extui (Scalar.cmpi .slt 8#32 0#32))) = (0#1 : BitVec 1) := by decide
      rw [hz]
      have : ∀ c : BitVec 1, Scalar.andi (0#1) c = 0#1 := by decide
      rw [this]; exact ValueIdx.select_zero _ _
  show Scalar.minsi (Scalar.muli (Scalar.select (Scalar.andi (Scalar.cmpi .ne
      (Scalar.subi (Scalar.extui (Scalar.cmpi .sgt (W n) 0#32)) (Scalar.extui (Scalar.cmpi .slt (W n) 0#32)))
      (Scalar.subi (Scalar.extui (Scalar.cmpi .sgt 8#32 0#32)) (Scalar.extui (Scalar.cmpi .slt 8#32 0#32))))
      (Scalar.cmpi .ne (Scalar.remsi (W n) 8#32) 0#32)) _ (Scalar.divsi (W n) 8#32)) 8#32) 49904#32 = _
  rw [hsel, e8, e9, divsi_W (by omega) (by omega) (by omega), muli_W, minsi_W (by omega) (by omega)]
  rfl

/-- Where the rows' copy starts. -/
theorem off1_eq {n : ℕ} (h : n ≤ 50000) : k1_off1 (W n) = ![blk n, 0] := by
  show ![(k1_mult1 (W n)).toNat, 0] = _
  rw [mult_eq h, W_toNat (by have := blk_le n; omega)]
/-- Where the scores' copy starts. -/
theorem off2_eq {n : ℕ} (h : n ≤ 50000) : k1_off2 (W n) = ![blk n] := by
  show ![(k1_mult1 (W n)).toNat] = _
  rw [mult_eq h, W_toNat (by have := blk_le n; omega)]

/-- The copies' bounds hold. -/
theorem chk18 (f : BitVec 32) {n : ℕ} (h : n ≤ 50000) : k1_chk18 f (W n) := by
  have hb := blk_le n
  refine ⟨fun _ => ?_, fun _ a => ?_, fun _ a => ?_⟩
  · rw [mult_eq h, W_toNat (by omega)]; exact blk_dvd n
  · rw [off1_eq h]
    match a with
    | 0 => show blk n + 96 ≤ 50000; omega
    | 1 => show 0 + 512 ≤ 512; omega
  · rw [off2_eq h]
    match a with
    | 0 => show blk n + 96 ≤ 50000; omega

/-! ## The lanes of a group -/

/-- The lane numbers. -/
abbrev lanes : IVec S16 32 := iota .scVector S16 32 [0] iota_S16_d0_w32_scVector

/-- The number of a lane. -/
theorem lanes_apply (x : S16.Idx) : lanes x = W (x 0).val := by
  show BitVec.ofNat 32 (0 * 16 + (x 0).val) = _
  rw [Nat.zero_mul, Nat.zero_add]

/-- The row numbers of sixteen rows from `n` on. -/
def rowIx (n : ℕ) : IVec S16 32 := addi (broadcast S16 (W n)) lanes

/-- The row number at a lane. -/
theorem rowIx_apply (n : ℕ) (x : S16.Idx) : rowIx n x = W (n + (x 0).val) := by
  show Scalar.addi (W n) (lanes x) = _
  rw [lanes_apply, addi_W]

/-! ## The number of lanes a mask sets -/

/-- Adding up ones and zeros counts the ones. -/
theorem foldl_count {α : Type} (l : List α) (f : α → BitVec 32) (p : α → Prop) [DecidablePred p]
    (hf : ∀ a ∈ l, f a = W (if p a then 1 else 0)) (n : ℕ) :
    l.foldl (fun r k => ScanKind.step .sum r (f k)) (W n) = W (n + (l.map fun a => if p a then 1 else 0).sum) := by
  induction l generalizing n with
  | nil => simp
  | cons a l ih =>
    rw [List.foldl_cons, show ScanKind.step .sum (W n) (f a) = W (n + if p a then 1 else 0) from by
      rw [hf a List.mem_cons_self]; exact addi_W, ih (fun b hb => hf b (List.mem_cons_of_mem _ hb)), List.map_cons, List.sum_cons]
    congr 1; omega

/-- Summing a mask's ones and zeros over the lanes counts the lanes it sets. -/
theorem count_eq (m : IVec S16 1) (p : Fin 16 → Prop) [DecidablePred p] (hm : ∀ l : Fin 16, m (ValueIdx.ix1 l) = bit (p l)) :
    extractAt ![15] (scan .sum (select m (broadcast S16 1#32) (broadcast S16 0#32))) inpos_S16_p15
      = W (∑ l : Fin 16, if p l then 1 else 0) := by
  have hf : ∀ l : Fin 16, select m (broadcast S16 1#32) (broadcast S16 0#32) (Shape.ofLane (d := ![16]) l) = W (if p l then 1 else 0) := by
    intro l
    have hl : (Shape.ofLane (d := ![16]) l : S16.Idx) = ValueIdx.ix1 l := funext fun a => by
      match a with
      | 0 => rfl
    rw [hl]
    show Scalar.select (m (ValueIdx.ix1 l)) 1#32 0#32 = _
    rw [hm l]
    by_cases h : p l
    · rw [bit_eq_one.2 h, if_pos h]; exact ValueIdx.select_one _ _
    · rw [if_neg h, show bit (p l) = 0#1 by simp [bit, h]]; exact ValueIdx.select_zero _ _
  show ((List.finRange 16).filter fun k => decide (0 < k.val ∧ k.val ≤ 15)).foldl
      (fun r k => ScanKind.step .sum r (select m (broadcast S16 1#32) (broadcast S16 0#32) (Shape.ofLane (d := ![16]) k)))
      (select m (broadcast S16 1#32) (broadcast S16 0#32) (Shape.ofLane (d := ![16]) (0 : Fin 16))) = _
  rw [hf 0]
  refine (foldl_count (α := Fin 16) _ (fun k => select m (broadcast S16 1#32) (broadcast S16 0#32) (Shape.ofLane (d := ![16]) k)) p (fun a _ => hf a) _).trans ?_
  rw [show ((List.finRange 16).filter fun k : Fin 16 => decide (0 < k.val ∧ k.val ≤ 15)) = [1, 2, 3, 4, 5, 6, 7, 8, 9, 10, 11, 12, 13, 14, 15] by decide]
  congr 1

/-! ## The largest word of a constant vector -/

/-- The largest of equal values is that value. -/
theorem foldl_const {α : Type} (l : List α) (f : α → BitVec 32) (c : BitVec 32) (hf : ∀ a ∈ l, f a = c) :
    l.foldl (fun r k => ScanKind.step .max r (f k)) c = c := by
  induction l with
  | nil => rfl
  | cons a l ih =>
    rw [List.foldl_cons, hf a List.mem_cons_self, show ScanKind.step .max c c = c from ite_self _]
    exact ih fun b hb => hf b (List.mem_cons_of_mem _ hb)

/-- The largest lane of a constant vector is the constant. -/
theorem max_const (v : IVec S16 32) (c : BitVec 32) (h : ∀ x, v x = c) :
    extractAt ![15] (xori (scan .max (xori v (broadcast S16 2147483648#32))) (broadcast S16 2147483648#32)) inpos_S16_p15 = c := by
  have hx : scan .max (xori v (broadcast S16 2147483648#32)) = fun _ => c ^^^ 2147483648#32 := funext fun i => by
    have hf : ∀ x, xori v (broadcast S16 2147483648#32) x = c ^^^ 2147483648#32 := fun x => by
      show v x ^^^ 2147483648#32 = _
      rw [h x]
    show List.foldl _ _ _ = _
    rw [hf]
    exact foldl_const _ (fun k => xori v (broadcast S16 2147483648#32) (Shape.ofLane (d := ![16]) k)) _ fun a _ => hf _
  rw [hx]
  show c ^^^ 2147483648#32 ^^^ 2147483648#32 = c
  rw [BitVec.xor_assoc, BitVec.xor_self, BitVec.xor_zero]

end Cert.Proof.Pool

end
-- ==== Proof.Model.lean ====
/-  What the SparseCore body computes, as plain functions of the buffers it reads: the row step of the weighted sum. -/
module

public import proofs.«01_k».proof.Proof.Words

@[expose] public section

noncomputable section

namespace Cert.Proof.Pool

open Cert.KernelIdeal Cert.KernelIdeal.Gen
open Idealize.ShloMosaic

variable {F : FTy → Type} [FloatOps F]

/-- Thirty-two lane vectors: the column chunks of one accumulated row. -/
abbrev Acc (F : FTy → Type) : Type := Fin 32 → FVec F S16 .f32

/-- The chunks as the tuple a loop carries. -/
abbrev tup (a : Acc F) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (a 0, a 1, a 2, a 3, a 4, a 5, a 6, a 7, a 8, a 9, a 10, a 11, a 12, a 13, a 14, a 15, a 16, a 17, a 18, a 19, a 20, a 21, a 22, a 23, a 24, a 25, a 26, a 27, a 28, a 29, a 30, a 31)

/-- Chunk `c` of row `k` of a 96-row block. -/
def chunk (xb : S96x512.Idx → F .f32) (k : Fin 96) (c : Fin 32) : FVec F S1x16 .f32 :=
  fun y => xb (ValueIdx.ix2 k ⟨16 * c.val + (y 1).val, by have := c.isLt; have : (y 1).val < 16 := (y 1).isLt; omega⟩)

/-- One row's contribution: each chunk gains the row's chunk times the row's weight. -/
def rowStep (xb : S96x512.Idx → F .f32) (ez : S96.Idx → F .f32) (k : Fin 96) (a : Acc F) : Acc F :=
  fun c => addf (a c) (mulf (shapeCast S16 (chunk xb k c) shapeCasts_S1x16_S16) (fun _ => ez (ValueIdx.ix1 k)))

/-- The first `n` rows' contributions. -/
def rows (xb : S96x512.Idx → F .f32) (ez : S96.Idx → F .f32) (a : Acc F) (n : ℕ) : Acc F :=
  Nat.rec a (fun k r => if h : k < 96 then rowStep xb ez ⟨k, h⟩ r else r) n

/-! ## One trip over a 96-row block -/

section Trip

variable (x : S50000x512.Idx → F .f32) (ids : S50000.Idx → BitVec 32) (t : S50000.Idx → F .f32) (gg : BitVec 32) (sv : Vec F S16 .f32)

/-- The 96 rows of `x` a pointer at `n` reads. -/
def block (n : ℕ) : S96x512.Idx → F .f32 :=
  fun y => x (ValueIdx.ix2 ⟨blk n + (y 0).val, by have := blk_le n; have : (y 0).val < 96 := (y 0).isLt; omega⟩ ⟨(y 1).val, (y 1).isLt⟩)

/-- The 96 entries of `t` it reads. -/
def tblock (n : ℕ) : S96.Idx → F .f32 :=
  fun y => t (ValueIdx.ix1 ⟨blk n + (y 0).val, by have := blk_le n; have : (y 0).val < 96 := (y 0).isLt; omega⟩)

/-- Row `j` of the block counts: it belongs to the graph and has not been counted before. -/
def Member (n : ℕ) (j : Fin 96) : Prop :=
  ids (ValueIdx.ix1 ⟨blk n + j.val, by have := blk_le n; omega⟩) = gg ∧ n ≤ blk n + j.val

/-- Whether a row of the block is counted can be decided. -/
instance (n : ℕ) (j : Fin 96) : Decidable (Member ids gg n j) := by unfold Member; infer_instance

/-- Row `l` of group `g`. -/
def row (g : Fin 6) (l : Fin 16) : Fin 96 := ⟨16 * g.val + l.val, by omega⟩

/-- A group's sixteen entries of the block of `t`. -/
def tvec (n : ℕ) (g : Fin 6) : Vec F S16 .f32 := fun l => tblock t n (ValueIdx.ix1 (row g (l 0)))

/-- A group's mask. -/
def mask (n : ℕ) (g : Fin 6) : IVec S16 1 := fun l => bit (Member ids gg n (row g (l 0)))

/-- A group's sixteen weights. -/
def ezg (n : ℕ) (g : Fin 6) : FVec F S16 .f32 := k1_pay33 sv (tvec t n g) (mask ids gg n g)

/-- The block's 96 weights. -/
def ezb (n : ℕ) : S96.Idx → F .f32 :=
  fun y => ezg ids t gg sv n ⟨(y 0).val / 16, by have : (y 0).val < 96 := (y 0).isLt; omega⟩ (ValueIdx.ix1 ⟨(y 0).val % 16, by omega⟩)

/-- The weights summed over the groups, lane by lane. -/
def dadd (n : ℕ) : FVec F S16 .f32 :=
  addf (addf (addf (addf (addf (addf (k1_pay66 (F := F)) (ezg ids t gg sv n 0)) (ezg ids t gg sv n 1)) (ezg ids t gg sv n 2)) (ezg ids t gg sv n 3))
    (ezg ids t gg sv n 4)) (ezg ids t gg sv n 5)

/-- How many of a group's rows count. -/
def cnt (n : ℕ) (g : Fin 6) : ℕ := ∑ l : Fin 16, if Member ids gg n (row g l) then 1 else 0

/-- How many of the block's rows count. -/
def hits (n : ℕ) : ℕ := 0 + cnt ids gg n 0 + cnt ids gg n 1 + cnt ids gg n 2 + cnt ids gg n 3 + cnt ids gg n 4 + cnt ids gg n 5

/-- What the block loop carries: whether it goes on, the pointer, the weights' sum, the accumulated row. -/
structure St (F : FTy → Type) where
  go : Bool
  ptr : ℕ
  d : FVec F S16 .f32
  a : Acc F

/-- One trip. -/
def trip (s : St F) : St F :=
  if s.go then
    ⟨decide (hits ids gg s.ptr = blk s.ptr + 96 - s.ptr ∧ 0 < blk s.ptr + 96 - s.ptr), s.ptr + hits ids gg s.ptr, addf s.d (dadd ids t gg sv s.ptr),
      rows (block x s.ptr) (ezb ids t gg sv s.ptr) s.a 96⟩
  else s

end Trip

end Cert.Proof.Pool

end
-- ==== Proof.Rows.lean ====
module

public import proofs.«01_k».proof.Proof.Model

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-- A gather from a buffer is a load of the whole buffer, then a selection of its entries. -/
theorem vectorLoadIdx_eq {nD : ℕ} {τ : Topo} {sig : RefSig} {Λ : Labels} {p : Proc τ} {s t : Shape} {e : EltTy} (base : Memref sig p.kind .vmem s e) (idxs : Fin s.rank → IVec t 32)
    (h : ∀ a x, (idxs a x).toNat < s.size a) (hl : base.view.Loads) :
    (SparseCore.vectorLoadIdx base idxs h hl : Prog (TpuEff nD τ sig (Elt F) Λ p) (Vec F t e))
      = (do let f ← Prog.lift (.load base (.whole s) (View.loadsAt_whole hl)); pure (loadIdx f idxs h)) := rfl

/-- The row loop's counter is its trip's number. -/
theorem row_word (k : Fin k1_t3_loop.trips) : (Scf.iv 0#32 1#32 k.val).toNat = k.val := by
  have hk : k.val < 96 := k.isLt
  simp only [Scf.iv]
  rw [show (0#32 + BitVec.ofNat 32 k.val * 1#32 : BitVec 32) = BitVec.ofNat 32 k.val by simp, BitVec.toNat_ofNat]
  omega

/-- A chunk's new value, as the body computes it from what it loads, is the row step's. -/
theorem rowStep_loaded (xb : S96x512.Idx → F .f32) (ez : S96.Idx → F .f32) (k : Fin k1_t3_loop.trips) (a : Acc F) (c : Fin 32) (off : Fin 2 → ℕ)
    (inb : ∀ a, off a + S1x16.size a ≤ S96x512.size a) (hoff : off = ![k.val, 16 * c.val])
    (h : ∀ a x, ((![broadcast S16 (Scf.iv 0#32 1#32 k.val)] : Fin 1 → IVec S16 32) a x).toNat < S96.size a) :
    rowStep xb ez k a c = addf (a c) (mulf (shapeCast S16 (View.readAt (Elt F) bX.view (Rect.unit (s := S96x512) off S1x16.size inb).toLoadRect xb) shapeCasts_S1x16_S16)
      (loadIdx (View.readAt (Elt F) bE.view (LoadRect.whole S96) ez) ![broadcast S16 (Scf.iv 0#32 1#32 k.val)] h)) := by
  subst hoff
  unfold rowStep
  congr 2
  · congr 1
    funext y
    show xb _ = xb _
    congr 1
    funext d
    match d with
    | 0 => exact Fin.ext (show k.val = k.val + 1 * (y 0).val by have : (y 0).val < 1 := (y 0).isLt; omega)
    | 1 => exact Fin.ext (show 16 * c.val + (y 1).val = 16 * c.val + 1 * (y 1).val by omega)
  · funext y
    show ez _ = ez _
    congr 1
    funext d
    match d with
    | 0 => exact Fin.ext (show k.val = 0 + 1 * (Scf.iv 0#32 1#32 k.val).toNat by rw [row_word]; omega)

/-- One trip of the row loop: the chunks it carries on are the row step's; both buffers come back as they were. -/
theorem rows_body (d : Dev nD) (L : grid1.Coords) (v3 : IVec S16 32) (v262 : BitVec 32) (v264 : Vec F S16 .f32) (a18 a19 : BitVec 32)
    (h18 : k1_chk18 a18 a19) (h1 : k1_cond1 a18 = 1#1) (b : Acc F) (xb : S96x512.Idx → F .f32) (ez : S96.Idx → F .f32) (k : Fin k1_t3_loop.trips) (a : Acc F) :
    (iprop(((bX).view.loc (V d (cV L) (jV L)) ↦{fullShare} xb) ∗ ((bE).view.loc (V d (cV L) (jV L)) ↦{fullShare} ez)) : sProp 𝕄)
    ⊢ wp frame (wpE (defs₀ (F := F)) 𝒱₀ (V d (cV L) (jV L)) none) Set.univ
        (k1_t3_body L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 v3 v262 v264 a18 a19
          (b 0) (b 1) (b 2) (b 3) (b 4) (b 5) (b 6) (b 7) (b 8) (b 9) (b 10) (b 11) (b 12) (b 13) (b 14) (b 15) (b 16) (b 17) (b 18) (b 19) (b 20) (b 21) (b 22) (b 23) (b 24) (b 25) (b 26) (b 27) (b 28) (b 29) (b 30) (b 31) h18 h1 k (tup a))
        fun r => iprop(⌜r = tup (rowStep xb ez k a)⌝ ∗ ((bX).view.loc (V d (cV L) (jV L)) ↦{fullShare} xb) ∗ ((bE).view.loc (V d (cV L) (jV L)) ↦{fullShare} ez)) := by
  unfold k1_t3_body
  rw [k1_part1_eq_skeleton, k1_part2_eq_skeleton, k1_part3_eq_skeleton]
  unfold k1_part1_skel k1_part2_skel k1_part3_skel
  conv => rhs; simp only [vectorLoadIdx_eq]
  iintro ⟨HX, HE⟩
  have hchk : k1_chk25 a18 (broadcast S16 (Scf.iv 0#32 1#32 k)) := by
    intro _ a x
    obtain rfl : a = 0 := Subsingleton.elim _ _
    show (Scf.iv 0#32 1#32 k.val).toNat < 96
    rw [row_word]; exact k.isLt
  sl_exec
  sl_step
  isplitr
  · ipureintro
    symm
    simp only [tup, Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals
      refine rowStep_loaded xb ez k a _ _ _ ?_ _
      simp only [k1_off3_eq, k1_off4_eq, k1_off5_eq, k1_off6_eq, k1_off7_eq, k1_off8_eq, k1_off9_eq, k1_off10_eq, k1_off11_eq, k1_off12_eq, k1_off13_eq, k1_off14_eq, k1_off15_eq, k1_off16_eq, k1_off17_eq, k1_off18_eq, k1_off19_eq, k1_off20_eq, k1_off21_eq, k1_off22_eq, k1_off23_eq, k1_off24_eq, k1_off25_eq, k1_off26_eq, k1_off27_eq, k1_off28_eq, k1_off29_eq, k1_off30_eq, k1_off31_eq, k1_off32_eq, k1_off33_eq, k1_off34_eq]
      rfl
  · isplitl [HX] <;> iassumption

end Cert.Proof.Pool

end
-- ==== Proof.Trip.lean ====
module

public import proofs.«01_k».proof.Proof.Rows

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-! ## Row numbers are in range -/

/-- The row numbers that a group reads the ids at are in range. -/
theorem rowIx_lt (n g : ℕ) (hg : g ≤ 80) : ∀ a x, ((![rowIx (blk n + g)] : Fin 1 → IVec S16 32) a x).toNat < S50000.size a := by
  intro a x
  obtain rfl : a = 0 := Subsingleton.elim _ _
  show (rowIx (blk n + g) x).toNat < 50000
  have := blk_le n
  have : (x 0).val < 16 := (x 0).isLt
  rw [rowIx_apply, W_toNat (by omega)]; omega

/-- Tuples of four with equal parts are equal. -/
theorem sig4 {A B C E : Type} {a a' : A} {b b' : B} {c c' : C} {e e' : E} (ha : a = a') (hb : b = b') (hc : c = c') (he : e = e') :
    (⟨a, b, c, e⟩ : Σ' (_ : A) (_ : B) (_ : C), E) = ⟨a', b', c', e'⟩ := by subst ha hb hc he; rfl

section Masks
variable (gg : BitVec 32) (t : S50000.Idx → F .f32) (ids : S50000.Idx → BitVec 32) (n : ℕ)

/-- Loading a group's sixteen entries of the block of `t`. -/
theorem tvec_loaded (g : Fin 6) (off : Fin 1 → ℕ) (inb : ∀ a, off a + S16.size a ≤ S96.size a) (hoff : off = ![16 * g.val]) :
    View.readAt (Elt F) bT.view (Rect.unit (s := S96) off S16.size inb).toLoadRect (tblock t n) = tvec t n g := by
  subst hoff
  funext y
  show tblock t n _ = tblock t n _
  refine congrArg _ (funext fun a => Fin.ext ?_)
  match a with
  | 0 => show 16 * g.val + 1 * (y 0).val = 16 * g.val + (y 0).val; omega

/-- A group's mask, as the body computes it from the ids it gathers. -/
theorem mask_loaded (hn : n ≤ 50000) (g : Fin 6) (v : IVec S16 32) (hv : v = rowIx (blk n + 16 * g.val)) (h : ∀ a x, ((![v] : Fin 1 → IVec S16 32) a x).toNat < S50000.size a) :
    andi (cmpi .eq (loadIdx (F := F) (e := .i32) (View.readAt (Elt F) bI.view (LoadRect.whole S50000) ids) ![v] h) (broadcast S16 gg)) (cmpi .sge v (broadcast S16 (W n)))
      = mask ids gg n g := by
  subst hv
  funext l
  have hl : (l 0).val < 16 := (l 0).isLt
  have hb := blk_le n
  refine eq_bit ?_
  show IntOp.andi _ _ = 1#1 ↔ _
  rw [IntOp.andi_eq_one]
  refine and_congr (IntOp.cmpi_eq.trans ?_) (IntOp.cmpi_sge.trans ?_)
  · show ids _ = gg ↔ ids _ = gg
    refine iff_of_eq (congrArg (fun i => ids i = gg) (funext fun a => Fin.ext ?_))
    match a with
    | 0 =>
      show 0 + 1 * (rowIx (blk n + 16 * g.val) l).toNat = blk n + (16 * g.val + (l 0).val)
      rw [rowIx_apply, W_toNat (by omega)]; omega
  · show (W n).toInt ≤ (rowIx (blk n + 16 * g.val) l).toInt ↔ n ≤ blk n + (16 * g.val + (l 0).val)
    rw [rowIx_apply, W_toInt (by omega), W_toInt (by omega)]; omega

end Masks

section Parts

variable (d : Dev nD) (L : grid1.Coords) (gg : BitVec 32) (sv : Vec F S16 .f32) (a18 : BitVec 32) (n : ℕ) (hn : n ≤ 50000)
  (h18 : k1_chk18 a18 (W n)) (h1 : k1_cond1 a18 = 1#1) (q q' : PosShare TreeShare)
  (x : S50000x512.Idx → F .f32) (t : S50000.Idx → F .f32) (ids : S50000.Idx → BitVec 32) (O : CellTallies nD τ sig (SparseCore.Cfg.HIx 1))

/-- The tile's thread. -/
local notation "thr" => V d (cV L) (jV L)

/-- A whole buffer overwritten holds what was written. -/
theorem pts_X (fx w g : S96x512.Idx → F .f32) (h : w = g) :
    (((bX).view.loc (V d (cV L) (jV L)) ↦{fullShare} View.write (Elt F) bX.view fx w Finset.univ : sProp 𝕄)
      ⊢ (bX).view.loc (V d (cV L) (jV L)) ↦{fullShare} g) := by
  subst h; exact Entails.of_eq (congrArg (fun f => ((bX).view.loc (V d (cV L) (jV L)) ↦{fullShare} f : sProp 𝕄)) (View.write_whole_univ _ _ _))
/-- A scratch's contents may be replaced by equal ones. -/
theorem pts_T (ft w g : S96.Idx → F .f32) (h : w = g) :
    (((bT).view.loc (V d (cV L) (jV L)) ↦{fullShare} View.write (Elt F) bT.view ft w Finset.univ : sProp 𝕄)
      ⊢ (bT).view.loc (V d (cV L) (jV L)) ↦{fullShare} g) := by
  subst h; exact Entails.of_eq (congrArg (fun f => ((bT).view.loc (V d (cV L) (jV L)) ↦{fullShare} f : sProp 𝕄)) (View.write_whole_univ _ _ _))

include hn in
/-- The block's copies, and the first group's entries and mask. -/
theorem part4_wp (fx : S96x512.Idx → F .f32) (ft : S96.Idx → F .f32) :
    (iprop(Transfers.MayWaits (V d (cV L) (jV L)) (none : SparseCore.Cfg.HIx 1) O
      ∗ ((xV).view.loc (V d (cV L) (jV L)) ↦{q} x) ∗ ((tV).view.loc (V d (cV L) (jV L)) ↦{q'} t)
      ∗ ((bI).view.loc (V d (cV L) (jV L)) ↦{fullShare} ids)
      ∗ ((bX).view.loc (V d (cV L) (jV L)) ↦{fullShare} fx) ∗ ((bT).view.loc (V d (cV L) (jV L)) ↦{fullShare} ft)
      ∗ semVal (V d (cV L) (jV L), SemLoc.dma cc1_scoped2.sem) 0 ∗ semVal (V d (cV L) (jV L), SemLoc.dma cc1_scoped3.sem) 0
      ∗ ∃ W', owes (V d (cV L) (jV L)) O W') : sProp 𝕄)
    ⊢ wp frame (wpE (defs₀ (F := F)) 𝒱₀ (V d (cV L) (jV L)) none) Set.univ
        (k1_part4 L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 lanes gg a18 (W n) h18 h1)
        fun r => iprop(⌜r = ⟨W (blk n), k1_pay66, tvec t n 0, mask ids gg n 0⟩⌝ ∗ Transfers.MayWaits (V d (cV L) (jV L)) (none : SparseCore.Cfg.HIx 1) O
          ∗ ((xV).view.loc (V d (cV L) (jV L)) ↦{q} x) ∗ ((tV).view.loc (V d (cV L) (jV L)) ↦{q'} t)
          ∗ ((bI).view.loc (V d (cV L) (jV L)) ↦{fullShare} ids)
          ∗ ((bX).view.loc (V d (cV L) (jV L)) ↦{fullShare} block x n) ∗ ((bT).view.loc (V d (cV L) (jV L)) ↦{fullShare} tblock t n)
          ∗ semVal (V d (cV L) (jV L), SemLoc.dma cc1_scoped2.sem) 0 ∗ semVal (V d (cV L) (jV L), SemLoc.dma cc1_scoped3.sem) 0
          ∗ ∃ W', owes (V d (cV L) (jV L)) O W') := by
  rw [k1_part4_eq_skeleton]
  unfold k1_part4_skel
  conv => rhs; simp only [vectorLoadIdx_eq]
  iintro ⟨Hmw, Hx, Ht, HI, HX, HT, Hs2, Hs3, %W', HO⟩
  have hp : k1_pay31 lanes (W n) = rowIx (blk n + 0) := by
    show addi (broadcast S16 (Scalar.addi (k1_mult1 (W n)) 0#32)) lanes = _
    rw [mult_eq hn]; exact congrArg (fun w => addi (broadcast S16 w) lanes) addi_W
  have hk19 : k1_chk19 a18 (k1_pay31 lanes (W n)) := fun _ => hp ▸ rowIx_lt n 0 (by omega)
  sl_exec (disch := exact View.amount_pos _ _ (show 0 < S96x512.numel by decide))
  sl_step
  have hX : part4_wp.sl.dma0 a18 n h18 h1 x = block x n := by
    funext y
    refine congrArg x (funext fun a => Fin.ext ?_)
    match a with
    | 0 => show k1_off1 (W n) 0 + 1 * (y 0).val = blk n + (y 0).val; rw [off1_eq hn]; show blk n + _ = _; omega
    | 1 => show k1_off1 (W n) 1 + 1 * (y 1).val = (y 1).val; rw [off1_eq hn]; show 0 + _ = _; omega
  have hT : part4_wp.sl.dma0_1 a18 n h18 h1 t = tblock t n := by
    funext y
    refine congrArg t (funext fun a => Fin.ext ?_)
    match a with
    | 0 => show k1_off2 (W n) 0 + 1 * (y 0).val = blk n + (y 0).val; rw [off2_eq hn]; show blk n + _ = _; omega
  isplitr
  · ipureintro
    refine (?_ : _ = (⟨k1_mult1 (W n), k1_pay66, tvec t n 0, mask ids gg n 0⟩ : Σ' (v357 : BitVec 32) (v358 : FVec F S16 .f32) (v363 : Vec F S16 .f32), IVec S16 1)).trans ?_
    · refine sig4 rfl rfl ?_ (mask_loaded gg ids n hn 0 _ hp _)
      exact (congrArg _ ((View.write_whole_univ _ _ _).trans hT)).trans (tvec_loaded t n 0 _ _ rfl)
    · rw [mult_eq hn]
  isplitl [Hmw]; · iexact Hmw
  isplitl [Hx]; · iexact Hx
  isplitl [Ht]; · iexact Ht
  isplitl [HI]; · iexact HI
  isplitl [HX]
  · iapply (pts_X d L fx _ (block x n) ?_) $$ HX
    exact hX
  isplitl [HT]
  · iapply (pts_T d L ft _ (tblock t n) ?_) $$ HT
    exact hT
  isplitl [Hs2]; · iexact Hs2
  isplitl [Hs3]; · iexact Hs3
  iexists _; iexact HO

end Parts

end Cert.Proof.Pool

end
-- ==== Proof.Trip2.lean ====
module

public import proofs.«01_k».proof.Proof.Trip

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-! ## The groups' weights, one after another -/

/-- The first `g` groups' weights are in. -/
def Good (e f : S96.Idx → F .f32) (g : ℕ) : Prop := ∀ y, (y 0).val < 16 * g → f y = e y

section Groups
variable (gg : BitVec 32) (sv : Vec F S16 .f32) (t : S50000.Idx → F .f32) (ids : S50000.Idx → BitVec 32) (n : ℕ)

/-- Storing a group's weights. -/
theorem good_store (f : S96.Idx → F .f32) (L : List (View.Piece (Elt F) S96 .f32)) (g : Fin 6) (off : Fin 1 → ℕ) (inb : ∀ a, off a + S16.size a ≤ S96.size a)
    (hoff : off = ![16 * g.val]) (w : S16.Idx → F .f32) (hw : w = ezg ids t gg sv n g)
    (hf : Good (ezb ids t gg sv n) ((bE).view.writes (Elt F) f L) g.val) :
    Good (ezb ids t gg sv n) ((bE).view.writes (Elt F) f (⟨Rect.unit (s := S96) off S16.size inb, w⟩ :: L)) (g.val + 1) := by
  subst hoff hw
  intro y hy
  by_cases h : (y 0).val < 16 * g.val
  · refine Eq.trans ?_ (hf y h)
    refine View.read_writes_cons_miss_of_axis (v := (bE).view) (Val := Elt F) (f := f) _ L y 0 (16 * g.val) 16 rfl rfl rfl (Or.inl h)
  · have hy' : (y 0).val - 16 * g.val < 16 := by omega
    refine (View.read_writes_cons_hit_of_coords (v := (bE).view) (Val := Elt F) (f := f) _ _ L (ValueIdx.ix1 ⟨(y 0).val - 16 * g.val, hy'⟩ : S16.Idx) y ?_).trans ?_
    · intro a
      match a with
      | 0 => show (y 0).val = 16 * g.val + 1 * ((y 0).val - 16 * g.val); omega
    · show ezg ids t gg sv n g _ = ezg ids t gg sv n ⟨(y 0).val / 16, _⟩ (ValueIdx.ix1 ⟨(y 0).val % 16, _⟩)
      have hq : (y 0).val / 16 = g.val := by omega
      have hr : (y 0).val - 16 * g.val = (y 0).val % 16 := by omega
      have e1 : (⟨(y 0).val / 16, by have : (y 0).val < 96 := (y 0).isLt; omega⟩ : Fin 6) = g := Fin.ext hq
      rw [e1]
      exact congrArg _ (congrArg ValueIdx.ix1 (Fin.ext hr))

/-- A group's row numbers. -/
theorem rows_eq (g : ℕ) : addi (broadcast S16 (Scalar.addi (W (blk n)) (W g))) lanes = rowIx (blk n + g) := by
  rw [addi_W]; rfl

/-- Words of two numbers add up to the word of their sum. -/
theorem addi_add {w x : BitVec 32} {a b : ℕ} (hw : w = W a) (hx : x = W b) : Scalar.addi w x = W (a + b) := by
  subst hw hx; exact addi_W

/-- A group's count. -/
theorem cnt_eq (g : Fin 6) (m : IVec S16 1) (hm : m = mask ids gg n g) :
    extractAt ![15] (scan .sum (select m (broadcast S16 1#32) (broadcast S16 0#32))) inpos_S16_p15 = W (cnt ids gg n g) := by
  subst hm
  exact count_eq _ (fun l => Member ids gg n (row g l)) fun l => rfl

end Groups

/-- Tuples of five with equal parts are equal. -/
theorem sig5 {A B C E H : Type} {a a' : A} {b b' : B} {c c' : C} {e e' : E} {h h' : H} (ha : a = a') (hb : b = b') (hc : c = c') (he : e = e') (hh : h = h') :
    (⟨a, b, c, e, h⟩ : Σ' (_ : A) (_ : B) (_ : C) (_ : E), H) = ⟨a', b', c', e', h'⟩ := by subst ha hb hc he hh; rfl
/-- Tuples of three with equal parts are equal. -/
theorem sig3 {A B C : Type} {a a' : A} {b b' : B} {c c' : C} (ha : a = a') (hb : b = b') (hc : c = c') :
    (⟨a, b, c⟩ : Σ' (_ : A) (_ : B), C) = ⟨a', b', c'⟩ := by subst ha hb hc; rfl

section Parts

variable (d : Dev nD) (L : grid1.Coords) (gg : BitVec 32) (sv : Vec F S16 .f32) (a18 : BitVec 32) (n : ℕ) (hn : n ≤ 50000)
  (h1 : k1_cond1 a18 = 1#1) (t : S50000.Idx → F .f32) (ids : S50000.Idx → BitVec 32)

/-- The weights' scratch, known only by what it holds so far. -/
theorem exists_good (e f : S96.Idx → F .f32) (g : ℕ) (h : Good e f g) :
    (((bE).view.loc (V d (cV L) (jV L)) ↦{fullShare} f : sProp 𝕄)
      ⊢ iprop(∃ fe' : S96.Idx → F .f32, ⌜Good e fe' g⌝ ∗ ((bE).view.loc (V d (cV L) (jV L)) ↦{fullShare} fe'))) := by
  iintro H
  iexists f
  isplitr
  · ipureintro; exact h
  · iexact H

include hn in
/-- The first group's weights and the second group. -/
theorem part5_wp (fe : S96.Idx → F .f32) :
    (iprop(((bI).view.loc (V d (cV L) (jV L)) ↦{fullShare} ids) ∗ ((bT).view.loc (V d (cV L) (jV L)) ↦{fullShare} tblock t n)
      ∗ ((bE).view.loc (V d (cV L) (jV L)) ↦{fullShare} fe)) : sProp 𝕄)
    ⊢ wp frame (wpE (defs₀ (F := F)) 𝒱₀ (V d (cV L) (jV L)) none) Set.univ
        (k1_part5 L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 lanes gg sv a18 (W n) h1 (W (blk n)) k1_pay66 (tvec t n 0) (mask ids gg n 0))
        fun r => iprop(⌜r = ⟨W (0 + cnt ids gg n 0), mask ids gg n 1, addf (addf (k1_pay66 (F := F)) (ezg ids t gg sv n 0)) (ezg ids t gg sv n 1), k1_pay39, k1_pay40⟩⌝
          ∗ ((bI).view.loc (V d (cV L) (jV L)) ↦{fullShare} ids) ∗ ((bT).view.loc (V d (cV L) (jV L)) ↦{fullShare} tblock t n)
          ∗ ∃ fe' : S96.Idx → F .f32, ⌜Good (ezb ids t gg sv n) fe' 2⌝ ∗ ((bE).view.loc (V d (cV L) (jV L)) ↦{fullShare} fe')) := by
  rw [k1_part5_eq_skeleton]
  unfold k1_part5_skel
  conv => rhs; simp only [vectorLoadIdx_eq]
  iintro ⟨HI, HT, HE⟩
  have hp : k1_pay35 lanes (W (blk n)) = rowIx (blk n + 16) := rows_eq n 16
  have hk : k1_chk20 a18 (k1_pay35 lanes (W (blk n))) := fun _ => hp ▸ rowIx_lt n 16 (by omega)
  sl_exec
  sl_step
  isplitr
  · ipureintro
    have hm := fun h => mask_loaded (F := F) gg ids n hn 1 _ hp h
    refine sig5 ?_ (hm _) ?_ rfl rfl
    · exact addi_add rfl (cnt_eq gg ids n 0 (mask ids gg n 0) rfl)
    · refine congrArg₂ addf rfl ?_
      exact congrArg₂ (k1_pay33 sv) (tvec_loaded t n 1 _ _ rfl) (hm _)
  isplitl [HI]; · iexact HI
  isplitl [HT]; · iexact HT
  iapply (exists_good d L (ezb ids t gg sv n) _ 2 ?_) $$ HE
  exact good_store gg sv t ids n fe _ 1 _ _ rfl _ (congrArg₂ (k1_pay33 sv) (tvec_loaded t n 1 _ _ rfl) (mask_loaded gg ids n hn 1 _ hp _))
    (good_store gg sv t ids n fe [] 0 _ _ rfl _ rfl fun y hy => absurd hy (by simp))

include hn in
/-- The third group, and the fourth's mask and scores. -/
theorem part6_wp (fe : S96.Idx → F .f32) (hE : Good (ezb ids t gg sv n) fe 2) :
    (iprop(((bI).view.loc (V d (cV L) (jV L)) ↦{fullShare} ids) ∗ ((bT).view.loc (V d (cV L) (jV L)) ↦{fullShare} tblock t n)
      ∗ ((bE).view.loc (V d (cV L) (jV L)) ↦{fullShare} fe)) : sProp 𝕄)
    ⊢ wp frame (wpE (defs₀ (F := F)) 𝒱₀ (V d (cV L) (jV L)) none) Set.univ
        (k1_part6 L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 lanes gg sv a18 (W n) h1 (W (blk n)) (W (0 + cnt ids gg n 0)) (mask ids gg n 1)
          (addf (addf (k1_pay66 (F := F)) (ezg ids t gg sv n 0)) (ezg ids t gg sv n 1)) k1_pay39 k1_pay40)
        fun r => iprop(⌜r = ⟨addf (addf (addf (k1_pay66 (F := F)) (ezg ids t gg sv n 0)) (ezg ids t gg sv n 1)) (ezg ids t gg sv n 2), W (0 + cnt ids gg n 0 + cnt ids gg n 1 + cnt ids gg n 2), mask ids gg n 3, k1_pay49 sv (tvec t n 3), Scalar.ofBits .f32 0x00000000#32⟩⌝
          ∗ ((bI).view.loc (V d (cV L) (jV L)) ↦{fullShare} ids) ∗ ((bT).view.loc (V d (cV L) (jV L)) ↦{fullShare} tblock t n)
          ∗ ∃ fe' : S96.Idx → F .f32, ⌜Good (ezb ids t gg sv n) fe' 3⌝ ∗ ((bE).view.loc (V d (cV L) (jV L)) ↦{fullShare} fe')) := by
  rw [k1_part6_eq_skeleton]
  unfold k1_part6_skel
  conv => rhs; simp only [vectorLoadIdx_eq]
  iintro ⟨HI, HT, HE⟩
  have hp : k1_pay42 lanes (W (blk n)) = rowIx (blk n + 32) := rows_eq n 32
  have hq : k1_pay47 lanes (W (blk n)) = rowIx (blk n + 48) := rows_eq n 48
  have hk : k1_chk21 a18 (k1_pay42 lanes (W (blk n))) := fun _ => hp ▸ rowIx_lt n 32 (by omega)
  have hk' : k1_chk22 a18 (k1_pay47 lanes (W (blk n))) := fun _ => hq ▸ rowIx_lt n 48 (by omega)
  sl_exec
  sl_step
  have hm := fun h => mask_loaded (F := F) gg ids n hn 2 _ hp h
  isplitr
  · ipureintro
    refine sig5 ?_ ?_ (mask_loaded (F := F) gg ids n hn 3 _ hq _) (congrArg (k1_pay49 sv) (tvec_loaded t n 3 _ _ rfl)) rfl
    · exact congrArg (addf _) (congrArg₂ (k1_pay33 sv) (tvec_loaded t n 2 _ _ rfl) (hm _))
    · exact addi_add (addi_add rfl (cnt_eq gg ids n 1 (mask ids gg n 1) rfl)) (cnt_eq gg ids n 2 _ (hm _))
  isplitl [HI]; · iexact HI
  isplitl [HT]; · iexact HT
  iapply (exists_good d L (ezb ids t gg sv n) _ 3 ?_) $$ HE
  exact good_store gg sv t ids n fe [] 2 _ _ rfl _ (congrArg₂ (k1_pay33 sv) (tvec_loaded t n 2 _ _ rfl) (hm _)) hE

include hn in
/-- The fourth group's weights and the fifth group. -/
theorem part7_wp (fe : S96.Idx → F .f32) (hE : Good (ezb ids t gg sv n) fe 3) :
    (iprop(((bI).view.loc (V d (cV L) (jV L)) ↦{fullShare} ids) ∗ ((bT).view.loc (V d (cV L) (jV L)) ↦{fullShare} tblock t n)
      ∗ ((bE).view.loc (V d (cV L) (jV L)) ↦{fullShare} fe)) : sProp 𝕄)
    ⊢ wp frame (wpE (defs₀ (F := F)) 𝒱₀ (V d (cV L) (jV L)) none) Set.univ
        (k1_part7 L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 lanes gg sv a18 (W n) h1 (W (blk n))
          (addf (addf (addf (k1_pay66 (F := F)) (ezg ids t gg sv n 0)) (ezg ids t gg sv n 1)) (ezg ids t gg sv n 2)) (W (0 + cnt ids gg n 0 + cnt ids gg n 1 + cnt ids gg n 2)) (mask ids gg n 3) (k1_pay49 sv (tvec t n 3)) (Scalar.ofBits .f32 0x00000000#32))
        fun r => iprop(⌜r = ⟨W (0 + cnt ids gg n 0 + cnt ids gg n 1 + cnt ids gg n 2 + cnt ids gg n 3), addf (addf (addf (addf (addf (k1_pay66 (F := F)) (ezg ids t gg sv n 0)) (ezg ids t gg sv n 1)) (ezg ids t gg sv n 2)) (ezg ids t gg sv n 3)) (ezg ids t gg sv n 4), select (mask ids gg n 4) (broadcast S16 1#32) (broadcast S16 0#32)⟩⌝
          ∗ ((bI).view.loc (V d (cV L) (jV L)) ↦{fullShare} ids) ∗ ((bT).view.loc (V d (cV L) (jV L)) ↦{fullShare} tblock t n)
          ∗ ∃ fe' : S96.Idx → F .f32, ⌜Good (ezb ids t gg sv n) fe' 5⌝ ∗ ((bE).view.loc (V d (cV L) (jV L)) ↦{fullShare} fe')) := by
  rw [k1_part7_eq_skeleton]
  unfold k1_part7_skel
  conv => rhs; simp only [vectorLoadIdx_eq]
  iintro ⟨HI, HT, HE⟩
  have hp : k1_pay52 lanes (W (blk n)) = rowIx (blk n + 64) := rows_eq n 64
  have hk : k1_chk23 a18 (k1_pay52 lanes (W (blk n))) := fun _ => hp ▸ rowIx_lt n 64 (by omega)
  sl_exec
  sl_step
  have hm := fun h => mask_loaded (F := F) gg ids n hn 4 _ hp h
  isplitr
  · ipureintro
    refine sig3 ?_ ?_ ?_
    · exact addi_add rfl (cnt_eq gg ids n 3 (mask ids gg n 3) rfl)
    · exact congrArg (addf _) (congrArg₂ (k1_pay33 sv) (tvec_loaded t n 4 _ _ rfl) (hm _))
    · exact congrArg (fun m => select m (broadcast S16 1#32) (broadcast S16 0#32)) (hm _)
  isplitl [HI]; · iexact HI
  isplitl [HT]; · iexact HT
  iapply (exists_good d L (ezb ids t gg sv n) _ 5 ?_) $$ HE
  exact good_store gg sv t ids n fe _ 4 _ _ rfl _ (congrArg₂ (k1_pay33 sv) (tvec_loaded t n 4 _ _ rfl) (hm _))
    (good_store gg sv t ids n fe [] 3 _ _ rfl _ rfl hE)

end Parts

end Cert.Proof.Pool

end
-- ==== Proof.Trip3.lean ====
module

public import proofs.«01_k».proof.Proof.Trip2

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-- A program's first part, by what is known of it. -/
theorem wp_call {Λ' : Labels} {c : Thread nD τ} {w : (E : Set ℕ) → ⦃β : Type⦄ → TpuEff nD τ sig (Elt F) Λ' c.2 β → sWPT 𝕄 β} [∀ E ⦃β : Type⦄ (e : TpuEff nD τ sig (Elt F) Λ' c.2 β), sWPT.Frameable (w E e)]
    {α β : Type} {p : Prog (TpuEff nD τ sig (Elt F) Λ' c.2) α} {k : α → Prog (TpuEff nD τ sig (Elt F) Λ' c.2) β} {P : sProp 𝕄} {R : α → sProp 𝕄} {Q : β → sProp 𝕄}
    (h : P ⊢ wp frame w Set.univ p R) : iprop(P ∗ (∀ a, R a -∗ wp frame w Set.univ (k a) Q)) ⊢ wp frame w Set.univ (p >>= k) Q := by
  rw [wp_bind]
  exact (sep_mono_left h).trans (wp_wand_r frame w Set.univ)

/-- The flag's word. -/
def flag (b : Bool) : BitVec 32 := if b then 1#32 else 0#32

/-- The body's condition is the flag. -/
theorem cond_flag (b : Bool) : k1_cond1 (flag b) = 1#1 ↔ b = true := by cases b <;> decide

/-- A condition's bit, widened, is the flag. -/
theorem flag_of (p : Prop) [Decidable p] : Scalar.extui (bit p) = flag (decide p) := by
  by_cases h : p
  · rw [bit_eq_one.2 h]; simp only [h, decide_true]; rfl
  · have : bit p = 0#1 := by simp [bit, h]
    rw [this]; simp only [h, decide_false]; rfl

/-- How far a pointer is from its block's end. -/
theorem blk_reach {n : ℕ} (hn : n ≤ 50000) : n ≤ blk n + 96 := by unfold blk; omega

/-- The block's last flag: every row from the pointer on counted, and there was one. -/
theorem flag_eq {n h : ℕ} (hn : n ≤ 50000) (hh : h < 2 ^ 31) :
    Scalar.extui (Scalar.andi (Scalar.cmpi .eq (W h) (Scalar.subi (Scalar.addi (W (blk n)) 96#32) (W n))) (Scalar.cmpi .sgt (Scalar.subi (Scalar.addi (W (blk n)) 96#32) (W n)) 0#32))
      = flag (decide (h = blk n + 96 - n ∧ 0 < blk n + 96 - n)) := by
  have hb := blk_le n
  have hr := blk_reach hn
  rw [show Scalar.addi (W (blk n)) 96#32 = W (blk n + 96) from addi_W, subi_W hr (by omega), cmpi_eq_W hh (by omega),
    show Scalar.cmpi .sgt (W (blk n + 96 - n)) 0#32 = _ from cmpi_sgt_W (n := 0) (by omega) (by omega), ← flag_of]
  congr 1
  refine eq_bit ?_
  show IntOp.andi _ _ = 1#1 ↔ _
  rw [IntOp.andi_eq_one, bit_eq_one, bit_eq_one]

/-- A group counts no more rows than lie from the pointer on. -/
theorem cnt_le (gg : BitVec 32) (ids : S50000.Idx → BitVec 32) (n : ℕ) (g : Fin 6) : cnt ids gg n g ≤ 16 - (n - (blk n + 16 * g.val)) := by
  unfold cnt
  rw [← Finset.sum_filter, Finset.sum_const, smul_eq_mul, mul_one]
  calc _ ≤ (Finset.Ico (n - (blk n + 16 * g.val)) 16).card := by
        refine Finset.card_le_card_of_injOn (fun l : Fin 16 => l.val) ?_ (fun a _ b _ h => Fin.ext h)
        intro l hl
        have hl' := (Finset.mem_filter.mp hl).2.2
        have : n ≤ blk n + (16 * g.val + l.val) := hl'
        simp only [Finset.coe_Ico, Set.mem_Ico]
        have := l.isLt
        omega
    _ = _ := by rw [Nat.card_Ico]

/-- The block's count keeps the pointer inside the ids. -/
theorem hits_le (gg : BitVec 32) (ids : S50000.Idx → BitVec 32) {n : ℕ} (hn : n ≤ 50000) : n + hits ids gg n ≤ blk n + 96 := by
  have h0 := cnt_le gg ids n 0; have h1 := cnt_le gg ids n 1; have h2 := cnt_le gg ids n 2
  have h3 := cnt_le gg ids n 3; have h4 := cnt_le gg ids n 4; have h5 := cnt_le gg ids n 5
  have hr := blk_reach hn
  unfold hits
  simp only [Fin.val_zero, Fin.val_one, show ((2 : Fin 6).val) = 2 from rfl, show ((3 : Fin 6).val) = 3 from rfl, show ((4 : Fin 6).val) = 4 from rfl, show ((5 : Fin 6).val) = 5 from rfl] at h0 h1 h2 h3 h4 h5
  omega

section Parts

variable (d : Dev nD) (L : grid1.Coords) (gg : BitVec 32) (sv : Vec F S16 .f32) (a18 : BitVec 32) (n : ℕ) (hn : n ≤ 50000)
  (h18 : k1_chk18 a18 (W n)) (h1 : k1_cond1 a18 = 1#1) (q q' : PosShare TreeShare)
  (x : S50000x512.Idx → F .f32) (t : S50000.Idx → F .f32) (ids : S50000.Idx → BitVec 32) (O : CellTallies nD τ sig (SparseCore.Cfg.HIx 1))

/-- What a trip over a block reads, writes and waits on: its sources' shares, its scratch at whatever it holds, its semaphores. -/
def tripRes : sProp 𝕄 :=
  iprop(Transfers.MayWaits (V d (cV L) (jV L)) (none : SparseCore.Cfg.HIx 1) O
    ∗ ((xV).view.loc (V d (cV L) (jV L)) ↦{q} x) ∗ ((tV).view.loc (V d (cV L) (jV L)) ↦{q'} t)
    ∗ ((bI).view.loc (V d (cV L) (jV L)) ↦{fullShare} ids)
    ∗ (∃ fx : S96x512.Idx → F .f32, (bX).view.loc (V d (cV L) (jV L)) ↦{fullShare} fx)
    ∗ (∃ ft : S96.Idx → F .f32, (bT).view.loc (V d (cV L) (jV L)) ↦{fullShare} ft)
    ∗ (∃ fe : S96.Idx → F .f32, (bE).view.loc (V d (cV L) (jV L)) ↦{fullShare} fe)
    ∗ semVal (V d (cV L) (jV L), SemLoc.dma cc1_scoped2.sem) 0 ∗ semVal (V d (cV L) (jV L), SemLoc.dma cc1_scoped3.sem) 0
    ∗ ∃ W', owes (V d (cV L) (jV L)) O W')

/-- What a block's trip hands back. -/
def mkOut (v : FVec F S16 .f32) (w : BitVec 32) (b : Acc F) (f : BitVec 32) : Σ' (_ : FVec F S16 .f32) (_ : BitVec 32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) , BitVec 32 :=
  ⟨v, w, b 0, b 1, b 2, b 3, b 4, b 5, b 6, b 7, b 8, b 9, b 10, b 11, b 12, b 13, b 14, b 15, b 16, b 17, b 18, b 19, b 20, b 21, b 22, b 23, b 24, b 25, b 26, b 27, b 28, b 29, b 30, b 31, f⟩

/-- A trip's results with equal parts are equal. -/
theorem mkOut_eq {v v' : FVec F S16 .f32} {w w' : BitVec 32} {b : Acc F} {f f' : BitVec 32} (hv : v = v') (hw : w = w') (hf : f = f') : mkOut v w b f = mkOut v' w' b f' := by
  subst hv hw hf; rfl

/-- One row more of the block. -/
theorem rows_succ (xb : S96x512.Idx → F .f32) (ez : S96.Idx → F .f32) (a : Acc F) {k : ℕ} (hk : k < 96) :
    rows xb ez a (k + 1) = rowStep xb ez ⟨k, hk⟩ (rows xb ez a k) := by
  show dite (k < 96) _ _ = _
  rw [dif_pos hk]; rfl

/-- Six groups written are the whole block's weights. -/
theorem good_all {e f : S96.Idx → F .f32} (h : Good e f 6) : f = e := funext fun y => h y (by have : (y 0).val < 96 := (y 0).isLt; omega)

/-- Before a row: the chunks hold the rows' contributions so far. -/
def rowsInv (a : Acc F) (k : ℕ) (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = tup (rows (block x n) (ezb ids t gg sv n) a k)⌝ ∗ ((bX).view.loc (V d (cV L) (jV L)) ↦{fullShare} block x n)
    ∗ ∃ fe : S96.Idx → F .f32, ⌜Good (ezb ids t gg sv n) fe 6⌝ ∗ ((bE).view.loc (V d (cV L) (jV L)) ↦{fullShare} fe))

include hn in
/-- A block's trip, up to the words it hands back. -/
theorem part8_wp (a : Acc F) :
    tripRes d L q q' x t ids O
    ⊢ wp frame (wpE (defs₀ (F := F)) 𝒱₀ (V d (cV L) (jV L)) none) Set.univ
        (k1_part8 L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 lanes gg sv a18 (W n)
          (a 0) (a 1) (a 2) (a 3) (a 4) (a 5) (a 6) (a 7) (a 8) (a 9) (a 10) (a 11) (a 12) (a 13) (a 14) (a 15) (a 16) (a 17) (a 18) (a 19) (a 20) (a 21) (a 22) (a 23) (a 24) (a 25) (a 26) (a 27) (a 28) (a 29) (a 30) (a 31) h18 h1)
        fun r => iprop(⌜r = mkOut (dadd ids t gg sv n) (W (hits ids gg n)) (rows (block x n) (ezb ids t gg sv n) a 96) (flag (decide (hits ids gg n = blk n + 96 - n ∧ 0 < blk n + 96 - n)))⌝ ∗ tripRes d L q q' x t ids O) := by
  rw [k1_part8_eq_skeleton]
  unfold k1_part8_skel tripRes
  conv => rhs; simp only [vectorLoadIdx_eq]
  iintro ⟨Hmw, Hx, Ht, HI, ⟨%fx, HX⟩, ⟨%ft, HT⟩, ⟨%fe, HE⟩, Hs2, Hs3, HO⟩
  iapply (wp_call (part4_wp d L gg a18 n hn h18 h1 q q' x t ids O fx ft))
  isplitl [Hmw Hx Ht HI HX HT Hs2 Hs3 HO]
  · isplitl [Hmw]; · iexact Hmw
    isplitl [Hx]; · iexact Hx
    isplitl [Ht]; · iexact Ht
    isplitl [HI]; · iexact HI
    isplitl [HX]; · iexact HX
    isplitl [HT]; · iexact HT
    isplitl [Hs2]; · iexact Hs2
    isplitl [Hs3]; · iexact Hs3
    iexact HO
  iintro %r ⟨%hr, Hmw, Hx, Ht, HI, HX, HT, Hs2, Hs3, HO⟩
  subst hr
  iapply (wp_call (part5_wp d L gg sv a18 n hn h1 t ids fe))
  isplitl [HI HT HE]
  · isplitl [HI]; · iexact HI
    isplitl [HT]; · iexact HT
    iexact HE
  iintro %r ⟨%hr, HI, HT, %fe2, %hE2, HE⟩
  subst hr
  iapply (wp_call (part6_wp d L gg sv a18 n hn h1 t ids fe2 hE2))
  isplitl [HI HT HE]
  · isplitl [HI]; · iexact HI
    isplitl [HT]; · iexact HT
    iexact HE
  iintro %r ⟨%hr, HI, HT, %fe3, %hE3, HE⟩
  subst hr
  iapply (wp_call (part7_wp d L gg sv a18 n hn h1 t ids fe3 hE3))
  isplitl [HI HT HE]
  · isplitl [HI]; · iexact HI
    isplitl [HT]; · iexact HT
    iexact HE
  iintro %r ⟨%hr, HI, HT, %fe5, %hE5, HE⟩
  subst hr
  have hp : k1_pay58 lanes (W (blk n)) = rowIx (blk n + 80) := rows_eq n 80
  have hk : k1_chk24 a18 (k1_pay58 lanes (W (blk n))) := fun _ => hp ▸ rowIx_lt n 80 (by omega)
  sl_exec
  have hm := fun h => mask_loaded (F := F) gg ids n hn 5 _ hp h
  sl_for (rowsInv d L gg sv n x t ids a) $$ [HX HE]
  case region =>
    intro k acc
    unfold rowsInv
    iintro ⟨%hacc, HX, %fe, %hE, HE⟩
    subst hacc
    obtain rfl : fe = ezb ids t gg sv n := good_all hE
    iapply (wp_wand_r frame _ Set.univ)
    isplitl [HX HE]
    · iapply (rows_body d L lanes gg sv a18 (W n) h18 h1 a (block x n) (ezb ids t gg sv n) k (rows (block x n) (ezb ids t gg sv n) a k.val))
      isplitl [HX] <;> iassumption
    iintro %r ⟨%hr, HX, HE⟩
    isplitr
    · ipureintro
      rw [hr]
      exact congrArg tup (rows_succ (block x n) (ezb ids t gg sv n) a k.isLt).symm
    isplitl [HX]; · iexact HX
    iexists _; isplitr
    · ipureintro; exact hE
    · iexact HE
  · unfold rowsInv
    isplitr
    · ipureintro; rfl
    isplitl [HX]; · iexact HX
    iapply (exists_good d L (ezb ids t gg sv n) _ 6 ?_) $$ HE
    exact good_store gg sv t ids n fe5 [] 5 _ _ rfl _ (congrArg₂ (k1_pay33 sv) (tvec_loaded t n 5 _ _ rfl) (hm _)) hE5
  iintro %acc HI2
  unfold rowsInv
  icases HI2 with ⟨%hacc, HX, %fe, %hE, HE⟩
  subst hacc
  sl_exec
  sl_step
  isplitr
  · ipureintro
    show mkOut _ _ (rows (block x n) (ezb ids t gg sv n) a 96) _ = _
    have hN : Scalar.addi (Scalar.addi (W (0 + cnt ids gg n 0 + cnt ids gg n 1 + cnt ids gg n 2 + cnt ids gg n 3)) (extractAt ![15] (k1_pay57 (select (mask ids gg n 4) (broadcast S16 1#32) (broadcast S16 0#32))) inpos_S16_p15))
        (extractAt ![15] (k1_pay62 gg (W n) (k1_pay58 lanes (W (blk n))) (loadIdx (View.readAt (Elt F) bI.view (LoadRect.whole S50000) ids) ![k1_pay58 lanes (W (blk n))] (hk h1))) inpos_S16_p15)
        = W (hits ids gg n) := addi_add (addi_add rfl (cnt_eq gg ids n 4 (mask ids gg n 4) rfl)) (cnt_eq gg ids n 5 _ (hm _))
    refine mkOut_eq ?_ hN ?_
    · exact congrArg (addf _) (congrArg₂ (k1_pay33 sv) (tvec_loaded t n 5 _ _ rfl) (hm _))
    · refine Eq.trans ?_ (flag_eq (h := hits ids gg n) hn (by have := hits_le gg ids hn; have := blk_le n; omega))
      exact congrArg (fun w => Scalar.extui (Scalar.andi (Scalar.cmpi .eq w (Scalar.subi (Scalar.addi (W (blk n)) 96#32) (W n))) (Scalar.cmpi .sgt (Scalar.subi (Scalar.addi (W (blk n)) 96#32) (W n)) 0#32))) hN
  isplitl [Hmw]; · iexact Hmw
  isplitl [Hx]; · iexact Hx
  isplitl [Ht]; · iexact Ht
  isplitl [HI]; · iexact HI
  isplitl [HX]; · iexists _; iexact HX
  isplitl [HT]; · iexists _; iexact HT
  isplitl [HE]; · iexists _; iexact HE
  isplitl [Hs2]; · iexact Hs2
  isplitl [Hs3]; · iexact Hs3
  iexact HO

end Parts

end Cert.Proof.Pool

end
-- ==== Proof.Graph.lean ====
module

public import proofs.«01_k».proof.Proof.Trip3

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-! ## One graph's run over its blocks -/

section Loop

variable (x : S50000x512.Idx → F .f32) (ids : S50000.Idx → BitVec 32) (t : S50000.Idx → F .f32) (s : S1024.Idx → F .f32)

/-- The graph's score, in every lane. -/
def score (g : ℕ) : Vec F S16 .f32 := fun _ => s (ValueIdx.ix1 ⟨g % 1024, Nat.mod_lt _ (by decide)⟩)

/-- What the block loop starts from. -/
def start (lo : ℕ) : St F := ⟨true, lo, k1_pay66, fun _ => k1_pay66⟩

/-- Graph `g` after `k` trips from row `lo` on. -/
def after (g lo k : ℕ) : St F := (trip x ids t (W g) (score s g))^[k] (start lo)

/-- Where the tile's `k`-th graph starts, the first starting at `lo`. -/
def ptrs (gb lo : ℕ) (k : ℕ) : ℕ := Nat.rec lo (fun k p => (after x ids t s (gb + k) p 523).ptr) k

/-- The tile's `k`-th graph when its loop ends. -/
def fin (gb lo k : ℕ) : St F := after x ids t s (gb + k) (ptrs x ids t s gb lo k) 523

/-- The loop's carried values. -/
def cst (z : St F) : BitVec 32 × BitVec 32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 := (flag z.go, W z.ptr, z.d, tup z.a)

/-- A trip with the flag set. -/
theorem trip_true (gg : BitVec 32) (sv : Vec F S16 .f32) (n : ℕ) (dd : FVec F S16 .f32) (a : Acc F) :
    trip x ids t gg sv ⟨true, n, dd, a⟩ = ⟨decide (hits ids gg n = blk n + 96 - n ∧ 0 < blk n + 96 - n), n + hits ids gg n, addf dd (dadd ids t gg sv n),
      rows (block x n) (ezb ids t gg sv n) a 96⟩ := if_pos rfl

/-- A trip keeps the row pointer in range. -/
theorem trip_ptr (gg : BitVec 32) (sv : Vec F S16 .f32) (z : St F) (hz : z.ptr ≤ 50000) : (trip x ids t gg sv z).ptr ≤ 50000 := by
  unfold trip
  split
  · have := hits_le gg ids hz; have := blk_le z.ptr; show z.ptr + hits ids gg z.ptr ≤ 50000; omega
  · exact hz

/-- Any number of trips keeps the row pointer in range. -/
theorem after_ptr (g : ℕ) {lo : ℕ} (hlo : lo ≤ 50000) (k : ℕ) : (after x ids t s g lo k).ptr ≤ 50000 := by
  induction k with
  | zero => exact hlo
  | succ k ih => rw [after, Function.iterate_succ_apply']; exact trip_ptr x ids t _ _ _ ih

/-- Every graph of the tile starts with its row pointer in range. -/
theorem ptrs_le (gb : ℕ) {lo : ℕ} (hlo : lo ≤ 50000) (k : ℕ) : ptrs x ids t s gb lo k ≤ 50000 := by
  induction k with
  | zero => exact hlo
  | succ k ih => exact after_ptr x ids t s _ ih 523

end Loop

section Parts

variable (d : Dev nD) (L : grid1.Coords) (q q' : PosShare TreeShare)
  (x : S50000x512.Idx → F .f32) (t : S50000.Idx → F .f32) (ids : S50000.Idx → BitVec 32) (s : S1024.Idx → F .f32) (O : CellTallies nD τ sig (SparseCore.Cfg.HIx 1))

/-- An assumption that holds is a step that changes nothing. -/
theorem assume_wp (p : Prop) (dec : Decidable p) (h : p) (P : sProp 𝕄) :
    P ⊢ wp frame (wpE (defs₀ (F := F)) 𝒱₀ (V d (cV L) (jV L)) none) Set.univ (Prog.lift (TpuEff.assume p dec)) fun _ => P := by
  iintro H
  sl_exec
  sl_step
  iexact H

/-- The conditional of a trip with the flag set runs the trip's body. -/
theorem trip_go (gg : BitVec 32) (sv : Vec F S16 .f32) (v2 c0 c1 : BitVec 32) (k : Fin k1_t1_loop.trips) (a16 : BitVec 32) (k2 : Fin k1_t2_loop.trips)
    (n : ℕ) (dd : FVec F S16 .f32) (a : Acc F) (hn : n ≤ 50000) :
    tripRes d L q q' x t ids O
    ⊢ wp frame (wpE (defs₀ (F := F)) 𝒱₀ (V d (cV L) (jV L)) none) Set.univ
        (k1_t2_body L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 v2 lanes c0 c1 k a16 gg sv k2
          (flag true, W n, dd, a 0, a 1, a 2, a 3, a 4, a 5, a 6, a 7, a 8, a 9, a 10, a 11, a 12, a 13, a 14, a 15, a 16, a 17, a 18, a 19, a 20, a 21, a 22, a 23, a 24, a 25, a 26, a 27, a 28, a 29, a 30, a 31))
        fun r => iprop(⌜r = cst (trip x ids t gg sv ⟨true, n, dd, a⟩)⌝ ∗ tripRes d L q q' x t ids O) := by
  have h18 : k1_chk18 (flag true) (W n) := chk18 _ hn
  have h1 : k1_cond1 (flag true) = 1#1 := (cond_flag true).2 rfl
  unfold k1_t2_body
  dsimp only
  iintro H
  iapply (wp_call (assume_wp d L _ _ h18 _))
  isplitl [H]; · iexact H
  iintro %_ H
  rw [dif_pos h1]
  iapply (wp_call (part8_wp d L gg sv (flag true) n hn h18 h1 q q' x t ids O a))
  isplitl [H]; · iexact H
  iintro %r ⟨%hr, H⟩
  subst hr
  sl_exec
  sl_step
  isplitr
  · ipureintro
    rw [trip_true]
    dsimp only [mkOut, cst]
    rw [addi_W]
    rfl
  · iexact H

/-- The conditional of a trip with the flag clear changes nothing. -/
theorem trip_stop (gg : BitVec 32) (sv : Vec F S16 .f32) (v2 c0 c1 : BitVec 32) (k : Fin k1_t1_loop.trips) (a16 : BitVec 32) (k2 : Fin k1_t2_loop.trips)
    (n : ℕ) (dd : FVec F S16 .f32) (a : Acc F) (hn : n ≤ 50000) :
    tripRes d L q q' x t ids O
    ⊢ wp frame (wpE (defs₀ (F := F)) 𝒱₀ (V d (cV L) (jV L)) none) Set.univ
        (k1_t2_body L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 v2 lanes c0 c1 k a16 gg sv k2
          (flag false, W n, dd, a 0, a 1, a 2, a 3, a 4, a 5, a 6, a 7, a 8, a 9, a 10, a 11, a 12, a 13, a 14, a 15, a 16, a 17, a 18, a 19, a 20, a 21, a 22, a 23, a 24, a 25, a 26, a 27, a 28, a 29, a 30, a 31))
        fun r => iprop(⌜r = cst (trip x ids t gg sv ⟨false, n, dd, a⟩)⌝ ∗ tripRes d L q q' x t ids O) := by
  have h18 : k1_chk18 (flag false) (W n) := chk18 _ hn
  have h1 : ¬k1_cond1 (flag false) = 1#1 := fun h => absurd ((cond_flag false).1 h) (by decide)
  unfold k1_t2_body
  dsimp only
  iintro H
  iapply (wp_call (assume_wp d L _ _ h18 _))
  isplitl [H]; · iexact H
  iintro %_ H
  rw [dif_neg h1]
  sl_exec
  sl_step
  isplitr
  · ipureintro; rfl
  · iexact H

/-- One trip of the block loop. -/
theorem trip_wp (gg : BitVec 32) (sv : Vec F S16 .f32) (v2 c0 c1 : BitVec 32) (k : Fin k1_t1_loop.trips) (a16 : BitVec 32) (k2 : Fin k1_t2_loop.trips) (z : St F) (hz : z.ptr ≤ 50000) :
    tripRes d L q q' x t ids O
    ⊢ wp frame (wpE (defs₀ (F := F)) 𝒱₀ (V d (cV L) (jV L)) none) Set.univ
        (k1_t2_body L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 v2 lanes c0 c1 k a16 gg sv k2 (cst z))
        fun r => iprop(⌜r = cst (trip x ids t gg sv z)⌝ ∗ tripRes d L q q' x t ids O) := by
  obtain ⟨go, n, dd, a⟩ := z
  cases go with
  | true => exact trip_go d L q q' x t ids O gg sv v2 c0 c1 k a16 k2 n dd a hz
  | false => exact trip_stop d L q q' x t ids O gg sv v2 c0 c1 k a16 k2 n dd a hz

end Parts

end Cert.Proof.Pool

end
-- ==== Proof.Graph2.lean ====
module

public import Idealize.ShloMosaic.Lib.Pipeline.Value
public import proofs.«01_k».proof.Proof.Graph

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-! ## The tile's 32 rows -/

/-- The first `m` rows, and the first `c` chunks of the next, hold the accumulated rows `A`. -/
def GoodU (A : ℕ → Acc F) (m c : ℕ) (f : S32x512.Idx → F .f32) : Prop :=
  ∀ y, ((y 0).val < m ∨ ((y 0).val = m ∧ (y 1).val < 16 * c)) →
    f y = A (y 0).val ⟨(y 1).val / 16, by have : (y 1).val < 512 := (y 1).isLt; omega⟩ (ValueIdx.ix1 ⟨(y 1).val % 16, by omega⟩)

/-- The first `m` rows hold the weights' sums `A`. -/
def GoodD (A : ℕ → FVec F S16 .f32) (m : ℕ) (f : S32x16.Idx → F .f32) : Prop :=
  ∀ y, (y 0).val < m → f y = A (y 0).val (ValueIdx.ix1 ⟨(y 1).val, (y 1).isLt⟩)

/-- A row of the sums that is filled to its end is done, and the next one is begun. -/
theorem goodU_next {A : ℕ → Acc F} {m : ℕ} {f : S32x512.Idx → F .f32} (h : GoodU A m 32 f) : GoodU A (m + 1) 0 f := by
  intro y hy
  have h1 : (y 1).val < 512 := (y 1).isLt
  exact h y (by omega)

/-- Sixteen lanes as a row. -/
theorem shapeCast_row (w : FVec F S16 .f32) (y : S1x16.Idx) : shapeCast S1x16 w shapeCasts_S16_S1x16 y = w (ValueIdx.ix1 ⟨(y 1).val, (y 1).isLt⟩) := by
  refine (shapeCast_addUnit_apply ![16] w shapeCasts_S16_S1x16 y).trans (congrArg w (funext fun a => ?_))
  match a with
  | 0 => rfl

/-- Storing a chunk of a row. -/
theorem goodU_store (A : ℕ → Acc F) (m : ℕ) (f : S32x512.Idx → F .f32) (c : Fin 32) (off : Fin 2 → ℕ) (inb : ∀ a, off a + S1x16.size a ≤ S32x512.size a) (l : List (View.Piece (Elt F) S32x512 .f32))
    (hoff : off = ![m, 16 * c.val]) (w : S1x16.Idx → F .f32) (hw : w = shapeCast S1x16 (A m c) shapeCasts_S16_S1x16)
    (hf : GoodU A m c.val ((bU).view.writes (Elt F) f l)) :
    GoodU A m (c.val + 1) ((bU).view.writes (Elt F) f (⟨Rect.unit (s := S32x512) off S1x16.size inb, w⟩ :: l)) := by
  subst hoff hw
  intro y hy
  have h1 : (y 1).val < 512 := (y 1).isLt
  by_cases h0 : (y 0).val < m
  · refine Eq.trans ?_ (hf y (Or.inl h0))
    exact View.read_writes_cons_miss_of_axis (v := (bU).view) (Val := Elt F) (f := f) _ l y 0 m 1 rfl rfl rfl (Or.inl h0)
  · obtain ⟨e0, e1⟩ : (y 0).val = m ∧ (y 1).val < 16 * (c.val + 1) := by omega
    by_cases hc : (y 1).val < 16 * c.val
    · refine Eq.trans ?_ (hf y (Or.inr ⟨e0, hc⟩))
      exact View.read_writes_cons_miss_of_axis (v := (bU).view) (Val := Elt F) (f := f) _ l y 1 (16 * c.val) 16 rfl rfl rfl (Or.inl hc)
    · have hy' : (y 1).val - 16 * c.val < 16 := by omega
      refine (View.read_writes_cons_hit_of_coords (v := (bU).view) (Val := Elt F) (f := f) _ _ l (ValueIdx.ix2 ⟨0, by decide⟩ ⟨(y 1).val - 16 * c.val, hy'⟩ : S1x16.Idx) y ?_).trans ?_
      · intro a
        match a with
        | 0 => show (y 0).val = m + 1 * 0; omega
        | 1 => show (y 1).val = 16 * c.val + 1 * ((y 1).val - 16 * c.val); omega
      · rw [shapeCast_row]
        have hq : (⟨(y 1).val / 16, by omega⟩ : Fin 32) = c := Fin.ext (show (y 1).val / 16 = c.val by omega)
        rw [e0, hq]
        exact congrArg (A m c) (congrArg ValueIdx.ix1 (Fin.ext (show (y 1).val - 16 * c.val = (y 1).val % 16 by omega)))

/-- Storing a row's weights' sum. -/
theorem goodD_store (A : ℕ → FVec F S16 .f32) (m : ℕ) (f : S32x16.Idx → F .f32) (off : Fin 2 → ℕ) (inb : ∀ a, off a + S1x16.size a ≤ S32x16.size a)
    (hoff : off = ![m, 0]) (w : S1x16.Idx → F .f32) (hw : w = shapeCast S1x16 (A m) shapeCasts_S16_S1x16) (hf : GoodD A m f) :
    GoodD A (m + 1) ((bD).view.writes (Elt F) f [⟨Rect.unit (s := S32x16) off S1x16.size inb, w⟩]) := by
  subst hoff hw
  intro y hy
  have h1 : (y 1).val < 16 := (y 1).isLt
  by_cases h0 : (y 0).val < m
  · refine Eq.trans ?_ (hf y h0)
    exact View.read_writes_cons_miss_of_axis (v := (bD).view) (Val := Elt F) (f := f) _ [] y 0 m 1 rfl rfl rfl (Or.inl h0)
  · obtain e0 : (y 0).val = m := by omega
    refine (View.read_writes_cons_hit_of_coords (v := (bD).view) (Val := Elt F) (f := f) _ _ [] (ValueIdx.ix2 ⟨0, by decide⟩ ⟨(y 1).val, h1⟩ : S1x16.Idx) y ?_).trans ?_
    · intro a
      match a with
      | 0 => show (y 0).val = m + 1 * 0; omega
      | 1 => show (y 1).val = 0 + 1 * (y 1).val; omega
    · rw [shapeCast_row, e0]

section Parts

variable (d : Dev nD) (L : grid1.Coords) (q q' : PosShare TreeShare)
  (x : S50000x512.Idx → F .f32) (t : S50000.Idx → F .f32) (ids : S50000.Idx → BitVec 32) (s : S1024.Idx → F .f32) (O : CellTallies nD τ sig (SparseCore.Cfg.HIx 1))

/-- The sums' scratch, known only by what it holds so far. -/
theorem exists_goodU (A : ℕ → Acc F) (m c : ℕ) (f : S32x512.Idx → F .f32) (h : GoodU A m c f) :
    (((bU).view.loc (V d (cV L) (jV L)) ↦{fullShare} f : sProp 𝕄)
      ⊢ iprop(∃ f' : S32x512.Idx → F .f32, ⌜GoodU A m c f'⌝ ∗ ((bU).view.loc (V d (cV L) (jV L)) ↦{fullShare} f'))) := by
  iintro H
  iexists f
  isplitr
  · ipureintro; exact h
  · iexact H

/-- The denominators' scratch, known only by what it holds so far. -/
theorem exists_goodD (A : ℕ → FVec F S16 .f32) (m : ℕ) (f : S32x16.Idx → F .f32) (h : GoodD A m f) :
    (((bD).view.loc (V d (cV L) (jV L)) ↦{fullShare} f : sProp 𝕄)
      ⊢ iprop(∃ f' : S32x16.Idx → F .f32, ⌜GoodD A m f'⌝ ∗ ((bD).view.loc (V d (cV L) (jV L)) ↦{fullShare} f'))) := by
  iintro H
  iexists f
  isplitr
  · ipureintro; exact h
  · iexact H

/-- Before trip `k` of a graph's block loop. -/
def blocksInv (g lo k : ℕ) (acc : BitVec 32 × BitVec 32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = cst (after x ids t s g lo k)⌝ ∗ tripRes d L q q' x t ids O)

/-- Between graphs: the scores, and the first `m` graphs' rows. -/
def graphRes (U : ℕ → Acc F) (D : ℕ → FVec F S16 .f32) (m : ℕ) : sProp 𝕄 :=
  iprop(tripRes d L q q' x t ids O ∗ ((bS).view.loc (V d (cV L) (jV L)) ↦{fullShare} s)
    ∗ (∃ fU : S32x512.Idx → F .f32, ⌜GoodU U m 0 fU⌝ ∗ ((bU).view.loc (V d (cV L) (jV L)) ↦{fullShare} fU))
    ∗ ∃ fD : S32x16.Idx → F .f32, ⌜GoodD D m fD⌝ ∗ ((bD).view.loc (V d (cV L) (jV L)) ↦{fullShare} fD))

/-- The loop's counter is its trip's number. -/
theorem iv_word {k : ℕ} : Scf.iv 0#32 1#32 k = W k := by
  simp only [Scf.iv, W]
  simp

/-- One graph: its block loop from row `lo` on, then its row of weighted sums and its weights' sum. -/
theorem graph_wp (gb lo : ℕ) (hgb : gb + 32 ≤ 1024) (hlo : lo ≤ 50000) (k : Fin k1_t1_loop.trips) (U : ℕ → Acc F) (D : ℕ → FVec F S16 .f32)
    (hU : U k.val = (after x ids t s (gb + k.val) lo 523).a) (hD : D k.val = (after x ids t s (gb + k.val) lo 523).d) (v227 v228 : BitVec 32) (v232 : Vec F S16 .i32) :
    graphRes d L q q' x t ids s O U D k.val
    ⊢ wp frame (wpE (defs₀ (F := F)) 𝒱₀ (V d (cV L) (jV L)) none) Set.univ
        (k1_t1_body L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) lanes v227 v228 v232 k (W lo))
        fun r => iprop(⌜r = W (after x ids t s (gb + k.val) lo 523).ptr⌝ ∗ graphRes d L q q' x t ids s O U D (k.val + 1)) := by
  unfold k1_t1_body
  rw [k1_part11_eq_skeleton]
  unfold k1_part11_skel
  rw [k1_part9_eq_skeleton, k1_part10_eq_skeleton]
  unfold k1_part9_skel k1_part10_skel
  conv => rhs; simp only [vectorLoadIdx_eq, bind_assoc]
  unfold graphRes
  iintro ⟨HR, HS, ⟨%fU, %hfU, HU⟩, %fD, %hfD, HD⟩
  have hk : k.val < 32 := k.isLt
  have hg : Scalar.addi (W gb) (Scf.iv 0#32 1#32 k.val) = W (gb + k.val) := by rw [iv_word, addi_W]
  have h17 : k1_chk17 (broadcast S16 (Scalar.addi (W gb) (Scf.iv 0#32 1#32 k.val))) := by
    intro a y
    obtain rfl : a = 0 := Subsingleton.elim _ _
    show (Scalar.addi (W gb) (Scf.iv 0#32 1#32 k.val)).toNat < 1024
    rw [hg, W_toNat (by omega)]
    omega
  have hsv : loadIdx (View.readAt (Elt F) (bS).view (LoadRect.whole S1024) s) ![broadcast S16 (Scalar.addi (W gb) (Scf.iv 0#32 1#32 k.val))] h17 = score s (gb + k.val) := by
    funext y
    show s _ = s _
    refine congrArg s (funext fun a => Fin.ext ?_)
    match a with
    | 0 =>
      show 0 + 1 * (Scalar.addi (W gb) (Scf.iv 0#32 1#32 k.val)).toNat = (gb + k.val) % 1024
      rw [hg, W_toNat (by omega)]
      omega
  sl_exec
  sl_for (blocksInv d L q q' x t ids s O (gb + k.val) lo) $$ [HR]
  case region =>
    intro k2 acc
    unfold blocksInv
    iintro ⟨%hacc, HR⟩
    subst hacc
    have ht := trip_wp d L q q' x t ids O (Scalar.addi (W gb) (Scf.iv 0#32 1#32 k.val)) (loadIdx (View.readAt (Elt F) (bS).view (LoadRect.whole S1024) s) ![broadcast S16 (Scalar.addi (W gb) (Scf.iv 0#32 1#32 k.val))] h17)
      (W gb) (0#32) (1#32) k (W lo) k2 (after x ids t s (gb + k.val) lo k2.val) (after_ptr x ids t s _ hlo _)
    iapply (wp_wand_r frame _ Set.univ)
    isplitl [HR]
    · iapply ht
      iexact HR
    iintro %r ⟨%hr, HR⟩
    isplitr
    · ipureintro
      rw [hr, hsv, hg]
      unfold after
      rw [Function.iterate_succ_apply']
    · iexact HR
  · unfold blocksInv
    isplitr
    · ipureintro; rfl
    · iexact HR
  iintro %acc HI
  unfold blocksInv
  icases HI with ⟨%hacc, HR⟩
  have hacc' : acc = cst (after x ids t s (gb + k.val) lo 523) := hacc
  clear hacc
  subst hacc'
  revert hU hD
  generalize after x ids t s (gb + k.val) lo 523 = z
  obtain ⟨go, p, dd, a⟩ := z
  intro hU hD
  sl_exec
  sl_step
  have step (c : Fin 32) (off : Fin 2 → ℕ) (inb : ∀ a, off a + S1x16.size a ≤ S32x512.size a) (l : List (View.Piece (Elt F) S32x512 .f32))
      (hoff : off = ![k.val, 16 * c.val]) (w : S1x16.Idx → F .f32) (hw : w = shapeCast S1x16 (a c) shapeCasts_S16_S1x16)
      (hf : GoodU U k.val c.val ((bU).view.writes (Elt F) fU l)) :=
    goodU_store U k.val fU c off inb l hoff w (by rw [hw, hU]) hf
  isplitr
  · ipureintro; rfl
  isplitl [HR]
  · iexact HR
  isplitl [HS]
  · iexact HS
  isplitl [HU]
  · iapply (exists_goodU d L U (k.val + 1) 0 _ (goodU_next
      (step 31 _ _ _ (k1_off66_eq k) _ rfl
      (step 30 _ _ _ (k1_off65_eq k) _ rfl
      (step 29 _ _ _ (k1_off64_eq k) _ rfl
      (step 28 _ _ _ (k1_off63_eq k) _ rfl
      (step 27 _ _ _ (k1_off62_eq k) _ rfl
      (step 26 _ _ _ (k1_off61_eq k) _ rfl
      (step 25 _ _ _ (k1_off60_eq k) _ rfl
      (step 24 _ _ _ (k1_off59_eq k) _ rfl
      (step 23 _ _ _ (k1_off58_eq k) _ rfl
      (step 22 _ _ _ (k1_off57_eq k) _ rfl
      (step 21 _ _ _ (k1_off56_eq k) _ rfl
      (step 20 _ _ _ (k1_off55_eq k) _ rfl
      (step 19 _ _ _ (k1_off54_eq k) _ rfl
      (step 18 _ _ _ (k1_off53_eq k) _ rfl
      (step 17 _ _ _ (k1_off52_eq k) _ rfl
      (step 16 _ _ _ (k1_off51_eq k) _ rfl
      (step 15 _ _ _ (k1_off50_eq k) _ rfl
      (step 14 _ _ _ (k1_off49_eq k) _ rfl
      (step 13 _ _ _ (k1_off48_eq k) _ rfl
      (step 12 _ _ _ (k1_off47_eq k) _ rfl
      (step 11 _ _ _ (k1_off46_eq k) _ rfl
      (step 10 _ _ _ (k1_off45_eq k) _ rfl
      (step 9 _ _ _ (k1_off44_eq k) _ rfl
      (step 8 _ _ _ (k1_off43_eq k) _ rfl
      (step 7 _ _ _ (k1_off42_eq k) _ rfl
      (step 6 _ _ _ (k1_off41_eq k) _ rfl
      (step 5 _ _ _ (k1_off40_eq k) _ rfl
      (step 4 _ _ _ (k1_off39_eq k) _ rfl
      (step 3 _ _ _ (k1_off38_eq k) _ rfl
      (step 2 _ _ _ (k1_off37_eq k) _ rfl
      (step 1 _ _ _ (k1_off36_eq k) _ rfl
      (step 0 _ _ [] (k1_off35_eq k) _ rfl
      hfU))))))))))))))))))))))))))))))))))
    iexact HU
  · iapply (exists_goodD d L D (k.val + 1) _ (goodD_store D k.val fD _ _ (k1_off67_eq k) _ (by rw [hD]) hfD))
    iexact HD

end Parts

end Cert.Proof.Pool

end
-- ==== Proof.Search.lean ====
module

public import proofs.«01_k».proof.Proof.Graph2

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-! ## The search for the tile's first row -/

section Search

variable (ids : S50000.Idx → BitVec 32) (gb : ℕ)

/-- The id of row `p`, the last row's from there on. -/
def idAt (p : ℕ) : BitVec 32 := ids (ValueIdx.ix1 ⟨min p 49999, by omega⟩)

/-- The search's bound after `j` of its steps. -/
def lows : ℕ → ℕ
  | 0 => 0
  | j + 1 => if lows j + 2 ^ (15 - j) ≤ 50000 ∧ (idAt ids (lows j + 2 ^ (15 - j) - 1)).toInt < gb then lows j + 2 ^ (15 - j) else lows j

/-- The search's lower bound stays in range. -/
theorem lows_le (j : ℕ) : lows ids gb j ≤ 50000 := by
  induction j with
  | zero => exact Nat.zero_le _
  | succ j ih =>
    rw [lows]
    split
    · omega
    · exact ih

/-- What step `j` reads. -/
def got (j : ℕ) : Vec F S16 .i32 := fun _ => idAt ids (lows ids gb j + 2 ^ (15 - j) - 1)

/-- Step `j`'s test, as the body computes it. -/
abbrev test (pay : Vec F S16 .i32 → IVec S16 32) (w : BitVec 32) (j : ℕ) : BitVec 1 :=
  Scalar.andi (Scalar.cmpi .sle (Scalar.addi (W (lows ids gb j)) w) 50000#32) (Scalar.cmpi .slt (extractAt ![15] (pay (got ids gb j)) inpos_S16_p15) (W gb))

/-- The search's stride is between one and 32768. -/
theorem pow_pos_le (j : ℕ) : 1 ≤ 2 ^ (15 - j) ∧ 2 ^ (15 - j) ≤ 32768 := by
  refine ⟨Nat.one_le_two_pow, ?_⟩
  calc 2 ^ (15 - j) ≤ 2 ^ 15 := Nat.pow_le_pow_right (by omega) (by omega)
    _ = 32768 := rfl

/-- A step of the search, on words, is the step on numbers. -/
theorem step_word (hgb : gb ≤ 1024) (j j' : ℕ) (hj : j' = j + 1) (pay : Vec F S16 .i32 → IVec S16 32)
    (hpay : ∀ v, pay v = xori (scan .max (xori v (broadcast S16 2147483648#32))) (broadcast S16 2147483648#32)) (w : BitVec 32) (hw : w = W (2 ^ (15 - j))) :
    Scalar.select (test ids gb pay w j) (Scalar.addi (W (lows ids gb j)) w) (W (lows ids gb j)) = W (lows ids gb j') := by
  subst hj
  obtain ⟨h1, h2⟩ := pow_pos_le j
  have hl := lows_le ids gb j
  have hb : test (F := F) ids gb pay w j = bit (lows ids gb j + 2 ^ (15 - j) ≤ 50000 ∧ (idAt ids (lows ids gb j + 2 ^ (15 - j) - 1)).toInt < gb) := by
    unfold test
    rw [hpay, max_const (got (F := F) ids gb j) (idAt ids (lows ids gb j + 2 ^ (15 - j) - 1)) (fun _ => rfl), hw, addi_W,
      show Scalar.cmpi .sle (W (lows ids gb j + 2 ^ (15 - j))) 50000#32 = _ from cmpi_sle_W (n := 50000) (by omega) (by omega)]
    refine eq_bit ?_
    rw [show ∀ a b : BitVec 1, Scalar.andi a b = 1#1 ↔ a = 1#1 ∧ b = 1#1 from by decide, bit_eq_one, show Scalar.cmpi .slt (idAt ids (lows ids gb j + 2 ^ (15 - j) - 1)) (W gb) = 1#1 ↔ _ from IntOp.cmpi_slt, W_toInt (by omega)]
  rw [hb, lows]
  by_cases hc : lows ids gb j + 2 ^ (15 - j) ≤ 50000 ∧ (idAt ids (lows ids gb j + 2 ^ (15 - j) - 1)).toInt < gb
  · rw [if_pos hc, bit_eq_one.2 hc, hw, addi_W]; exact ValueIdx.select_one _ _
  · rw [if_neg hc, show bit _ = 0#1 from by rw [bit, decide_eq_false hc]; rfl]; exact ValueIdx.select_zero _ _

end Search

section Parts

variable (d : Dev nD) (L : grid1.Coords) (ids : S50000.Idx → BitVec 32) (gb : ℕ)

/-- The tile's copy of the ids. -/
def idRes : sProp 𝕄 := iprop((bI).view.loc (V d (cV L) (jV L)) ↦{fullShare} ids)

/-- One probe: the bound's word, the index in range, the id read. -/
theorem probe_wp (j : ℕ) (l w : BitVec 32) (hl : l = W (lows ids gb j)) (hw : w = W (2 ^ (15 - j)))
    (chk : IVec S16 32 → Prop) (dec : ∀ v, Decidable (chk v)) (inb : ∀ v, chk v → ∀ a x, ((![v] : Fin 1 → IVec S16 32) a x).toNat < S50000.size a)
    (hchk : ∀ v : IVec S16 32, (∀ a x, ((![v] : Fin 1 → IVec S16 32) a x).toNat < S50000.size a) → chk v) (hld : (bI).view.Loads)
    {β : Type} (k : Vec F S16 .i32 → Prog (TpuEff nD τ sig (Elt F) Λ₀ (V d (cV L) (jV L)).2) β) (Q : β → sProp 𝕄) :
    iprop(idRes (F := F) d L ids ∗ (idRes (F := F) d L ids -∗ wp frame (wpE (defs₀ (F := F)) 𝒱₀ (V d (cV L) (jV L)) none) Set.univ (k (got ids gb j)) Q))
      ⊢ wp frame (wpE (defs₀ (F := F)) 𝒱₀ (V d (cV L) (jV L)) none) Set.univ
        (Prog.lift (TpuEff.assume (chk (broadcast S16 (Scalar.minsi (Scalar.subi (Scalar.addi l w) 1#32) 49999#32))) (dec _)) >>= fun h =>
          SparseCore.vectorLoadIdx bI ![broadcast S16 (Scalar.minsi (Scalar.subi (Scalar.addi l w) 1#32) 49999#32)] (inb _ h.down) hld >>= k) Q := by
  obtain ⟨h1, h2⟩ := pow_pos_le j
  have hj := lows_le ids gb j
  have hp : Scalar.minsi (Scalar.subi (Scalar.addi l w) 1#32) 49999#32 = W (min (lows ids gb j + 2 ^ (15 - j) - 1) 49999) := by
    rw [hl, hw, addi_W, show Scalar.subi (W (lows ids gb j + 2 ^ (15 - j))) 1#32 = _ from subi_W (n := 1) (by omega) (by omega)]
    exact minsi_W (n := 49999) (by omega) (by omega)
  rw [hp]
  have hin : ∀ a x, ((![broadcast S16 (W (min (lows ids gb j + 2 ^ (15 - j) - 1) 49999))] : Fin 1 → IVec S16 32) a x).toNat < S50000.size a := by
    intro a x
    obtain rfl : a = 0 := Subsingleton.elim _ _
    show (W (min (lows ids gb j + 2 ^ (15 - j) - 1) 49999)).toNat < 50000
    rw [W_toNat (by omega)]
    omega
  have hc := hchk _ hin
  have hv : loadIdx (F := F) (e := .i32) (View.readAt (Elt F) (bI).view (LoadRect.whole S50000) ids) ![broadcast S16 (W (min (lows ids gb j + 2 ^ (15 - j) - 1) 49999))] hin = got (F := F) ids gb j := by
    funext y
    show ids _ = ids _
    refine congrArg ids (funext fun a => Fin.ext ?_)
    match a with
    | 0 =>
      show 0 + 1 * (W (min (lows ids gb j + 2 ^ (15 - j) - 1) 49999)).toNat = min (lows ids gb j + 2 ^ (15 - j) - 1) 49999
      rw [W_toNat (by omega)]
      omega
  conv => rhs; simp only [vectorLoadIdx_eq, bind_assoc]
  unfold idRes
  iintro ⟨HI, Hk⟩
  sl_exec
  rw [hv]
  iapply Hk
  iexact HI

/-- Steps 1 to 3 of the search, and what step 4 reads. -/
theorem part13_wp (hgb : gb ≤ 1024) :
    idRes (F := F) d L ids
    ⊢ wp frame (wpE (defs₀ (F := F)) 𝒱₀ (V d (cV L) (jV L)) none) Set.univ
        (k1_part13 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) (W (lows ids gb 1)) (test ids gb (k1_pay69 (F := F)) 16384#32 1))
        fun r => iprop(⌜r = ⟨W (lows ids gb 4), Scalar.addi (W (lows ids gb 4)) 2048#32, got (F := F) ids gb 4⟩⌝ ∗ idRes (F := F) d L ids) := by
  rw [k1_part13_eq_skeleton]
  unfold k1_part13_skel
  dsimp only
  rw [step_word ids gb hgb 1 2 rfl (k1_pay69 (F := F)) (fun _ => rfl) 16384#32 rfl]
  iintro H
  iapply (probe_wp d L ids gb 2 (W (lows ids gb 2)) 8192#32 rfl rfl k1_chk3 _ k1_idx3_inb (fun _ h => h) _ _ _)
  isplitl [H]; · iexact H
  iintro H
  rw [step_word ids gb hgb 2 3 rfl (k1_pay70 (F := F)) (fun _ => rfl) 8192#32 rfl]
  iapply (probe_wp d L ids gb 3 (W (lows ids gb 3)) 4096#32 rfl rfl k1_chk4 _ k1_idx4_inb (fun _ h => h) _ _ _)
  isplitl [H]; · iexact H
  iintro H
  rw [step_word ids gb hgb 3 4 rfl (k1_pay71 (F := F)) (fun _ => rfl) 4096#32 rfl]
  iapply (probe_wp d L ids gb 4 (W (lows ids gb 4)) 2048#32 rfl rfl k1_chk5 _ k1_idx5_inb (fun _ h => h) _ _ _)
  isplitl [H]; · iexact H
  iintro H
  sl_step
  isplitr
  · ipureintro; rfl
  · iexact H

/-- Steps 4 and 5 of the search, and step 6's test. -/
theorem part14_wp (hgb : gb ≤ 1024) :
    idRes (F := F) d L ids
    ⊢ wp frame (wpE (defs₀ (F := F)) 𝒱₀ (V d (cV L) (jV L)) none) Set.univ
        (k1_part14 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) (W (lows ids gb 4)) (Scalar.addi (W (lows ids gb 4)) 2048#32) (got (F := F) ids gb 4))
        fun r => iprop(⌜r = ⟨W (lows ids gb 6), test ids gb (k1_pay74 (F := F)) 512#32 6⟩⌝ ∗ idRes (F := F) d L ids) := by
  rw [k1_part14_eq_skeleton]
  unfold k1_part14_skel
  dsimp only
  rw [step_word ids gb hgb 4 5 rfl (k1_pay72 (F := F)) (fun _ => rfl) 2048#32 rfl]
  iintro H
  iapply (probe_wp d L ids gb 5 (W (lows ids gb 5)) 1024#32 rfl rfl k1_chk6 _ k1_idx6_inb (fun _ h => h) _ _ _)
  isplitl [H]; · iexact H
  iintro H
  rw [step_word ids gb hgb 5 6 rfl (k1_pay73 (F := F)) (fun _ => rfl) 1024#32 rfl]
  iapply (probe_wp d L ids gb 6 (W (lows ids gb 6)) 512#32 rfl rfl k1_chk7 _ k1_idx7_inb (fun _ h => h) _ _ _)
  isplitl [H]; · iexact H
  iintro H
  sl_step
  isplitr
  · ipureintro; rfl
  · iexact H

/-- Steps 6 to 8 of the search, and what step 9 reads. -/
theorem part15_wp (hgb : gb ≤ 1024) :
    idRes (F := F) d L ids
    ⊢ wp frame (wpE (defs₀ (F := F)) 𝒱₀ (V d (cV L) (jV L)) none) Set.univ
        (k1_part15 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) (W (lows ids gb 6)) (test ids gb (k1_pay74 (F := F)) 512#32 6))
        fun r => iprop(⌜r = ⟨W (lows ids gb 9), Scalar.addi (W (lows ids gb 9)) 64#32, got (F := F) ids gb 9⟩⌝ ∗ idRes (F := F) d L ids) := by
  rw [k1_part15_eq_skeleton]
  unfold k1_part15_skel
  dsimp only
  rw [step_word ids gb hgb 6 7 rfl (k1_pay74 (F := F)) (fun _ => rfl) 512#32 rfl]
  iintro H
  iapply (probe_wp d L ids gb 7 (W (lows ids gb 7)) 256#32 rfl rfl k1_chk8 _ k1_idx8_inb (fun _ h => h) _ _ _)
  isplitl [H]; · iexact H
  iintro H
  rw [step_word ids gb hgb 7 8 rfl (k1_pay75 (F := F)) (fun _ => rfl) 256#32 rfl]
  iapply (probe_wp d L ids gb 8 (W (lows ids gb 8)) 128#32 rfl rfl k1_chk9 _ k1_idx9_inb (fun _ h => h) _ _ _)
  isplitl [H]; · iexact H
  iintro H
  rw [step_word ids gb hgb 8 9 rfl (k1_pay76 (F := F)) (fun _ => rfl) 128#32 rfl]
  iapply (probe_wp d L ids gb 9 (W (lows ids gb 9)) 64#32 rfl rfl k1_chk10 _ k1_idx10_inb (fun _ h => h) _ _ _)
  isplitl [H]; · iexact H
  iintro H
  sl_step
  isplitr
  · ipureintro; rfl
  · iexact H

/-- Steps 9 and 10 of the search, and step 11's test. -/
theorem part16_wp (hgb : gb ≤ 1024) :
    idRes (F := F) d L ids
    ⊢ wp frame (wpE (defs₀ (F := F)) 𝒱₀ (V d (cV L) (jV L)) none) Set.univ
        (k1_part16 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) (W (lows ids gb 9)) (Scalar.addi (W (lows ids gb 9)) 64#32) (got (F := F) ids gb 9))
        fun r => iprop(⌜r = ⟨W (lows ids gb 11), test ids gb (k1_pay79 (F := F)) 16#32 11⟩⌝ ∗ idRes (F := F) d L ids) := by
  rw [k1_part16_eq_skeleton]
  unfold k1_part16_skel
  dsimp only
  rw [step_word ids gb hgb 9 10 rfl (k1_pay77 (F := F)) (fun _ => rfl) 64#32 rfl]
  iintro H
  iapply (probe_wp d L ids gb 10 (W (lows ids gb 10)) 32#32 rfl rfl k1_chk11 _ k1_idx11_inb (fun _ h => h) _ _ _)
  isplitl [H]; · iexact H
  iintro H
  rw [step_word ids gb hgb 10 11 rfl (k1_pay78 (F := F)) (fun _ => rfl) 32#32 rfl]
  iapply (probe_wp d L ids gb 11 (W (lows ids gb 11)) 16#32 rfl rfl k1_chk12 _ k1_idx12_inb (fun _ h => h) _ _ _)
  isplitl [H]; · iexact H
  iintro H
  sl_step
  isplitr
  · ipureintro; rfl
  · iexact H

/-- Steps 11 to 13 of the search, and what step 14 reads. -/
theorem part17_wp (hgb : gb ≤ 1024) :
    idRes (F := F) d L ids
    ⊢ wp frame (wpE (defs₀ (F := F)) 𝒱₀ (V d (cV L) (jV L)) none) Set.univ
        (k1_part17 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) (W (lows ids gb 11)) (test ids gb (k1_pay79 (F := F)) 16#32 11))
        fun r => iprop(⌜r = ⟨W (lows ids gb 14), Scalar.addi (W (lows ids gb 14)) 2#32, got (F := F) ids gb 14⟩⌝ ∗ idRes (F := F) d L ids) := by
  rw [k1_part17_eq_skeleton]
  unfold k1_part17_skel
  dsimp only
  rw [step_word ids gb hgb 11 12 rfl (k1_pay79 (F := F)) (fun _ => rfl) 16#32 rfl]
  iintro H
  iapply (probe_wp d L ids gb 12 (W (lows ids gb 12)) 8#32 rfl rfl k1_chk13 _ k1_idx13_inb (fun _ h => h) _ _ _)
  isplitl [H]; · iexact H
  iintro H
  rw [step_word ids gb hgb 12 13 rfl (k1_pay80 (F := F)) (fun _ => rfl) 8#32 rfl]
  iapply (probe_wp d L ids gb 13 (W (lows ids gb 13)) 4#32 rfl rfl k1_chk14 _ k1_idx14_inb (fun _ h => h) _ _ _)
  isplitl [H]; · iexact H
  iintro H
  rw [step_word ids gb hgb 13 14 rfl (k1_pay81 (F := F)) (fun _ => rfl) 4#32 rfl]
  iapply (probe_wp d L ids gb 14 (W (lows ids gb 14)) 2#32 rfl rfl k1_chk15 _ k1_idx15_inb (fun _ h => h) _ _ _)
  isplitl [H]; · iexact H
  iintro H
  sl_step
  isplitr
  · ipureintro; rfl
  · iexact H

end Parts

end Cert.Proof.Pool

end
-- ==== Proof.Tile.lean ====
module

public import proofs.«01_k».proof.Proof.Search

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

section Parts

variable (d : Dev nD) (L : grid1.Coords) (q q' qi qs : PosShare TreeShare)
  (x : S50000x512.Idx → F .f32) (t : S50000.Idx → F .f32) (ids : S50000.Idx → BitVec 32) (s : S1024.Idx → F .f32) (O : CellTallies nD τ sig (SparseCore.Cfg.HIx 1))

/-- The tile's first graph. -/
abbrev base : ℕ := ((L 0).val * 16 + (L 1).val) * 32

/-- The tile's 32 graphs are within the 1024. -/
theorem base_le : base L + 32 ≤ 1024 := by
  have h0 : (L 0).val < 2 := (L 0).isLt
  have h1 : (L 1).val < 16 := (L 1).isLt
  unfold base; omega

/-- The tile's first graph, as the body computes it. -/
theorem base_word : Scalar.muli (Scalar.addi (Scalar.muli (BitVec.ofNat 32 (L 0).val) 16#32) (BitVec.ofNat 32 (L 1).val)) 32#32 = W (base L) := by
  show Scalar.muli (Scalar.addi (Scalar.muli (W (L 0).val) (W 16)) (W (L 1).val)) (W 32) = _
  rw [muli_W, addi_W, muli_W]

/-- One read of the search, its index in range. -/
theorem load_wp (gb j : ℕ) (v : IVec S16 32) (hv : v = broadcast S16 (W (min (lows ids gb j + 2 ^ (15 - j) - 1) 49999))) (hin : ∀ a x, ((![v] : Fin 1 → IVec S16 32) a x).toNat < S50000.size a) (hld : (bI).view.Loads)
    {β : Type} (k : Vec F S16 .i32 → Prog (TpuEff nD τ sig (Elt F) Λ₀ (V d (cV L) (jV L)).2) β) (Q : β → sProp 𝕄) :
    iprop(idRes (F := F) d L ids ∗ (idRes (F := F) d L ids -∗ wp frame (wpE (defs₀ (F := F)) 𝒱₀ (V d (cV L) (jV L)) none) Set.univ (k (got ids gb j)) Q))
      ⊢ wp frame (wpE (defs₀ (F := F)) 𝒱₀ (V d (cV L) (jV L)) none) Set.univ (SparseCore.vectorLoadIdx bI ![v] hin hld >>= k) Q := by
  obtain ⟨h1, h2⟩ := pow_pos_le j
  have hj := lows_le ids gb j
  have hg : loadIdx (F := F) (e := .i32) (View.readAt (Elt F) (bI).view (LoadRect.whole S50000) ids) ![v] hin = got (F := F) ids gb j := by
    subst hv
    funext y
    show ids _ = ids _
    refine congrArg ids (funext fun a => Fin.ext ?_)
    match a with
    | 0 =>
      show 0 + 1 * (W (min (lows ids gb j + 2 ^ (15 - j) - 1) 49999)).toNat = min (lows ids gb j + 2 ^ (15 - j) - 1) 49999
      rw [W_toNat (by omega)]
      omega
  conv => rhs; simp only [vectorLoadIdx_eq, bind_assoc]
  unfold idRes
  iintro ⟨HI, Hk⟩
  sl_exec
  rw [hg]
  iapply Hk
  iexact HI

/-- A return leaves what it is given. -/
theorem ret_wp {β : Type} (a : β) (Q : β → sProp 𝕄) : Q a ⊢ wp frame (wpE (defs₀ (F := F)) 𝒱₀ (V d (cV L) (jV L)) none) Set.univ (Prog.ret a) Q := by
  iintro H
  sl_step
  iexact H

/-- The ids' scratch after the copy. -/
theorem copied_I (f : S50000.Idx → BitVec 32) (w : S50000.Idx → BitVec 32) (hw : w = ids) :
    ((bI).view.loc (V d (cV L) (jV L)) ↦{fullShare} View.write (Elt F) (bI).view f w Finset.univ : sProp 𝕄) ⊢ idRes (F := F) d L ids := by
  subst hw
  exact Entails.of_eq (congrArg (fun f => ((bI).view.loc (V d (cV L) (jV L)) ↦{fullShare} f : sProp 𝕄)) (View.write_whole_univ _ _ _))

/-- The graphs' scores' scratch after the copy. -/
theorem copied_S (f : S1024.Idx → F .f32) (w : S1024.Idx → F .f32) (hw : w = s) :
    ((bS).view.loc (V d (cV L) (jV L)) ↦{fullShare} View.write (Elt F) (bS).view f w Finset.univ : sProp 𝕄) ⊢ iprop((bS).view.loc (V d (cV L) (jV L)) ↦{fullShare} s) := by
  subst hw
  exact Entails.of_eq (congrArg (fun f => ((bS).view.loc (V d (cV L) (jV L)) ↦{fullShare} f : sProp 𝕄)) (View.write_whole_univ _ _ _))

/-- The ids' and the scores' copies, and the search's first step. -/
theorem part12_wp :
    iprop(Transfers.MayWaits (V d (cV L) (jV L)) (none : SparseCore.Cfg.HIx 1) O ∗ ((iV).view.loc (V d (cV L) (jV L)) ↦{qi} ids) ∗ ((sV).view.loc (V d (cV L) (jV L)) ↦{qs} s)
      ∗ (∃ f : S50000.Idx → BitVec 32, (bI).view.loc (V d (cV L) (jV L)) ↦{fullShare} f) ∗ (∃ f : S1024.Idx → F .f32, (bS).view.loc (V d (cV L) (jV L)) ↦{fullShare} f)
      ∗ semVal (V d (cV L) (jV L), SemLoc.dma cc1_scoped0.sem) 0 ∗ semVal (V d (cV L) (jV L), SemLoc.dma cc1_scoped1.sem) 0 ∗ ∃ W', owes (V d (cV L) (jV L)) O W')
    ⊢ wp frame (wpE (defs₀ (F := F)) 𝒱₀ (V d (cV L) (jV L)) none) Set.univ
        (k1_part12 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5)
        fun r => iprop(⌜r = ⟨W (base L), lanes, W (lows ids (base L) 1), test ids (base L) (k1_pay69 (F := F)) 16384#32 1⟩⌝ ∗ idRes (F := F) d L ids
          ∗ Transfers.MayWaits (V d (cV L) (jV L)) (none : SparseCore.Cfg.HIx 1) O ∗ ((iV).view.loc (V d (cV L) (jV L)) ↦{qi} ids) ∗ ((sV).view.loc (V d (cV L) (jV L)) ↦{qs} s)
          ∗ ((bS).view.loc (V d (cV L) (jV L)) ↦{fullShare} s)
          ∗ semVal (V d (cV L) (jV L), SemLoc.dma cc1_scoped0.sem) 0 ∗ semVal (V d (cV L) (jV L), SemLoc.dma cc1_scoped1.sem) 0 ∗ ∃ W', owes (V d (cV L) (jV L)) O W') := by
  have hgb : base L ≤ 1024 := by have := base_le L; omega
  rw [k1_part12_eq_skeleton]
  unfold k1_part12_skel

  iintro ⟨#HM, HI, HS, ⟨%f0, HbI⟩, ⟨%f2, HbS⟩, Hs0, Hs1, %W0, HO⟩
  sl_exec
  rw [show part12_wp.sl.v2 L = W (base L) from base_word L]
  have eI : part12_wp.sl.dma0 (F := F) ids = ids := by
    unfold part12_wp.sl.dma0

    rfl
  have eS : part12_wp.sl.dma0_1 s = s := by
    unfold part12_wp.sl.dma0_1
    rfl
  ihave HbI' := (copied_I d L ids f0 (part12_wp.sl.dma0 (F := F) ids) eI) $$ HbI
  ihave HbS' := (copied_S d L s f2 (part12_wp.sl.dma0_1 s) eS) $$ HbS
  have h7 : part12_wp.sl.v7 = broadcast S16 (W (min (lows ids (base L) 0 + 2 ^ (15 - 0) - 1) 49999)) := by
    have e : min (lows ids (base L) 0 + 2 ^ (15 - 0) - 1) 49999 = 32767 := by rw [lows]; norm_num
    rw [e]
    rfl
  iapply (load_wp d L ids (base L) 0 part12_wp.sl.v7 h7 _ _ _ _)
  isplitl [HbI']; · iexact HbI'
  iintro HbI
  iapply (probe_wp d L ids (base L) 1 _ _ (step_word ids (base L) hgb 0 1 rfl (k1_pay68 (F := F)) (fun _ => rfl) 32768#32 rfl) rfl k1_chk2 _ k1_idx2_inb (fun _ h => h) _ _ _)
  isplitl [HbI]; · iexact HbI
  iintro HbI
  iapply (ret_wp d L _ _)
  isplitr
  · ipureintro
    have e := step_word ids (base L) hgb 0 1 rfl (k1_pay68 (F := F)) (fun _ => rfl) 32768#32 rfl
    have e0 : Scalar.cmpi .sle 32768#32 50000#32 = Scalar.cmpi .sle (Scalar.addi (W (lows ids (base L) 0)) 32768#32) 50000#32 := by
      rw [show lows ids (base L) 0 = 0 from rfl]
      decide
    have e1 : ∀ b : BitVec 1, Scalar.select b (Scalar.addi 0#32 32768#32) 0#32 = Scalar.select b (Scalar.addi (W (lows ids (base L) 0)) 32768#32) (W (lows ids (base L) 0)) := fun b => by
      rw [show lows ids (base L) 0 = 0 from rfl]
    rw [e0, e1]
    unfold test at e
    rw [e]
    rfl
  isplitl [HbI]; · iexact HbI
  isplitr; · iexact HM
  isplitl [HI]; · iexact HI
  isplitl [HS]; · iexact HS
  isplitl [HbS']; · iexact HbS'
  isplitl [Hs0]; · iexact Hs0
  isplitl [Hs1]; · iexact Hs1
  iexists _
  iexact HO

/-- The tile's accumulated rows and weights' sums. -/
def tileU (gb : ℕ) (k : ℕ) : Acc F := (fin x ids t s gb (lows ids gb 16) k).a
/-- The denominator's lanes of the tile's `k`-th graph. -/
def tileD (gb : ℕ) (k : ℕ) : FVec F S16 .f32 := (fin x ids t s gb (lows ids gb 16) k).d

/-- Before graph `k`. -/
def graphsInv (gb k : ℕ) (acc : BitVec 32) : sProp 𝕄 :=
  iprop(⌜acc = W (ptrs x ids t s gb (lows ids gb 16) k)⌝ ∗ graphRes d L q q' x t ids s O (tileU x t ids s gb) (tileD x t ids s gb) k)

/-- The tile's 32 graphs. -/
theorem graphs_wp (gb : ℕ) (hgb : gb + 32 ≤ 1024) (v227 v228 : BitVec 32) (v232 : Vec F S16 .i32) :
    graphRes d L q q' x t ids s O (tileU x t ids s gb) (tileD x t ids s gb) 0
    ⊢ wp frame (wpE (defs₀ (F := F)) 𝒱₀ (V d (cV L) (jV L)) none) Set.univ
        (Scf.Loop.for k1_t1_loop k1_t1_ok (W (lows ids gb 16)) (k1_t1_body (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W gb) lanes v227 v228 v232))
        fun _ => graphRes d L q q' x t ids s O (tileU x t ids s gb) (tileD x t ids s gb) 32 := by
  iintro HR
  sl_for (graphsInv d L q q' x t ids s O gb) $$ [HR]
  case region =>
    intro k acc
    unfold graphsInv
    iintro ⟨%hacc, HR⟩
    subst hacc
    iapply (wp_wand_r frame _ Set.univ)
    isplitl [HR]
    · iapply (graph_wp d L q q' x t ids s O gb (ptrs x ids t s gb (lows ids gb 16) k.val) hgb (ptrs_le x ids t s gb (lows_le ids gb 16) k.val) k (tileU x t ids s gb) (tileD x t ids s gb) rfl rfl v227 v228 v232)
      iexact HR
    iintro %r ⟨%hr, HR⟩
    isplitr
    · ipureintro; exact hr
    · iexact HR
  unfold graphsInv
  isplitl [HR]
  · isplitr
    · ipureintro; rfl
    · iexact HR
  iintro %acc ⟨%hacc, HR⟩
  iexact HR

/-- The tile's rows of the two results. -/
abbrev uK : Memref sig .scVector .hbm S32x512 .f32 := (uV).slice (Rect.unit (s := S1024x512) (k1_off68 L) S32x512.size (k1_off68_inb L)) (fun _ => rfl)
/-- The tile's rows of the denominators, as its last copy's destination. -/
abbrev dK : Memref sig .scVector .hbm S32x16 .f32 := (dV).slice (Rect.unit (s := S1024x16) (k1_off69 L) S32x16.size (k1_off69_inb L)) (fun _ => rfl)

/-- The SparseCore call's two results. -/
def allU : S1024x512.Idx → F .f32 := fun y =>
  tileU x t ids s ((y 0).val / 32 * 32) ((y 0).val % 32) ⟨(y 1).val / 16, by have : (y 1).val < 512 := (y 1).isLt; omega⟩ (ValueIdx.ix1 ⟨(y 1).val % 16, by omega⟩)
/-- Every graph's denominator's lanes. -/
def allD : S1024x16.Idx → F .f32 := fun y =>
  tileD x t ids s ((y 0).val / 32 * 32) ((y 0).val % 32) (ValueIdx.ix1 ⟨(y 1).val, (y 1).isLt⟩)

/-- The sums' row of a tile's `k`-th graph. -/
theorem allU_at (b k j : ℕ) (hj : j < 512) (hb : b / 32 * 32 = b) (hk : k < 32) (z : S1024x512.Idx) (h0 : (z 0).val = b + k) (h1 : (z 1).val = j) :
    allU x t ids s z = tileU x t ids s b k ⟨j / 16, by omega⟩ (ValueIdx.ix1 ⟨j % 16, by omega⟩) := by
  subst h1
  have eb : (b + k) / 32 * 32 = b := by omega
  have em : (b + k) % 32 = k := by omega
  unfold allU
  rw [h0, eb, em]

/-- A view's elements after a whole copy into it hold whatever reads as what was copied. -/
theorem pts_written {sp : Space} {S : Shape} {e : EltTy} (m : Memref sig .scVector sp S e) (f g : m.view.ty.Contents (Elt F)) (w : S.Idx → Elt F e)
    (h : ∀ y, m.view.read (Elt F) g y = w y) :
    (m.view.loc (V d (cV L) (jV L)) ↦[m.view.set]{fullShare} m.view.writes (Elt F) f [⟨Rect.whole S, w⟩] : sProp 𝕄)
      ⊢ iprop(m.view.loc (V d (cV L) (jV L)) ↦[m.view.set]{fullShare} g) := by
  refine Entails.of_eq (pointsTo_congr ?_)
  intro i hi
  obtain ⟨y, rfl⟩ := View.exists_emb_of_mem_set _ hi
  exact (cast_inj (congrArg (Elt F) m.view.elt_eq)).mp ((congrFun (View.read_writes_whole (Val := Elt F) m.view f w) y).trans (h y).symm)

/-- The tile's rows of the first result, once its copy of them is out. -/
theorem written_U (fu : S1024x512.Idx → F .f32) (w fU : S32x512.Idx → F .f32) (hw : w = fU) (hU : GoodU (tileU x t ids s (base L)) 32 0 fU) :
    ((uK L).view.loc (V d (cV L) (jV L)) ↦[(uK L).view.set]{fullShare} (uK L).view.writes (Elt F) fu [⟨Rect.whole S32x512, w⟩] : sProp 𝕄)
      ⊢ iprop((uK L).view.loc (V d (cV L) (jV L)) ↦[(uK L).view.set]{fullShare} (allU x t ids s)) := by
  subst hw
  refine pts_written d L (uK L) fu _ w fun y => ?_
  have h0 : (y 0).val < 32 := (y 0).isLt
  have e0 : (((uK L).view.emb y) 0).val = base L + (y 0).val := by
    show k1_off68 L 0 + 1 * (y 0).val = _
    rw [k1_off68_eq]
    show 512 * (L 0).val + 32 * (L 1).val + 1 * (y 0).val = _
    unfold base; omega
  have e1 : (((uK L).view.emb y) 1).val = (y 1).val := by
    show k1_off68 L 1 + 1 * (y 1).val = _
    rw [k1_off68_eq]
    show 0 + 1 * (y 1).val = _
    omega
  show allU x t ids s ((uK L).view.emb y) = w y
  exact (allU_at x t ids s (base L) (y 0).val (y 1).val (y 1).isLt (by unfold base; omega) h0 _ e0 e1).trans (hU y (Or.inl h0)).symm

/-- The tile's rows of the second result, likewise. -/
theorem written_D (fd : S1024x16.Idx → F .f32) (w fD : S32x16.Idx → F .f32) (hw : w = fD) (hD : GoodD (tileD x t ids s (base L)) 32 fD) :
    ((dK L).view.loc (V d (cV L) (jV L)) ↦[(dK L).view.set]{fullShare} (dK L).view.writes (Elt F) fd [⟨Rect.whole S32x16, w⟩] : sProp 𝕄)
      ⊢ iprop((dK L).view.loc (V d (cV L) (jV L)) ↦[(dK L).view.set]{fullShare} (allD x t ids s)) := by
  subst hw
  refine pts_written d L (dK L) fd _ w fun y => ?_
  have h0 : (y 0).val < 32 := (y 0).isLt
  have e0 : (((dK L).view.emb y) 0).val = base L + (y 0).val := by
    show k1_off69 L 0 + 1 * (y 0).val = _
    rw [k1_off69_eq]
    show 512 * (L 0).val + 32 * (L 1).val + 1 * (y 0).val = _
    unfold base; omega
  have e1 : (((dK L).view.emb y) 1).val = (y 1).val := by
    show k1_off69 L 1 + 1 * (y 1).val = _
    rw [k1_off69_eq]
    show 0 + 1 * (y 1).val = _
    omega
  show allD x t ids s ((dK L).view.emb y) = w y
  rw [hD y h0]
  unfold allD
  have eb : (base L + (y 0).val) / 32 * 32 = base L := by unfold base; omega
  have em : (base L + (y 0).val) % 32 = (y 0).val := by unfold base; omega
  simp only [e0, e1, eb, em]

/-- The tile's semaphores, at rest. -/
def semsRes : sProp 𝕄 :=
  iprop(semVal (V d (cV L) (jV L), SemLoc.dma cc1_scoped0.sem) 0 ∗ semVal (V d (cV L) (jV L), SemLoc.dma cc1_scoped1.sem) 0
    ∗ semVal (V d (cV L) (jV L), SemLoc.dma cc1_scoped2.sem) 0 ∗ semVal (V d (cV L) (jV L), SemLoc.dma cc1_scoped3.sem) 0
    ∗ semVal (V d (cV L) (jV L), SemLoc.dma cc1_scoped4.sem) 0 ∗ semVal (V d (cV L) (jV L), SemLoc.dma cc1_scoped5.sem) 0)

/-- The tile's scratch, at whatever it holds. -/
def scratchRes : sProp 𝕄 :=
  iprop((∃ f : S50000.Idx → BitVec 32, (bI).view.loc (V d (cV L) (jV L)) ↦{fullShare} f) ∗ (∃ f : S96.Idx → F .f32, (bT).view.loc (V d (cV L) (jV L)) ↦{fullShare} f)
    ∗ (∃ f : S1024.Idx → F .f32, (bS).view.loc (V d (cV L) (jV L)) ↦{fullShare} f) ∗ (∃ f : S96x512.Idx → F .f32, (bX).view.loc (V d (cV L) (jV L)) ↦{fullShare} f)
    ∗ (∃ f : S96.Idx → F .f32, (bE).view.loc (V d (cV L) (jV L)) ↦{fullShare} f) ∗ (∃ f : S32x512.Idx → F .f32, (bU).view.loc (V d (cV L) (jV L)) ↦{fullShare} f)
    ∗ (∃ f : S32x16.Idx → F .f32, (bD).view.loc (V d (cV L) (jV L)) ↦{fullShare} f))

/-- What the tile reads, held in part. -/
def readRes : sProp 𝕄 :=
  iprop(((xV).view.loc (V d (cV L) (jV L)) ↦{q} x) ∗ ((tV).view.loc (V d (cV L) (jV L)) ↦{q'} t) ∗ ((iV).view.loc (V d (cV L) (jV L)) ↦{qi} ids) ∗ ((sV).view.loc (V d (cV L) (jV L)) ↦{qs} s))

/-- After the search's copies: everything but the ids. -/
def restRes (fu : S1024x512.Idx → F .f32) (fd : S1024x16.Idx → F .f32) : sProp 𝕄 :=
  iprop(Transfers.MayWaits (V d (cV L) (jV L)) (none : SparseCore.Cfg.HIx 1) O ∗ ((xV).view.loc (V d (cV L) (jV L)) ↦{q} x) ∗ ((tV).view.loc (V d (cV L) (jV L)) ↦{q'} t)
    ∗ ((bS).view.loc (V d (cV L) (jV L)) ↦{fullShare} s) ∗ ((uK L).view.loc (V d (cV L) (jV L)) ↦[(uK L).view.set]{fullShare} fu)
    ∗ ((dK L).view.loc (V d (cV L) (jV L)) ↦[(dK L).view.set]{fullShare} fd)
    ∗ (∃ f : S96.Idx → F .f32, (bT).view.loc (V d (cV L) (jV L)) ↦{fullShare} f) ∗ (∃ f : S96x512.Idx → F .f32, (bX).view.loc (V d (cV L) (jV L)) ↦{fullShare} f)
    ∗ (∃ f : S96.Idx → F .f32, (bE).view.loc (V d (cV L) (jV L)) ↦{fullShare} f) ∗ (∃ f : S32x512.Idx → F .f32, (bU).view.loc (V d (cV L) (jV L)) ↦{fullShare} f)
    ∗ (∃ f : S32x16.Idx → F .f32, (bD).view.loc (V d (cV L) (jV L)) ↦{fullShare} f)
    ∗ semVal (V d (cV L) (jV L), SemLoc.dma cc1_scoped2.sem) 0 ∗ semVal (V d (cV L) (jV L), SemLoc.dma cc1_scoped3.sem) 0
    ∗ semVal (V d (cV L) (jV L), SemLoc.dma cc1_scoped4.sem) 0 ∗ semVal (V d (cV L) (jV L), SemLoc.dma cc1_scoped5.sem) 0 ∗ ∃ W', owes (V d (cV L) (jV L)) O W')

/-- The rest of the task, from the search's last two steps on. -/
theorem tail_wp (fu : S1024x512.Idx → F .f32) (fd : S1024x16.Idx → F .f32) :
    iprop(idRes (F := F) d L ids ∗ restRes d L q q' x t s O fu fd)
    ⊢ wp frame (wpE (defs₀ (F := F)) 𝒱₀ (V d (cV L) (jV L)) none) Set.univ
        (k1_part18 (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5 (W (base L)) lanes (W (lows ids (base L) 14)) (Scalar.addi (W (lows ids (base L) 14)) 2#32) (got ids (base L) 14) >>= fun _ =>
          Prog.lift (.waitDma2 cc1_scoped5.sem bD (dK L) (Memref.isWhole_whole _).wordExact (View.wordExact_bits rfl)) >>= fun _ => Prog.ret PUnit.unit)
        fun _ => iprop(idRes (F := F) d L ids ∗ restRes d L q q' x t s O (allU x t ids s) (allD x t ids s)) := by
  have hgb := base_le L
  rw [k1_part18_eq_skeleton]
  unfold k1_part18_skel
  dsimp only
  rw [step_word ids (base L) (by omega) 14 15 rfl (k1_pay82 (F := F)) (fun _ => rfl) 2#32 rfl]
  simp only [bind_assoc]
  iintro ⟨H, HR⟩
  iapply (probe_wp d L ids (base L) 15 (W (lows ids (base L) 15)) 1#32 rfl rfl k1_chk16 _ k1_idx16_inb (fun _ h => h) _ _ _)
  isplitl [H]; · iexact H
  iintro H
  rw [step_word ids (base L) (by omega) 15 16 rfl (k1_pay83 (F := F)) (fun _ => rfl) 1#32 rfl]
  unfold restRes idRes
  icases HR with ⟨HM, Hx, Ht, HbS, Hu, Hd, HbT, HbX, HbE, ⟨%f5, HbU⟩, ⟨%f6, HbD⟩, Hs2, Hs3, Hs4, Hs5, HO⟩
  iapply (wp_call (graphs_wp d L q q' x t ids s O (base L) hgb (W (lows ids (base L) 14)) (Scalar.addi (W (lows ids (base L) 14)) 2#32) (got ids (base L) 14)))
  unfold graphRes tripRes
  isplitl [H HM Hx Ht HbS HbT HbX HbE HbU HbD Hs2 Hs3 HO]
  · isplitl [H HM Hx Ht HbT HbX HbE Hs2 Hs3 HO]
    · isplitl [HM]; · iexact HM
      isplitl [Hx]; · iexact Hx
      isplitl [Ht]; · iexact Ht
      isplitl [H]; · iexact H
      isplitl [HbX]; · iexact HbX
      isplitl [HbT]; · iexact HbT
      isplitl [HbE]; · iexact HbE
      isplitl [Hs2]; · iexact Hs2
      isplitl [Hs3]; · iexact Hs3
      iexact HO
    isplitl [HbS]; · iexact HbS
    isplitl [HbU]
    · iapply (exists_goodU d L (tileU x t ids s (base L)) 0 0 f5 (fun y hy => by omega))
      iexact HbU
    · iapply (exists_goodD d L (tileD x t ids s (base L)) 0 f6 (fun y hy => by omega))
      iexact HbD
  iintro %r ⟨⟨HM, Hx, Ht, HbI, HbX, HbT, HbE, Hs2, Hs3, %W1, HO⟩, HbS, ⟨%fU, %hU, HbU⟩, %fD, %hD, HbD⟩
  sl_exec
  sl_step
  have eU : tail_wp.sl.dma0 fU = fU := by
    unfold tail_wp.sl.dma0
    rfl
  have eD : tail_wp.sl.dma0_1 fD = fD := by
    unfold tail_wp.sl.dma0_1
    rfl
  isplitl [HbI]; · iexact HbI
  isplitl [HM]; · iexact HM
  isplitl [Hx]; · iexact Hx
  isplitl [Ht]; · iexact Ht
  isplitl [HbS]; · iexact HbS
  isplitl [Hu]
  · iapply (written_U d L x t ids s fu _ fU eU hU)
    iexact Hu
  isplitl [Hd]
  · iapply (written_D d L x t ids s fd _ fD eD hD)
    iexact Hd
  isplitl [HbT]; · iexact HbT
  isplitl [HbX]; · iexact HbX
  isplitl [HbE]; · iexact HbE
  isplitl [HbU]; · iexists _; iexact HbU
  isplitl [HbD]; · iexists _; iexact HbD
  isplitl [Hs2]; · iexact Hs2
  isplitl [Hs3]; · iexact Hs3
  isplitl [Hs4]; · iexact Hs4
  isplitl [Hs5]; · iexact Hs5
  iexists _; iexact HO

/-- The tile's whole task. -/
theorem tile_wp (fu : S1024x512.Idx → F .f32) (fd : S1024x16.Idx → F .f32) (W0 : Waits sig (SparseCore.Cfg.HIx 1)) :
    iprop(Transfers.MayWaits (V d (cV L) (jV L)) (none : SparseCore.Cfg.HIx 1) O ∗ readRes d L q q' qi qs x t ids s ∗ ((uK L).view.loc (V d (cV L) (jV L)) ↦[(uK L).view.set]{fullShare} fu)
      ∗ ((dK L).view.loc (V d (cV L) (jV L)) ↦[(dK L).view.set]{fullShare} fd) ∗ scratchRes (F := F) d L ∗ semsRes (F := F) d L ∗ owes (V d (cV L) (jV L)) O W0)
    ⊢ wp frame (wpE (defs₀ (F := F)) 𝒱₀ (V d (cV L) (jV L)) none) Set.univ
        (cc1__sc_body (F := F) L xV (Memref.isWhole_whole _) iV (Memref.isWhole_whole _) tV (Memref.isWhole_whole _) sV (Memref.isWhole_whole _) uV (Memref.isWhole_whole _) dV (Memref.isWhole_whole _)
          bI (Memref.isWhole_whole _) bT (Memref.isWhole_whole _) bS (Memref.isWhole_whole _) bX (Memref.isWhole_whole _) bE (Memref.isWhole_whole _) bU (Memref.isWhole_whole _) bD (Memref.isWhole_whole _)
          cc1_scoped0 cc1_scoped1 cc1_scoped2 cc1_scoped3 cc1_scoped4 cc1_scoped5)
        fun _ => iprop(readRes d L q q' qi qs x t ids s ∗ ((uK L).view.loc (V d (cV L) (jV L)) ↦[(uK L).view.set]{fullShare} (allU x t ids s))
          ∗ ((dK L).view.loc (V d (cV L) (jV L)) ↦[(dK L).view.set]{fullShare} (allD x t ids s)) ∗ scratchRes (F := F) d L ∗ semsRes (F := F) d L ∗ ∃ W', owes (V d (cV L) (jV L)) O W') := by
  have hgb : base L ≤ 1024 := by have := base_le L; omega
  rw [cc1__sc_body_eq_skeleton]
  unfold cc1__sc_body_skel readRes scratchRes semsRes
  iintro ⟨HM, ⟨Hx, Ht, Hi, Hs⟩, Hu, Hd, ⟨HbI, HbT, HbS, HbX, HbE, ⟨%f5, HbU⟩, %f6, HbD⟩, ⟨Hs0, Hs1, Hs2, Hs3, Hs4, Hs5⟩, HO⟩
  iapply (wp_call (part12_wp d L qi qs ids s O))
  isplitl [HM Hi Hs HbI HbS Hs0 Hs1 HO]
  · isplitl [HM]; · iexact HM
    isplitl [Hi]; · iexact Hi
    isplitl [Hs]; · iexact Hs
    isplitl [HbI]; · iexact HbI
    isplitl [HbS]; · iexact HbS
    isplitl [Hs0]; · iexact Hs0
    isplitl [Hs1]; · iexact Hs1
    iexists _; iexact HO
  iintro %r ⟨%hr, HbI, HM, Hi, Hs, HbS, Hs0, Hs1, HO⟩
  subst hr
  iapply (wp_call (part13_wp d L ids (base L) hgb))
  isplitl [HbI]; · iexact HbI
  iintro %r ⟨%hr, HbI⟩
  subst hr
  iapply (wp_call (part14_wp d L ids (base L) hgb))
  isplitl [HbI]; · iexact HbI
  iintro %r ⟨%hr, HbI⟩
  subst hr
  iapply (wp_call (part15_wp d L ids (base L) hgb))
  isplitl [HbI]; · iexact HbI
  iintro %r ⟨%hr, HbI⟩
  subst hr
  iapply (wp_call (part16_wp d L ids (base L) hgb))
  isplitl [HbI]; · iexact HbI
  iintro %r ⟨%hr, HbI⟩
  subst hr
  iapply (wp_call (part17_wp d L ids (base L) hgb))
  isplitl [HbI]; · iexact HbI
  iintro %r ⟨%hr, HbI⟩
  subst hr
  iapply (wp_wand_r frame _ Set.univ)
  isplitl [HbI HM Hx Ht HbS Hu Hd HbT HbX HbE HbU HbD Hs2 Hs3 Hs4 Hs5 HO]
  · iapply (tail_wp d L q q' x t ids s O fu fd)
    isplitl [HbI]; · iexact HbI
    unfold restRes
    isplitl [HM]; · iexact HM
    isplitl [Hx]; · iexact Hx
    isplitl [Ht]; · iexact Ht
    isplitl [HbS]; · iexact HbS
    isplitl [Hu]; · iexact Hu
    isplitl [Hd]; · iexact Hd
    isplitl [HbT]; · iexact HbT
    isplitl [HbX]; · iexact HbX
    isplitl [HbE]; · iexact HbE
    isplitl [HbU]; · iexists _; iexact HbU
    isplitl [HbD]; · iexists _; iexact HbD
    isplitl [Hs2]; · iexact Hs2
    isplitl [Hs3]; · iexact Hs3
    isplitl [Hs4]; · iexact Hs4
    isplitl [Hs5]; · iexact Hs5
    iexact HO
  unfold restRes idRes
  iintro %r ⟨HbI, HM, Hx, Ht, HbS, Hu, Hd, HbT, HbX, HbE, HbU, HbD, Hs2, Hs3, Hs4, Hs5, HO⟩
  isplitl [Hx Ht Hi Hs]
  · isplitl [Hx]; · iexact Hx
    isplitl [Ht]; · iexact Ht
    isplitl [Hi]; · iexact Hi
    iexact Hs
  isplitl [Hu]; · iexact Hu
  isplitl [Hd]; · iexact Hd
  isplitl [HbI HbT HbS HbX HbE HbU HbD]
  · isplitl [HbI]; · iexists _; iexact HbI
    isplitl [HbT]; · iexact HbT
    isplitl [HbS]; · iexists _; iexact HbS
    isplitl [HbX]; · iexact HbX
    isplitl [HbE]; · iexact HbE
    isplitl [HbU]; · iexact HbU
    iexact HbD
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iexact HO

end Parts

end Cert.Proof.Pool

end
-- ==== Proof.TcBody.lean ====
/-  The two TensorCore bodies, run once each on any whole staging buffers: what each leaves, as a function of what it
    is handed. -/
module

public import proofs.«01_k».proof.Proof.Setup
public import Idealize.ShloMosaic.Lib.Pipeline.FrameBody
public import Idealize.ShloMosaic.Lib.VecWindow

@[expose] public section

noncomputable section

namespace Cert.Proof.Pool

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (SparseCore.Cfg.HIx 1) (Elt F) ℕ UU ℕ

/-! ## The closing call -/

/-- The closing call's body, on any whole buffers: the sums, the denominators, the projection and its bias come back
    as they were, and the result holds the projected averages. -/
theorem final_wp (c : Dev nD)
    (M0 : Memref sig .tc .vmem S1024x512 .f32) (h0 : M0.IsWhole) (M1 : Memref sig .tc .vmem S1024x16 .f32) (h1 : M1.IsWhole)
    (M2 : Memref sig .tc .vmem S512x512 .f32) (h2 : M2.IsWhole) (M3 : Memref sig .tc .vmem S1x512 .f32) (h3 : M3.IsWhole)
    (M4 : Memref sig .tc .vmem S1000x512 .f32) (h4 : M4.IsWhole)
    (u : S1024x512.Idx → Elt F .f32) (dn : S1024x16.Idx → Elt F .f32) (w : S512x512.Idx → Elt F .f32) (b : S1x512.Idx → Elt F .f32)
    (Q : PUnit → sProp 𝕄) :
    iprop(owns (c : Thread nD τ) M0 fullShare u ∗ owns (c : Thread nD τ) M1 fullShare dn ∗ owns (c : Thread nD τ) M2 fullShare w
        ∗ owns (c : Thread nD τ) M3 fullShare b ∗ (∃ o, owns (c : Thread nD τ) M4 fullShare o)
        ∗ (iprop(owns (c : Thread nD τ) M0 fullShare u ∗ owns (c : Thread nD τ) M1 fullShare dn ∗ owns (c : Thread nD τ) M2 fullShare w
            ∗ owns (c : Thread nD τ) M3 fullShare b ∗ owns (c : Thread nD τ) M4 fullShare (k2_pay1 dn u w b)) -∗ Q ⟨⟩))
      ⊢ wp frame (wpE (defs₀ (F := F)) 𝒱₀ (c : Thread nD τ) none) Set.univ (cc2__final_kernel M0 h0 M1 h1 M2 h2 M3 h3 M4 h4) Q := by
  rw [cc2__final_kernel_eq_skeleton]; unfold cc2__final_kernel_skel
  unfold owns
  iintro ⟨⟨%f0, %e0, H0⟩, ⟨%f1, %e1, H1⟩, ⟨%f2, %e2, H2⟩, ⟨%f3, %e3, H3⟩, ⟨%o, %f4, -, H4⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  iexists _; isplitr; swap; (· iexact H4)
  ipureintro
  rw [View.read_writes_full]
  rw [View.readAt_full M0.view, View.readAt_full M1.view, View.readAt_full M2.view, View.readAt_full M3.view, e0, e1, e2, e3]

/-! ## The opening call -/

/-- The graph scores: the transformed graph features' scores in the first thousand rows, zeros in the padding. -/
def sBlock (b1 : S1x1.Idx → Elt F .f32) (g : S1000x512.Idx → Elt F .f32) (wa : S512x1.Idx → Elt F .f32) : S1024x1.Idx → Elt F .f32 :=
  View.canon (Val := Elt F) (s := S1024x1) (e := .f32)
    [⟨Rect.unit (s := S1024x1) ![1000, 0] S24x1.size inb_S1024x1_S24x1_1000_0, k0_pay2 (F := F)⟩,
     ⟨Rect.unit (s := S1024x1) ![0, 0] S1000x1.size inb_S1024x1_S1000x1_0_0, k0_pay1 g wa (b1 (ix2 0 0))⟩]

/-- The opening call's body at the first point, on any whole buffers: every operand comes back as it was, the block of
    node scores and the graph scores written. -/
theorem pre_wp_first (c : Dev nD) (i : grid0.Coords) (hi : k0_cond1 i = 1#1)
    (M0 : Memref sig .tc .smem S1x1 .f32) (h0 : M0.IsWhole) (M1 : Memref sig .tc .vmem S1000x512 .f32) (h1 : M1.IsWhole)
    (M2 : Memref sig .tc .vmem S1000x512 .f32) (h2 : M2.IsWhole) (M3 : Memref sig .tc .vmem S512x1 .f32) (h3 : M3.IsWhole)
    (M4 : Memref sig .tc .vmem S512x1 .f32) (h4 : M4.IsWhole) (M5 : Memref sig .tc .vmem S1000x1 .f32) (h5 : M5.IsWhole)
    (M6 : Memref sig .tc .vmem S1024x1 .f32) (h6 : M6.IsWhole)
    (b1 : S1x1.Idx → Elt F .f32) (x : S1000x512.Idx → Elt F .f32) (g : S1000x512.Idx → Elt F .f32) (wa wb : S512x1.Idx → Elt F .f32)
    (Q : PUnit → sProp 𝕄) :
    iprop(owns (c : Thread nD τ) M0 fullShare b1 ∗ owns (c : Thread nD τ) M1 fullShare x ∗ owns (c : Thread nD τ) M2 fullShare g
        ∗ owns (c : Thread nD τ) M3 fullShare wa ∗ owns (c : Thread nD τ) M4 fullShare wb
        ∗ (∃ o, owns (c : Thread nD τ) M5 fullShare o) ∗ (∃ o, owns (c : Thread nD τ) M6 fullShare o)
        ∗ (iprop(owns (c : Thread nD τ) M0 fullShare b1 ∗ owns (c : Thread nD τ) M1 fullShare x ∗ owns (c : Thread nD τ) M2 fullShare g
            ∗ owns (c : Thread nD τ) M3 fullShare wa ∗ owns (c : Thread nD τ) M4 fullShare wb
            ∗ owns (c : Thread nD τ) M5 fullShare (k0_pay3 x wb) ∗ owns (c : Thread nD τ) M6 fullShare (sBlock b1 g wa)) -∗ Q ⟨⟩))
      ⊢ wp frame (wpE (defs₀ (F := F)) 𝒱₀ (c : Thread nD τ) none) Set.univ (cc0__pre_kernel i M0 h0 M1 h1 M2 h2 M3 h3 M4 h4 M5 h5 M6 h6) Q := by
  rw [cc0__pre_kernel_eq_skeleton]; unfold cc0__pre_kernel_skel
  rw [dif_pos hi]
  unfold owns
  iintro ⟨⟨%f0, %e0, H0⟩, ⟨%f1, %e1, H1⟩, ⟨%f2, %e2, H2⟩, ⟨%f3, %e3, H3⟩, ⟨%f4, %e4, H4⟩, ⟨%o5, %f5, -, H5⟩, ⟨%o6, %f6, -, H6⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]
  · iexists _; isplitr; swap; (· iexact H5)
    ipureintro
    rw [View.read_writes_full, View.readAt_full M1.view, View.readAt_full M4.view, e1, e4]
  iexists _; isplitr; swap; (· iexact H6)
  ipureintro
  rw [View.read_writes_eq_canon]
  · have hr : pre_wp_first.sl.r c M0 f0 = b1 (ix2 0 0) := by
      rw [← e0]; unfold pre_wp_first.sl.r; rw [View.readAt_full M0.view]
      refine congrArg _ (funext fun a => ?_)
      match a with
      | ⟨0, _⟩ => exact Subsingleton.elim (α := Fin 1) _ _
      | ⟨1, _⟩ => exact Subsingleton.elim (α := Fin 1) _ _
    rw [View.readAt_full M2.view, View.readAt_full M3.view, e2, e3, hr]; rfl
  · intro y
    by_cases hy : (y 0).val < 1000
    · refine ⟨⟨Rect.unit (s := S1024x1) ![0, 0] S1000x1.size inb_S1024x1_S1000x1_0_0, _⟩, List.mem_cons_of_mem _ (List.mem_cons_self ..), ?_⟩
      refine (Rect.mem_set_unit (inb := inb_S1024x1_S1000x1_0_0)).mpr fun a => ?_
      match a with
      | ⟨0, _⟩ => exact ⟨Nat.zero_le _, by show (y 0).val < 0 + 1000; omega⟩
      | ⟨1, _⟩ => exact ⟨Nat.zero_le _, by have := (y 1).isLt; show (y 1).val < 0 + 1; exact this⟩
    · refine ⟨⟨Rect.unit (s := S1024x1) ![1000, 0] S24x1.size inb_S1024x1_S24x1_1000_0, _⟩, List.mem_cons_self .., ?_⟩
      refine (Rect.mem_set_unit (inb := inb_S1024x1_S24x1_1000_0)).mpr fun a => ?_
      match a with
      | ⟨0, _⟩ => exact ⟨by show 1000 ≤ (y 0).val; omega, by have : (y 0).val < 1024 := (y 0).isLt; show (y 0).val < 1000 + 24; omega⟩
      | ⟨1, _⟩ => exact ⟨Nat.zero_le _, by have := (y 1).isLt; show (y 1).val < 0 + 1; exact this⟩

/-- The opening call's body at a later point: the graph scores untouched. -/
theorem pre_wp_later (c : Dev nD) (i : grid0.Coords) (hi : ¬ k0_cond1 i = 1#1)
    (M0 : Memref sig .tc .smem S1x1 .f32) (h0 : M0.IsWhole) (M1 : Memref sig .tc .vmem S1000x512 .f32) (h1 : M1.IsWhole)
    (M2 : Memref sig .tc .vmem S1000x512 .f32) (h2 : M2.IsWhole) (M3 : Memref sig .tc .vmem S512x1 .f32) (h3 : M3.IsWhole)
    (M4 : Memref sig .tc .vmem S512x1 .f32) (h4 : M4.IsWhole) (M5 : Memref sig .tc .vmem S1000x1 .f32) (h5 : M5.IsWhole)
    (M6 : Memref sig .tc .vmem S1024x1 .f32) (h6 : M6.IsWhole)
    (x : S1000x512.Idx → Elt F .f32) (wb : S512x1.Idx → Elt F .f32)
    (Q : PUnit → sProp 𝕄) :
    iprop(owns (c : Thread nD τ) M1 fullShare x ∗ owns (c : Thread nD τ) M4 fullShare wb
        ∗ (∃ o, owns (c : Thread nD τ) M5 fullShare o)
        ∗ (iprop(owns (c : Thread nD τ) M1 fullShare x ∗ owns (c : Thread nD τ) M4 fullShare wb
            ∗ owns (c : Thread nD τ) M5 fullShare (k0_pay3 x wb)) -∗ Q ⟨⟩))
      ⊢ wp frame (wpE (defs₀ (F := F)) 𝒱₀ (c : Thread nD τ) none) Set.univ (cc0__pre_kernel i M0 h0 M1 h1 M2 h2 M3 h3 M4 h4 M5 h5 M6 h6) Q := by
  rw [cc0__pre_kernel_eq_skeleton]; unfold cc0__pre_kernel_skel
  rw [dif_neg hi]
  unfold owns
  iintro ⟨⟨%f1, %e1, H1⟩, ⟨%f4, %e4, H4⟩, ⟨%o5, %f5, -, H5⟩, Hk⟩
  sl_exec
  sl_step
  iapply Hk
  isplitl [H1]; · iexists _; isplitr; swap; (· iexact H1); ipureintro; exact e1
  isplitl [H4]; · iexists _; isplitr; swap; (· iexact H4); ipureintro; exact e4
  iexists _; isplitr; swap; (· iexact H5)
  ipureintro
  rw [View.read_writes_full, View.readAt_full M1.view, View.readAt_full M4.view, e1, e4]

end Cert.Proof.Pool

end
-- ==== Proof.Final.lean ====
/-  The closing TensorCore call as a region: entered from any contents of the core's buffers, left with its result's
    array at the body's result and every other buffer as it was. -/
module

public import proofs.«01_k».proof.Proof.TcBody
public import Idealize.ShloMosaic.Lib.Pipeline.RegionsLoop

@[expose] public section

noncomputable section

namespace Cert.Proof.Pool

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (SparseCore.Cfg.HIx 1) (Elt F) ℕ UU ℕ

/-! ## What both regions are stated over -/

/-- The core's buffers, each at some contents. -/
abbrev Val1 (F : FTy → Type) : Type := (c : Dev nD) → (b : Ref sig .tc) → Buf (Elt F) ((c : Thread nD τ).loc b)

/-- The core's `owes` at `O c`, every wait recorded so far at a level at most `b`. -/
def owesB (O : Dev nD → CellTallies nD τ sig (SparseCore.Cfg.HIx 1)) (b : ℕ) (c : Dev nD) : sProp 𝕄 :=
  iprop(∃ W, ⌜(K (F := F)).WBelow (c : Thread nD τ) W b⌝ ∗ owes (c : Thread nD τ) (O c) W)

/-- The recorded waits a region's body keeps within. -/
def recB (b : ℕ) (c : Dev nD) : Set (SemLoc sig × SparseCore.Cfg.HIx 1) := {p | (K (F := F)).lev ((c : Thread nD τ), p.1) p.2 ≤ b}

/-- Proof data of a pipeline a region does not run: anything. -/
def junkDat {cfg : Cfg sig Λ₀} (c : Dev nD) : Dat τ (Elt F) (SparseCore.Cfg.HIx 1) ℕ UU ℕ cfg c where
  A _ := fun _ => Classical.arbitrary _
  after _ _ := fun _ => Classical.arbitrary _
  Φ _ := BI.emp
  q _ := fullShare
  owed _ := 0

variable (V : Val1 F) (O : Dev nD → CellTallies nD τ sig (SparseCore.Cfg.HIx 1)) (b : ℕ)

/-! ## The proof data -/

/-- The sums' block as the fetch stages it. -/
abbrev stgU (c : Dev nD) : S1024x512.Idx → Elt F .f32 := ((cfg2.win 0).blk t2_0).view.read (Elt F) (V c main_v6_0)
/-- The denominators' block as the fetch stages it. -/
abbrev stgD (c : Dev nD) : S1024x16.Idx → Elt F .f32 := ((cfg2.win 1).blk t2_0).view.read (Elt F) (V c main_v6_1)
/-- The projection's block as the fetch stages it. -/
abbrev stgW (c : Dev nD) : S512x512.Idx → Elt F .f32 := ((cfg2.win 2).blk t2_0).view.read (Elt F) (V c main_arg5)
/-- The bias's block as the fetch stages it. -/
abbrev stgB (c : Dev nD) : S1x512.Idx → Elt F .f32 := ((cfg2.win 3).blk t2_0).view.read (Elt F) (V c main_v7)

/-- What the body leaves in the result's buffer. -/
def fin2 (c : Dev nD) : S1000x512.Idx → Elt F .f32 := k2_pay1 (stgD V c) (stgU V c) (stgW V c) (stgB V c)

/-- The closing call's proof data, from the buffers at `V`. -/
def dat2 (c : Dev nD) : Dat τ (Elt F) (SparseCore.Cfg.HIx 1) ℕ UU ℕ cfg2 c where
  A w := V c (Pipeline.arrRef spec2 w)
  after w _ := match w with
    | ⟨0, _⟩ => stgU V c
    | ⟨1, _⟩ => stgD V c
    | ⟨2, _⟩ => stgW V c
    | ⟨3, _⟩ => stgB V c
    | ⟨4, _⟩ => fin2 V c
  Φ _ := Pipeline.scopedRest (Ix := SparseCore.Cfg.HIx 1) (Name := ℕ) (U := UU) (Lvl := ℕ) (Val := Elt F) spec2 c
  q _ := fullShare
  owed _ := O c
  recorded _ := recB (F := F) b c

/-- What the body finds in an operand's buffer is its block. -/
theorem before2 (c : Dev nD) (w : Fin cfg2.W) (hw : (cfg2.win w).fetch t2_0 = true) (d) :
    (dat2 V O b c).before w t2_0 d = (dat2 V O b c).fetched w t2_0 d := by
  unfold Dat.before; rw [if_pos hw]

/-- The closing call's body, from what the pipeline hands it to what it takes back. -/
theorem sound_body2 (c : Dev nD) :
    iprop((dat2 V O b c).Φ t2_0.castSucc ∗ (dat2 V O b c).owesAt none t2_0.castSucc
        ∗ (∃ d, owns (c : Thread nD τ) (st2_0 t2_0) fullShare ((dat2 V O b c).before 0 t2_0 d))
        ∗ (∃ d, owns (c : Thread nD τ) (st2_1 t2_0) fullShare ((dat2 V O b c).before 1 t2_0 d))
        ∗ (∃ d, owns (c : Thread nD τ) (st2_2 t2_0) fullShare ((dat2 V O b c).before 2 t2_0 d))
        ∗ (∃ d, owns (c : Thread nD τ) (st2_3 t2_0) fullShare ((dat2 V O b c).before 3 t2_0 d))
        ∗ (∃ d, owns (c : Thread nD τ) (st2_4 t2_0) fullShare ((dat2 V O b c).before 4 t2_0 d)))
      ⊢ wp frame (wpE (defs₀ (F := F)) 𝒱₀ (c : Thread nD τ) none) Set.univ (bodyAt2 t2_0) fun _ =>
        iprop((dat2 V O b c).Φ t2_0.succ ∗ (dat2 V O b c).owesAt none t2_0.succ
          ∗ owns (c : Thread nD τ) (st2_0 t2_0) fullShare (stgU V c) ∗ owns (c : Thread nD τ) (st2_1 t2_0) fullShare (stgD V c)
          ∗ owns (c : Thread nD τ) (st2_2 t2_0) fullShare (stgW V c) ∗ owns (c : Thread nD τ) (st2_3 t2_0) fullShare (stgB V c)
          ∗ owns (c : Thread nD τ) (st2_4 t2_0) fullShare (fin2 V c)) := by
  rw [show (dat2 V O b c).Φ t2_0.succ = (dat2 V O b c).Φ t2_0.castSucc from rfl,
    show (dat2 V O b c).owesAt none t2_0.succ = (dat2 V O b c).owesAt none t2_0.castSucc from rfl]
  iintro ⟨HΦ, Howes, ⟨%d0, H0⟩, ⟨%d1, H1⟩, ⟨%d2, H2⟩, ⟨%d3, H3⟩, ⟨%d4, H4⟩⟩
  rw [before2 V O b c 0 (fetch2_0 t2_0), before2 V O b c 1 (fetch2_1 t2_0), before2 V O b c 2 (fetch2_2 t2_0), before2 V O b c 3 (fetch2_3 t2_0)]
  unfold bodyAt2
  iapply (final_wp c (st2_0 t2_0) (hstage2_0 0) (st2_1 t2_0) (hstage2_1 0) (st2_2 t2_0) (hstage2_2 0) (st2_3 t2_0) (hstage2_3 0) (st2_4 t2_0) (hstage2_4 0)
    (stgU V c) (stgD V c) (stgW V c) (stgB V c) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The body table's row at the one point is the closing call's body. -/
theorem defs₀_row2 (t : Fin cfg2.N) : defs₀ (F := F) .tc cfg2.body (cfg2.bodyArgs t (cfg2.slots t)) = bodyAt2 t := rfl

/-- The closing call's body meets its obligation. -/
theorem body_obligation2 (c : Dev nD) : BodyObligation (dat2 V O b c) (defs₀ (F := F)) 𝒱₀ none Set.univ := fun t => by
  obtain rfl := fin_N2 t
  rw [bigSep_W2, bigSep_W2, defs₀_row2]
  exact triple_restated (sound_body2 V O b c) rfl .rfl fun _ => .rfl

/-! ## The region -/

variable (adm : (p : Fin 2) → (pcfgs (F := F) p).Adm)

/-- The proof data of a run of the closing call. -/
def pdats2 : (p : Fin 2) → (c : Dev nD) → Dat τ (Elt F) (SparseCore.Cfg.HIx 1) ℕ UU ℕ (Pipeline.pin (pcfgs (F := F)) adm p) c
  | ⟨0, _⟩ => fun c => junkDat c
  | ⟨1, _⟩ => fun c => dat2 V O b c

/-- The result's array after the region. -/
def res2 (c : Dev nD) : Buf (Elt F) ((c : Thread nD τ).loc main_v8) := (dat2 V O b c).arrAt 4 cfg2.N

variable (Vp : Val1 F)

set_option backward.isDefEq.respectTransparency.types false in
/-- The closing call over the thread's state: entered with every buffer at `V`, left with them at `Vp`, which has the
    result's array at `res2 V` and agrees with `V` elsewhere. -/
def reg2 (R : Dev nD → sProp 𝕄) (hO : ∀ c g, O c g none = 0) (hVp_out : ∀ c, Vp c main_v8 = res2 V O b c)
    (hVp_ne : ∀ c (r : Ref sig .tc), r ≠ main_v8 → Vp c r = V c r) :
    Pipeline.RegionSeg (pcfgs (F := F)) adm (pdats2 V O b adm) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body_obligation2 V O b c).loose
  hwaits c := Pipeline.cellsWaits_intro _ _ _ _ c fun w s t => (K (F := F)).mayWait_none _ (hO c)
  pre c := iprop(unscopedBufs c (V c) ∗ R c ∗ owesB O b c)
  post c := iprop(unscopedBufs c (Vp c) ∗ R c ∗ owesB O b c)
  X _ := BI.emp
  Y _ := BI.emp
  Z c := iprop(Pipeline.unscopedRest (Ix := SparseCore.Cfg.HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats2 V O b adm) (launch2).win (launch2).arr_whole c
      ((pdats2 V O b adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesB
      icases HO with ⟨%W, %hW, HO⟩; iexists W; isplitr; · ipureintro; exact fun p hp => Or.inl (hW p hp)
      iexact HO
    isplitr; · iempintro
    isplitl [Hrest] <;> iassumption
  hin c := by
    rw [show (pdats2 V O b adm 1 c).Φ 0 = Pipeline.scopedRest spec2 c from rfl]
    iintro ⟨-, -, Hr⟩; iexact Hr
  hout c := by
    rw [Pipeline.ownSems0_none, show (pdats2 V O b adm 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := SparseCore.Cfg.HIx 1) (Name := ℕ) (U := UU) (Lvl := ℕ) (launch2).win (launch2).arr_whole c
      (pdats2 V O b adm) ((pdats2 V O b adm 1 c).share_full fun _ => rfl) (V c) (Vp c) ((pdats2 V O b adm 1 c).arrAt · cfg2.N)
      (fun w => by
        fin_cases w
        · exact ((pdats2 V O b adm 1 c).arrAt_in 0 rfl _).trans (hVp_ne c main_v6_0 (by decide)).symm
        · exact ((pdats2 V O b adm 1 c).arrAt_in 1 rfl _).trans (hVp_ne c main_v6_1 (by decide)).symm
        · exact ((pdats2 V O b adm 1 c).arrAt_in 2 rfl _).trans (hVp_ne c main_arg5 (by decide)).symm
        · exact ((pdats2 V O b adm 1 c).arrAt_in 3 rfl _).trans (hVp_ne c main_v7 (by decide)).symm
        · exact (hVp_out c).symm)
      (fun r hr => hVp_ne c r fun h => hr (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owesB
    icases HO with ⟨%W, %hW, HO⟩; iexists W; isplitr; swap; · iexact HO
    ipureintro
    intro p hp
    rcases hW hp with h | ⟨w, s, h⟩
    · exact h
    · rw [h]; exact Nat.zero_le _

end Cert.Proof.Pool

end
-- ==== Proof.Pre.lean ====
/-  The opening TensorCore call as a region: entered from any contents of the core's buffers, left with its two
    results' arrays at what the grid's points write and every other buffer as it was. -/
module

public import proofs.«01_k».proof.Proof.TcBody
public import proofs.«01_k».proof.Proof.Final

@[expose] public section

noncomputable section

namespace Cert.Proof.Pool

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (SparseCore.Cfg.HIx 1) (Elt F) ℕ UU ℕ

variable (V : Val1 F) (O : Dev nD → CellTallies nD τ sig (SparseCore.Cfg.HIx 1)) (b : ℕ)

/-! ## The proof data -/

/-- The offset's block as the fetch stages it. -/
abbrev stgO (c : Dev nD) (t : Fin cfg0.N) : S1x1.Idx → Elt F .f32 := ((cfg0.win 0).blk t).view.read (Elt F) (V c main_v0)
/-- The node features' block as the fetch stages it. -/
abbrev stgX (c : Dev nD) (t : Fin cfg0.N) : S1000x512.Idx → Elt F .f32 := ((cfg0.win 1).blk t).view.read (Elt F) (V c main_arg0)
/-- The graph features' block as the fetch stages it. -/
abbrev stgG (c : Dev nD) (t : Fin cfg0.N) : S1000x512.Idx → Elt F .f32 := ((cfg0.win 2).blk t).view.read (Elt F) (V c main_arg1)
/-- The graph half of the scoring weights as the fetch stages it. -/
abbrev stgA (c : Dev nD) (t : Fin cfg0.N) : S512x1.Idx → Elt F .f32 := ((cfg0.win 3).blk t).view.read (Elt F) (V c main_v1)
/-- The node half of the scoring weights as the fetch stages it. -/
abbrev stgN (c : Dev nD) (t : Fin cfg0.N) : S512x1.Idx → Elt F .f32 := ((cfg0.win 4).blk t).view.read (Elt F) (V c main_v2)

/-- The first grid point. -/
abbrev t00 : Fin cfg0.N := ⟨0, by decide⟩

/-- The node scores of a point's block. -/
def tOut (c : Dev nD) (t : Fin cfg0.N) : S1000x1.Idx → Elt F .f32 := k0_pay3 (stgX V c t) (stgN V c t)
/-- The graph scores. -/
def sOut (c : Dev nD) : S1024x1.Idx → Elt F .f32 := sBlock (stgO V c t00) (stgG V c t00) (stgA V c t00)

/-- The opening call's proof data, from the buffers at `V`. -/
def dat0 (c : Dev nD) : Dat τ (Elt F) (SparseCore.Cfg.HIx 1) ℕ UU ℕ cfg0 c where
  A w := V c (Pipeline.arrRef spec0 w)
  after w t := match w with
    | ⟨0, _⟩ => stgO V c t
    | ⟨1, _⟩ => stgX V c t
    | ⟨2, _⟩ => stgG V c t
    | ⟨3, _⟩ => stgA V c t
    | ⟨4, _⟩ => stgN V c t
    | ⟨5, _⟩ => tOut V c t
    | ⟨6, _⟩ => sOut V c
  Φ _ := Pipeline.scopedRest (Ix := SparseCore.Cfg.HIx 1) (Name := ℕ) (U := UU) (Lvl := ℕ) (Val := Elt F) spec0 c
  q _ := fullShare
  owed _ := O c
  recorded _ := recB (F := F) b c

/-- What the first window's staging holds before a point; -/
theorem before0_0 (c : Dev nD) (t : Fin cfg0.N) (d) : (dat0 V O b c).before 0 t d = stgO V c t :=
  (dat0 V O b c).before_in_eq_fetched 0 rfl (fun _ => rfl) (fun _ _ _ => rfl) (fun _ => rfl) t d
/-- the second's; -/
theorem before0_1 (c : Dev nD) (t : Fin cfg0.N) (d) : (dat0 V O b c).before 1 t d = stgX V c t :=
  (dat0 V O b c).before_in_eq_fetched 1 rfl (fun _ => rfl) (fun _ _ _ => rfl) (fun _ => rfl) t d
/-- the third's; -/
theorem before0_2 (c : Dev nD) (t : Fin cfg0.N) (d) : (dat0 V O b c).before 2 t d = stgG V c t :=
  (dat0 V O b c).before_in_eq_fetched 2 rfl (fun _ => rfl) (fun _ _ _ => rfl) (fun _ => rfl) t d
/-- the fourth's; -/
theorem before0_3 (c : Dev nD) (t : Fin cfg0.N) (d) : (dat0 V O b c).before 3 t d = stgA V c t :=
  (dat0 V O b c).before_in_eq_fetched 3 rfl (fun _ => rfl) (fun _ _ _ => rfl) (fun _ => rfl) t d
/-- the fifth's. -/
theorem before0_4 (c : Dev nD) (t : Fin cfg0.N) (d) : (dat0 V O b c).before 4 t d = stgN V c t :=
  (dat0 V O b c).before_in_eq_fetched 4 rfl (fun _ => rfl) (fun _ _ _ => rfl) (fun _ => rfl) t d

/-- The graph scores are written at the first point alone. -/
theorem cond_iff : ∀ t : Fin cfg0.N, k0_cond1 (grid0.coords t) = 1#1 ↔ t.val = 0 := by decide

/-- The graphs' scores are written at the points where the body's condition holds. -/
theorem idle_iff (t : Fin cfg0.N) : cfg0.idle 6 (cfg0.grid.coords t) = !(k0_cond1 (grid0.coords t) == 1#1) := rfl

/-- After the first point the graph scores' buffer holds them. -/
theorem before0_6 (c : Dev nD) (d) : ∀ (n : ℕ) (hn : n < cfg0.N), n ≠ 0 → (dat0 V O b c).before 6 ⟨n, hn⟩ d = sOut V c := by
  intro n
  induction n with
  | zero => intro _ h; exact absurd rfl h
  | succ n ih =>
    intro hn _
    have hn' : n < cfg0.N := Nat.lt_of_succ_lt hn
    have hN : cfg0.N = 50 := N_0
    have hfl : (cfg0.win 6).flush ⟨n, hn'⟩ = false := by
      rw [← Bool.not_eq_true, flush0_6]; show ¬ n % 50 = 49; omega
    rw [(dat0 V O b c).before_of_pos 6 ⟨n + 1, hn⟩ (Nat.succ_ne_zero n) ((cfg0.win 6).fetch_out rfl _) d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := rfl
    rw [e, hfl, if_neg Bool.false_ne_true]
    unfold Dat.left
    by_cases h0 : n = 0
    · have hid : cfg0.idle 6 (cfg0.grid.coords ⟨n, hn'⟩) = false := by
        rw [idle_iff]; simp [(cond_iff ⟨n, hn'⟩).mpr h0]
      rw [hid]
      show (dat0 V O b c).kept 6 ⟨n, hn'⟩ d = _
      unfold Dat.kept
      rw [Pipeline.fill_of_clip_none 6 _ (fun _ => rfl) d ((dat0 V O b c).after 6 ⟨n, hn'⟩), Window.fill_cut]
      rfl
    · have hid : cfg0.idle 6 (cfg0.grid.coords ⟨n, hn'⟩) = true := by
        rw [idle_iff]
        have : ¬ k0_cond1 (grid0.coords ⟨n, hn'⟩) = 1#1 := fun h => h0 ((cond_iff ⟨n, hn'⟩).mp h)
        simp [this]
      rw [hid]
      exact ih hn' h0

/-- What the pipeline hands the opening call's body at a point. -/
def bodyPre0 (c : Dev nD) (t : Fin cfg0.N) : sProp 𝕄 :=
  iprop((dat0 V O b c).Φ t.castSucc ∗ (dat0 V O b c).owesAt none t.castSucc
    ∗ (∃ d, owns (c : Thread nD τ) (st0_0 t) fullShare ((dat0 V O b c).before 0 t d))
    ∗ (∃ d, owns (c : Thread nD τ) (st0_1 t) fullShare ((dat0 V O b c).before 1 t d))
    ∗ (∃ d, owns (c : Thread nD τ) (st0_2 t) fullShare ((dat0 V O b c).before 2 t d))
    ∗ (∃ d, owns (c : Thread nD τ) (st0_3 t) fullShare ((dat0 V O b c).before 3 t d))
    ∗ (∃ d, owns (c : Thread nD τ) (st0_4 t) fullShare ((dat0 V O b c).before 4 t d))
    ∗ (∃ d, owns (c : Thread nD τ) (st0_5 t) fullShare ((dat0 V O b c).before 5 t d))
    ∗ (∃ d, owns (c : Thread nD τ) (st0_6 t) fullShare ((dat0 V O b c).before 6 t d)))

/-- What it takes back: the graph scores' buffer as `S`. -/
def bodyPost0 (c : Dev nD) (t : Fin cfg0.N) (S : sProp 𝕄) : sProp 𝕄 :=
  iprop((dat0 V O b c).Φ t.succ ∗ (dat0 V O b c).owesAt none t.succ
    ∗ owns (c : Thread nD τ) (st0_0 t) fullShare (stgO V c t) ∗ owns (c : Thread nD τ) (st0_1 t) fullShare (stgX V c t)
    ∗ owns (c : Thread nD τ) (st0_2 t) fullShare (stgG V c t) ∗ owns (c : Thread nD τ) (st0_3 t) fullShare (stgA V c t)
    ∗ owns (c : Thread nD τ) (st0_4 t) fullShare (stgN V c t) ∗ owns (c : Thread nD τ) (st0_5 t) fullShare (tOut V c t) ∗ S)

/-- The first point's body. -/
theorem sound_first (c : Dev nD) :
    bodyPre0 V O b c t00 ⊢ wp frame (wpE (defs₀ (F := F)) 𝒱₀ (c : Thread nD τ) none) Set.univ (bodyAt0 t00) fun _ =>
      bodyPost0 V O b c t00 (owns (c : Thread nD τ) (st0_6 t00) fullShare (sOut V c)) := by
  unfold bodyPre0 bodyPost0
  rw [show (dat0 V O b c).Φ t00.succ = (dat0 V O b c).Φ t00.castSucc from rfl,
    show (dat0 V O b c).owesAt none t00.succ = (dat0 V O b c).owesAt none t00.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before0_0, before0_1, before0_2, before0_3, before0_4]
  unfold bodyAt0
  iapply (pre_wp_first c (grid0.coords t00) ((cond_iff t00).mpr rfl) (st0_0 t00) (hstage0_0 ((cfg0.slots t00 0).cast nbuf0_0)) (st0_1 t00) (hstage0_1 ((cfg0.slots t00 1).cast nbuf0_1))
    (st0_2 t00) (hstage0_2 ((cfg0.slots t00 2).cast nbuf0_2)) (st0_3 t00) (hstage0_3 ((cfg0.slots t00 3).cast nbuf0_3)) (st0_4 t00) (hstage0_4 ((cfg0.slots t00 4).cast nbuf0_4))
    (st0_5 t00) (hstage0_5 ((cfg0.slots t00 5).cast nbuf0_5)) (st0_6 t00) (hstage0_6 ((cfg0.slots t00 6).cast nbuf0_6))
    (stgO V c t00) (stgX V c t00) (stgG V c t00) (stgA V c t00) (stgN V c t00) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-- A later point's body, the graph scores' buffer handed back as found. -/
theorem sound_later (c : Dev nD) (t : Fin cfg0.N) (ht : ¬ k0_cond1 (grid0.coords t) = 1#1) :
    bodyPre0 V O b c t ⊢ wp frame (wpE (defs₀ (F := F)) 𝒱₀ (c : Thread nD τ) none) Set.univ (bodyAt0 t) fun _ =>
      bodyPost0 V O b c t iprop(∃ d, owns (c : Thread nD τ) (st0_6 t) fullShare ((dat0 V O b c).before 6 t d)) := by
  unfold bodyPre0 bodyPost0
  rw [show (dat0 V O b c).Φ t.succ = (dat0 V O b c).Φ t.castSucc from rfl,
    show (dat0 V O b c).owesAt none t.succ = (dat0 V O b c).owesAt none t.castSucc from rfl]
  iintro ⟨HΦ, Howes, ⟨%d0, H0⟩, ⟨%d1, H1⟩, ⟨%d2, H2⟩, ⟨%d3, H3⟩, ⟨%d4, H4⟩, ⟨%d5, H5⟩, H6⟩
  rw [before0_0, before0_1, before0_2, before0_3, before0_4]
  unfold bodyAt0
  iapply (pre_wp_later c (grid0.coords t) ht (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (stgX V c t) (stgN V c t) _)
  isplitl [H1]; · iexact H1
  isplitl [H4]; · iexact H4
  isplitl [H5]; · iexists _; iexact H5
  iintro ⟨H1, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-- The body table's row at a point is the opening call's body there. -/
theorem defs₀_row0 (t : Fin cfg0.N) : defs₀ (F := F) .tc cfg0.body (cfg0.bodyArgs t (cfg0.slots t)) = bodyAt0 t := rfl

/-- What the pipeline takes back of the graph scores' buffer at a point. -/
def back6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dat0 V O b c).before 6 t d))
    | true => owns (c : Thread nD τ) (st0_6 t) fullShare (sOut V c)
  | false => owns (c : Thread nD τ) (st0_6 t) fullShare (sOut V c)

/-- After the first point, what the body hands back is what the pipeline takes back. -/
theorem back_of_later (c : Dev nD) (t : Fin cfg0.N) (h : ¬ k0_cond1 (grid0.coords t) = 1#1) :
    bodyPost0 V O b c t iprop(∃ d, owns (c : Thread nD τ) (st0_6 t) fullShare ((dat0 V O b c).before 6 t d)) ⊢ bodyPost0 V O b c t (back6 V O b c t) := by
  have hid : cfg0.idle 6 (cfg0.grid.coords t) = true := by rw [idle_iff]; simp [h]
  unfold bodyPost0
  iintro ⟨HΦ, Ho, H0, H1, H2, H3, H4, H5, ⟨%d, H⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold back6
  rw [hid]
  cases hfl : (cfg0.win 6).flush t with
  | false => iexists d; iexact H
  | true =>
    rw [before0_6 V O b c d t.val t.isLt (fun h0 => h ((cond_iff t).mpr h0))]
    iexact H

/-- A point's body, the graph scores' buffer as the pipeline takes it back. -/
theorem sound_body0 (c : Dev nD) (t : Fin cfg0.N) :
    bodyPre0 V O b c t ⊢ wp frame (wpE (defs₀ (F := F)) 𝒱₀ (c : Thread nD τ) none) Set.univ (bodyAt0 t) fun _ =>
      bodyPost0 V O b c t (back6 V O b c t) := by
  by_cases h : k0_cond1 (grid0.coords t) = 1#1
  · have ht : t = t00 := Fin.ext ((cond_iff t).mp h)
    subst ht
    rw [show back6 V O b c t00 = owns (c : Thread nD τ) (st0_6 t00) fullShare (sOut V c) from by
      unfold back6; rw [idle_iff]; simp only [h, beq_self_eq_true, Bool.not_true]]
    exact sound_first V O b c
  · refine (sound_later V O b c t h).trans ((wp frame (wpE (defs₀ (F := F)) 𝒱₀ (c : Thread nD τ) none) Set.univ (bodyAt0 t)).mono fun _ => back_of_later V O b c t h)

/-- The opening call's body meets its obligation. -/
theorem body_obligation0 (c : Dev nD) : BodyObligation (dat0 V O b c) (defs₀ (F := F)) 𝒱₀ none Set.univ := fun t => by
  rw [bigSep_W0, bigSep_W0, defs₀_row0]
  exact triple_restated (sound_body0 V O b c t) rfl .rfl fun _ => .rfl

/-! ## The region -/

variable (adm : (p : Fin 2) → (pcfgs (F := F) p).Adm)

/-- The proof data of a run of the opening call. -/
def pdats0 : (p : Fin 2) → (c : Dev nD) → Dat τ (Elt F) (SparseCore.Cfg.HIx 1) ℕ UU ℕ (Pipeline.pin (pcfgs (F := F)) adm p) c
  | ⟨0, _⟩ => fun c => dat0 V O b c
  | ⟨1, _⟩ => fun c => junkDat c

/-- The node scores' array after the region. -/
def resT (c : Dev nD) : Buf (Elt F) ((c : Thread nD τ).loc main_v3_0) := (dat0 V O b c).arrAt 5 cfg0.N
/-- The graph scores' array after the region. -/
def resS (c : Dev nD) : Buf (Elt F) ((c : Thread nD τ).loc main_v3_1) := (dat0 V O b c).arrAt 6 cfg0.N

variable (Vp : Val1 F)

set_option backward.isDefEq.respectTransparency.types false in
/-- The opening call over the thread's state: entered with every buffer at `V`, left with them at `Vp`, which has the
    results' arrays at `resT V` and `resS V` and agrees with `V` elsewhere. -/
def reg0 (R : Dev nD → sProp 𝕄) (hO : ∀ c g, O c g none = 0) (hVp_t : ∀ c, Vp c main_v3_0 = resT V O b c) (hVp_s : ∀ c, Vp c main_v3_1 = resS V O b c)
    (hVp_ne : ∀ c (r : Ref sig .tc), r ≠ main_v3_0 → r ≠ main_v3_1 → Vp c r = V c r) :
    Pipeline.RegionSeg (pcfgs (F := F)) adm (pdats0 V O b adm) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation0 V O b c).loose
  hwaits c := Pipeline.cellsWaits_intro _ _ _ _ c fun w s t => (K (F := F)).mayWait_none _ (hO c)
  pre c := iprop(unscopedBufs c (V c) ∗ R c ∗ owesB O b c)
  post c := iprop(unscopedBufs c (Vp c) ∗ R c ∗ owesB O b c)
  X _ := BI.emp
  Y _ := BI.emp
  Z c := iprop(Pipeline.unscopedRest (Ix := SparseCore.Cfg.HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats0 V O b adm) (launch0).win (launch0).arr_whole c
      ((pdats0 V O b adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesB
      icases HO with ⟨%W, %hW, HO⟩; iexists W; isplitr; · ipureintro; exact fun p hp => Or.inl (hW p hp)
      iexact HO
    isplitr; · iempintro
    isplitl [Hrest] <;> iassumption
  hin c := by
    rw [show (pdats0 V O b adm 0 c).Φ 0 = Pipeline.scopedRest spec0 c from rfl]
    iintro ⟨-, -, Hr⟩; iexact Hr
  hout c := by
    rw [Pipeline.ownSems0_none, show (pdats0 V O b adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := SparseCore.Cfg.HIx 1) (Name := ℕ) (U := UU) (Lvl := ℕ) (launch0).win (launch0).arr_whole c
      (pdats0 V O b adm) ((pdats0 V O b adm 0 c).share_full fun _ => rfl) (V c) (Vp c) ((pdats0 V O b adm 0 c).arrAt · cfg0.N)
      (fun w => by
        fin_cases w
        · exact ((pdats0 V O b adm 0 c).arrAt_in 0 rfl _).trans (hVp_ne c main_v0 (by decide) (by decide)).symm
        · exact ((pdats0 V O b adm 0 c).arrAt_in 1 rfl _).trans (hVp_ne c main_arg0 (by decide) (by decide)).symm
        · exact ((pdats0 V O b adm 0 c).arrAt_in 2 rfl _).trans (hVp_ne c main_arg1 (by decide) (by decide)).symm
        · exact ((pdats0 V O b adm 0 c).arrAt_in 3 rfl _).trans (hVp_ne c main_v1 (by decide) (by decide)).symm
        · exact ((pdats0 V O b adm 0 c).arrAt_in 4 rfl _).trans (hVp_ne c main_v2 (by decide) (by decide)).symm
        · exact (hVp_t c).symm
        · exact (hVp_s c).symm)
      (fun r hr => hVp_ne c r (fun h => hr (h ▸ Finset.mem_image.mpr ⟨5, Finset.mem_univ _, rfl⟩)) (fun h => hr (h ▸ Finset.mem_image.mpr ⟨6, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owesB
    icases HO with ⟨%W, %hW, HO⟩; iexists W; isplitr; swap; · iexact HO
    ipureintro
    intro p hp
    rcases hW hp with h | ⟨w, s, h⟩
    · exact h
    · rw [h]; exact Nat.zero_le _

end Cert.Proof.Pool

end
-- ==== Proof.Launch.lean ====
/-  The SparseCore call as the launch sees it: what its handshakes carry, the tile's task from them, and how the arrays the
    TensorCore holds are dealt to the thirty-two tiles and gathered again. -/
module

public import proofs.«01_k».proof.Proof.Tile
public import proofs.«01_k».proof.Proof.Pre

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (SparseCore.Cfg.HIx 1) (Elt F) ℕ UU ℕ

/-- Where the handshakes' rounds live in the algebra. -/
abbrev EH : Emb UH (MT nD τ sig (HIx 1) (Elt F) ℕ UU ℕ) := embL

/-! ## The buffers -/

/-- The rows' features on device `d`; -/
abbrev locX (d : Dev nD) : Loc nD τ sig := (SparseCore.T d).loc main_arg0
/-- the ids; -/
abbrev locI (d : Dev nD) : Loc nD τ sig := (SparseCore.T d).loc main_arg2
/-- the rows' scores; -/
abbrev locT (d : Dev nD) : Loc nD τ sig := (SparseCore.T d).loc main_v4
/-- the graphs' scores; -/
abbrev locS (d : Dev nD) : Loc nD τ sig := (SparseCore.T d).loc main_v5
/-- the sums; -/
abbrev locU (d : Dev nD) : Loc nD τ sig := (SparseCore.T d).loc main_v6_0
/-- the denominators. -/
abbrev locD (d : Dev nD) : Loc nD τ sig := (SparseCore.T d).loc main_v6_1

/-- The sums' rows divide among 32 tiles, -/
theorem hdivU : 32 ∣ S1024x512.size 0 := ⟨32, rfl⟩
/-- and so do the denominators'. -/
theorem hdivD : 32 ∣ S1024x16.size 0 := ⟨32, rfl⟩
/-- The rows of the sums that tile `w` writes. -/
abbrev partU (w : Fin 32) : Rect S1024x512 := Rect.part (s := S1024x512) (a₀ := 0) hdivU w
abbrev setU (w : Fin 32) : Finset S1024x512.Idx := ((uV).view.slice (partU w)).set
/-- The rows of the denominators that tile `w` writes. -/
abbrev partD (w : Fin 32) : Rect S1024x16 := Rect.part (s := S1024x16) (a₀ := 0) hdivD w
abbrev setD (w : Fin 32) : Finset S1024x16.Idx := ((dV).view.slice (partD w)).set

/-- Tile `i` of core `c`, numbered over both cores. -/
abbrev tileNo (c : Fin 2) (i : Fin 16) : Fin 32 := ⟨c.val * 16 + i.val, by omega⟩

/-! ## What the handshakes carry -/

section Payload

variable (d : Dev nD) (x : S50000x512.Idx → F .f32) (t : S50000.Idx → F .f32) (ids : S50000.Idx → BitVec 32) (s : S1024.Idx → F .f32)

/-- Tile `w`'s part: a share of each array it reads, and its rows of the two results at `u` and `dn`. -/
def tilePart (w : Fin 32) (u : S1024x512.Idx → F .f32) (dn : S1024x16.Idx → F .f32) : sProp 𝕄 :=
  iprop(((locX d ↦{shareTok fullShare 32 w} x) ∗ (locT d ↦{shareTok fullShare 32 w} t) ∗ (locI d ↦{shareTok fullShare 32 w} ids) ∗ (locS d ↦{shareTok fullShare 32 w} s))
    ∗ (locU d ↦[setU w]{fullShare} u) ∗ (locD d ↦[setD w]{fullShare} dn))

/-- A tile's part can be handed over. -/
instance tilePart_storable (w : Fin 32) (u : S1024x512.Idx → F .f32) (dn : S1024x16.Idx → F .f32) :
    BI.Storable (upEmb : UEmb _ 𝕄) (tilePart d x t ids s w u dn) := by unfold tilePart; infer_instance

end Payload

variable (A : Val1 F)

/-- Tile `w`'s part at the call, out of the buffers `A`; -/
abbrev goPart (d : Dev nD) (w : Fin 32) : sProp 𝕄 := tilePart d (A d main_arg0) (A d main_v4) (A d main_arg2) (A d main_v5) w (A d main_v6_0) (A d main_v6_1)
/-- and at its end. -/
abbrev tdPart (d : Dev nD) (w : Fin 32) : sProp 𝕄 :=
  tilePart d (A d main_arg0) (A d main_v4) (A d main_arg2) (A d main_v5) w (allU (A d main_arg0) (A d main_v4) (A d main_arg2) (A d main_v5))
    (allD (A d main_arg0) (A d main_v4) (A d main_arg2) (A d main_v5))

/-- Each core is handed its sixteen tiles' parts and hands them on. -/
def P : (K (F := F)).Pay (nD := nD) (Val := Elt F) (Name := ℕ) (U := UU) where
  st := fun q d c => match q with
    | 0 => bigSep Finset.univ fun i : Fin ((K (F := F)).nSub 0) => goPart A d (tileNo (Fin.cast nCore_zero c) (Fin.cast nSub_zero i))
  dn := fun q d c => match q with
    | 0 => bigSep Finset.univ fun i : Fin ((K (F := F)).nSub 0) => tdPart A d (tileNo (Fin.cast nCore_zero c) (Fin.cast nSub_zero i))
  go := fun q d c i => match q with | 0 => goPart A d (tileNo (Fin.cast nCore_zero c) (Fin.cast nSub_zero i))
  td := fun q d c i => match q with | 0 => tdPart A d (tileNo (Fin.cast nCore_zero c) (Fin.cast nSub_zero i))
  x := fun _ _ => iprop(emp)

/-- All that the handshakes carry can be handed over. -/
instance P_storable : (P A).IsStorable where
  st q d c := match q with
    | 0 => (inferInstance : BI.Storable (upEmb : UEmb _ 𝕄) (bigSep Finset.univ fun i : Fin ((K (F := F)).nSub 0) => goPart A d (tileNo (Fin.cast nCore_zero c) (Fin.cast nSub_zero i))))
  dn q d c := match q with
    | 0 => (inferInstance : BI.Storable (upEmb : UEmb _ 𝕄) (bigSep Finset.univ fun i : Fin ((K (F := F)).nSub 0) => tdPart A d (tileNo (Fin.cast nCore_zero c) (Fin.cast nSub_zero i))))
  go q d c i := match q with | 0 => (inferInstance : BI.Storable (upEmb : UEmb _ 𝕄) (goPart A d (tileNo (Fin.cast nCore_zero c) (Fin.cast nSub_zero i))))
  td q d c i := match q with | 0 => (inferInstance : BI.Storable (upEmb : UEmb _ 𝕄) (tdPart A d (tileNo (Fin.cast nCore_zero c) (Fin.cast nSub_zero i))))

/-- A core hands its tiles their parts as they come, and takes them back so. -/
theorem vecSplit : (K (F := F)).VecSplit' (P A) 0 := by
  intro d c
  show (bigSep Finset.univ fun i : Fin ((K (F := F)).nSub 0) => goPart A d (tileNo (Fin.cast nCore_zero c) (Fin.cast nSub_zero i))) ⊢ |={Set.univ}=> iprop(
      (bigSep Finset.univ fun i : Fin ((K (F := F)).nSub 0) => goPart A d (tileNo (Fin.cast nCore_zero c) (Fin.cast nSub_zero i)))
      ∗ ((bigSep Finset.univ fun i : Fin ((K (F := F)).nSub 0) => tdPart A d (tileNo (Fin.cast nCore_zero c) (Fin.cast nSub_zero i)))
          -∗ (bigSep Finset.univ fun i : Fin ((K (F := F)).nSub 0) => tdPart A d (tileNo (Fin.cast nCore_zero c) (Fin.cast nSub_zero i)))))
  iintro H; imodintro
  isplitl [H]; · iexact H
  iintro H; iexact H

/-! ## The task -/

section Task

variable (d : Dev nD) (L : grid1.Coords)

/-- The tile's number. -/
abbrev noL (L : grid1.Coords) : Fin 32 :=
  ⟨(L 0).val * 16 + (L 1).val, by have h0 : (L 0).val < 2 := (L 0).isLt; have h1 : (L 1).val < 16 := (L 1).isLt; omega⟩

/-- The rows of the sums that the tile's copy writes are its part. -/
theorem partU_eq : Rect.unit (s := S1024x512) (k1_off68 L) S32x512.size (k1_off68_inb L) = partU (noL L) := by
  unfold partU Rect.part Rect.block
  congr 1 <;> funext a
  · rw [k1_off68_eq]
    match a with
    | 0 => simp [Shape.partIx, Shape.partSize]; omega
    | 1 => simp [Shape.partIx, Shape.partSize]
  · match a with
    | 0 => simp [Shape.partSize]
    | 1 => simp [Shape.partSize]
/-- The rows of the denominators that the tile's copy writes are its part. -/
theorem partD_eq : Rect.unit (s := S1024x16) (k1_off69 L) S32x16.size (k1_off69_inb L) = partD (noL L) := by
  unfold partD Rect.part Rect.block
  congr 1 <;> funext a
  · rw [k1_off69_eq]
    match a with
    | 0 => simp [Shape.partIx, Shape.partSize]; omega
    | 1 => simp [Shape.partIx, Shape.partSize]
  · match a with
    | 0 => simp [Shape.partSize]
    | 1 => simp [Shape.partSize]

/-- The same as sets of indices, for the sums -/
theorem set_uK : (uK L).view.set = setU (noL L) := by
  show ((uV).view.slice (Rect.unit (s := S1024x512) (k1_off68 L) S32x512.size (k1_off68_inb L))).set = ((uV).view.slice (partU (noL L))).set
  rw [partU_eq]
/-- and for the denominators. -/
theorem set_dK : (dK L).view.set = setD (noL L) := by
  show ((dV).view.slice (Rect.unit (s := S1024x16) (k1_off69 L) S32x16.size (k1_off69_inb L))).set = ((dV).view.slice (partD (noL L))).set
  rw [partD_eq]

omit [FloatOps F] in
/-- The tile's rows of the sums, as its part and as its copy's destination. -/
theorem pts_uK (f : S1024x512.Idx → F .f32) :
    ((uK L).view.loc (V d (cV L) (jV L)) ↦[(uK L).view.set]{fullShare} f : sProp 𝕄) = (locU d ↦[setU (noL L)]{fullShare} f) := by
  rw [set_uK]
omit [FloatOps F] in
/-- The tile's rows of the denominators, as its part and as its copy's destination. -/
theorem pts_dK (f : S1024x16.Idx → F .f32) :
    ((dK L).view.loc (V d (cV L) (jV L)) ↦[(dK L).view.set]{fullShare} f : sProp 𝕄) = (locD d ↦[setD (noL L)]{fullShare} f) := by
  rw [set_dK]

/-- The tile's semaphores are the six the task uses and the rest. -/
theorem ownSems0_V : ∃ R : sProp 𝕄, (ownSems0 (V d (cV L) (jV L)) : sProp 𝕄) = iprop(semsRes (F := F) d L ∗ R) := by
  unfold SparseCore.Cfg.ownSems0 semsRes
  let c0 : GSem nD τ sig := (V d (cV L) (jV L), SemLoc.dma cc1_scoped0.sem)
  let c1 : GSem nD τ sig := (V d (cV L) (jV L), SemLoc.dma cc1_scoped1.sem)
  let c2 : GSem nD τ sig := (V d (cV L) (jV L), SemLoc.dma cc1_scoped2.sem)
  let c3 : GSem nD τ sig := (V d (cV L) (jV L), SemLoc.dma cc1_scoped3.sem)
  let c4 : GSem nD τ sig := (V d (cV L) (jV L), SemLoc.dma cc1_scoped4.sem)
  let c5 : GSem nD τ sig := (V d (cV L) (jV L), SemLoc.dma cc1_scoped5.sem)
  have hsub : ({c0, c1, c2, c3, c4, c5} : Finset (GSem nD τ sig)) ⊆ ownCells (V d (cV L) (jV L)) := by
    intro g hg
    simp only [Finset.mem_insert, Finset.mem_singleton] at hg
    have hm : ∀ a : SemLoc sig, a.isScoped .scVector = true → ((V d (cV L) (jV L), a) : GSem nD τ sig) ∈ ownCells (V d (cV L) (jV L)) :=
      fun a h => mem_ownCells.mpr ⟨rfl, h⟩
    rcases hg with rfl | rfl | rfl | rfl | rfl | rfl <;> exact hm _ (by decide)
  refine ⟨bigSep (ownCells (V d (cV L) (jV L)) \ {c0, c1, c2, c3, c4, c5}) fun g => semVal g 0, ?_⟩
  have hne : ∀ a b : SemLoc sig, a ≠ b → ((V d (cV L) (jV L), a) : GSem nD τ sig) ≠ (V d (cV L) (jV L), b) := fun a b h e => h (Prod.ext_iff.mp e).2
  rw [← Finset.union_sdiff_of_subset hsub, bigSep_union Finset.disjoint_sdiff]
  congr 1
  · rw [SparseCore.bigSep_insert', SparseCore.bigSep_insert', SparseCore.bigSep_insert', SparseCore.bigSep_insert', SparseCore.bigSep_insert', bigSep_singleton]
    all_goals
      simp only [Finset.mem_insert, Finset.mem_singleton, not_or]
      first | exact hne _ _ (by decide) | refine ⟨?_, ?_⟩ <;> first | exact hne _ _ (by decide) | skip
    all_goals repeat' (first | exact hne _ _ (by decide) | refine ⟨?_, ?_⟩)
  · rw [Finset.union_sdiff_of_subset hsub]

/-- The seven scratches. -/
def scratches : Finset (Ref sig .scVector) := {cc1_scratch0, cc1_scratch1, cc1_scratch2, cc1_scratch3, cc1_scratch4, cc1_scratch5, cc1_scratch6}

omit [FloatOps F] in
/-- Something of each scratch, one by one. -/
theorem bigSep_scratches (Φ : Ref sig .scVector → sProp 𝕄) :
    bigSep scratches Φ = iprop(Φ cc1_scratch0 ∗ Φ cc1_scratch1 ∗ Φ cc1_scratch2 ∗ Φ cc1_scratch3 ∗ Φ cc1_scratch4 ∗ Φ cc1_scratch5 ∗ Φ cc1_scratch6) := by
  unfold scratches
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
/-- The seven scratches as the body takes them. -/
theorem scratchRes_eq : (scratchRes (F := F) d L : sProp 𝕄)
    = bigSep scratches fun r => iprop(∃ f, (V d (cV L) (jV L)).loc r ↦{fullShare} f) := by
  rw [bigSep_scratches]; rfl

/-- The tile's buffers are the seven scratches and the rest. -/
theorem ownBufs_V : ∃ R : sProp 𝕄, (ownBufs (V d (cV L) (jV L)) : sProp 𝕄) = iprop(scratchRes (F := F) d L ∗ R) := by
  have hinj : Function.Injective ((Proc.scVector (cV L) (jV L) : Proc τ).devRef (sig := sig)) := Proc.devRef_injective _
  have hsub : scratches.map ⟨_, hinj⟩ ⊆ ownRefs (τ := τ) (.scVector (cV L) (jV L)) := by
    intro b hb
    obtain ⟨r, hr, rfl⟩ := Finset.mem_map.mp hb
    simp only [scratches, Finset.mem_insert, Finset.mem_singleton] at hr
    rcases hr with rfl | rfl | rfl | rfl | rfl | rfl | rfl <;>
      exact SparseCore.Cfg.mem_ownRefs_of_owner (p := Proc.scVector (cV L) (jV L)) rfl
  refine ⟨bigSep (ownRefs (τ := τ) (.scVector (cV L) (jV L)) \ scratches.map ⟨_, hinj⟩) fun b => iprop(∃ f, ((d, b) : Loc nD τ sig) ↦{fullShare} f), ?_⟩
  rw [scratchRes_eq]
  unfold SparseCore.Cfg.ownBufs
  have e := bigSep_union (Finset.disjoint_sdiff (s := scratches.map ⟨_, hinj⟩) (t := ownRefs (τ := τ) (.scVector (cV L) (jV L))))
    (Φ := fun b => (iprop(∃ f, ((d, b) : Loc nD τ sig) ↦{fullShare} f) : sProp 𝕄))
  rw [Finset.union_sdiff_of_subset hsub, bigSep_map] at e
  exact e

/-- The tile's task, from what the handshake brings to what it takes back. -/
theorem tile_body (hF : (K (F := F)).Facts) (O : CellTallies nD τ sig (HIx 1)) (W : Waits sig (HIx 1)) (hO : ∀ g, O g none = 0) :
    iprop(levAts (K (F := F)).L (K (F := F)).lev ∗ emp ∗ goPart A d (noL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body (F := F) L xV (Memref.isWhole_whole _) iV (Memref.isWhole_whole _) tV (Memref.isWhole_whole _) sV (Memref.isWhole_whole _) uV (Memref.isWhole_whole _) dV (Memref.isWhole_whole _)
            bI (Memref.isWhole_whole _) bT (Memref.isWhole_whole _) bS (Memref.isWhole_whole _) bX (Memref.isWhole_whole _) bE (Memref.isWhole_whole _) bU (Memref.isWhole_whole _) bD (Memref.isWhole_whole _)
            cc1_scoped0 cc1_scoped1 cc1_scoped2 cc1_scoped3 cc1_scoped4 cc1_scoped5)
          fun _ => iprop(tdPart A d (noL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨RB, hRB⟩ := ownBufs_V (F := F) d L
  obtain ⟨RS, hRS⟩ := ownSems0_V (F := F) d L
  rw [(K (F := F)).scopedBufs_V hF d (cV L) (jV L), SparseCore.Cfg.scopedSems0_V (Val := Elt F) d (cV L) (jV L), hRB, hRS]
  unfold goPart tdPart tilePart
  have key := tile_wp d L (shareTok fullShare 32 (noL L)) (shareTok fullShare 32 (noL L)) (shareTok fullShare 32 (noL L)) (shareTok fullShare 32 (noL L))
    (A d main_arg0) (A d main_v4) (A d main_arg2) (A d main_v5) O (A d main_v6_0) (A d main_v6_1) W
  rw [pts_uK (F := F) d L, pts_dK (F := F) d L, pts_uK (F := F) d L, pts_dK (F := F) d L] at key
  iintro ⟨#Hlv, -, ⟨Hr, Hu, Hd⟩, ⟨Hbuf, HRB⟩, ⟨Hsem, HRS⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame (wpE (defs₀ (F := F)) 𝒱₀ (V d (cV L) (jV L)) none) Set.univ) $$ [-]
  isplitl [Hmw Hr Hu Hd Hbuf Hsem HO]
  · iapply key
    unfold readRes
    isplitl [Hmw]; · iexact Hmw
    isplitl [Hr]; · iexact Hr
    isplitl [Hu]; · iexact Hu
    isplitl [Hd]; · iexact Hd
    isplitl [Hbuf]; · iexact Hbuf
    isplitl [Hsem]; · iexact Hsem
    iexact HO
  unfold readRes
  iintro %_ ⟨Hr, Hu, Hd, Hbuf, Hsem, %W', HO⟩
  isplitl [Hr Hu Hd]
  · isplitl [Hr]; · iexact Hr
    isplitl [Hu]; · iexact Hu
    iexact Hd
  isplitl [Hbuf HRB]
  · isplitl [Hbuf]; · iexact Hbuf
    iexact HRB
  isplitl [Hsem HRS]
  · isplitl [Hsem]; · iexact Hsem
    iexact HRS
  iexists _; isplitr
  swap; · iexact HO
  ipureintro; intro p _
  rcases p.2 with _ | q
  · exact .inr (.inl rfl)
  · exact .inr (.inr (congrArg some (Subsingleton.elim q 0)))

/-- A tile's coordinates. -/
def coordsV (c : Fin (grid1.bound 0)) (s : Fin (grid1.bound 1)) : grid1.Coords :=
  fun | 0 => c | 1 => s | ⟨_ + 2, h⟩ => absurd h (Nat.not_lt.2 (Nat.le_add_left _ _))

/-- What a tile runs. -/
theorem defs₀_vector (c : Fin τ.nSC) (s : Fin τ.nSub) :
    defs₀ (F := F) (.scVector c s) 1 ()
      = SparseCore.onTile hcore1 hsub1 (fun c s => cc1__sc_body (F := F) (coordsV c s) xV (Memref.isWhole_whole _) iV (Memref.isWhole_whole _) tV (Memref.isWhole_whole _) sV (Memref.isWhole_whole _) uV (Memref.isWhole_whole _) dV (Memref.isWhole_whole _)
            bI (Memref.isWhole_whole _) bT (Memref.isWhole_whole _) bS (Memref.isWhole_whole _) bX (Memref.isWhole_whole _) bE (Memref.isWhole_whole _) bU (Memref.isWhole_whole _) bD (Memref.isWhole_whole _)
            cc1_scoped0 cc1_scoped1 cc1_scoped2 cc1_scoped3 cc1_scoped4 cc1_scoped5) ⟨⟩ c s := rfl

/-- Every tile of the call meets its obligation. -/
theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) hF O W hO

end Task

/-! ## Dealing the arrays to the tiles and gathering them -/

/-- A tile's rows of the sums are its part, -/
theorem setU_eq (w : Fin 32) : setU w = (partU w).set := by
  show ((View.whole (main_v6_0_scv : Ref sig .scVector)).slice (partU w)).set = _
  rw [View.set_slice]; exact Finset.map_refl
/-- no two tiles share a row, -/
theorem setU_disjoint : ∀ i ∈ (Finset.univ : Finset (Fin 32)), ∀ j ∈ (Finset.univ : Finset (Fin 32)), i ≠ j → Disjoint (setU i) (setU j) :=
  fun i _ j _ h => by rw [setU_eq, setU_eq]; exact Rect.part_disjoint hdivU h
/-- and every row is some tile's. -/
theorem setU_cover : (Finset.univ : Finset (Fin 32)).biUnion setU = Finset.univ :=
  (Finset.biUnion_congr rfl fun i _ => setU_eq i).trans (Rect.biUnion_part hdivU)
/-- A tile's rows of the denominators are its part, -/
theorem setD_eq (w : Fin 32) : setD w = (partD w).set := by
  show ((View.whole (main_v6_1_scv : Ref sig .scVector)).slice (partD w)).set = _
  rw [View.set_slice]; exact Finset.map_refl
/-- no two tiles share a row, -/
theorem setD_disjoint : ∀ i ∈ (Finset.univ : Finset (Fin 32)), ∀ j ∈ (Finset.univ : Finset (Fin 32)), i ≠ j → Disjoint (setD i) (setD j) :=
  fun i _ j _ h => by rw [setD_eq, setD_eq]; exact Rect.part_disjoint hdivD h
/-- and every row is some tile's. -/
theorem setD_cover : (Finset.univ : Finset (Fin 32)).biUnion setD = Finset.univ :=
  (Finset.biUnion_congr rfl fun i _ => setD_eq i).trans (Rect.biUnion_part hdivD)

omit [FloatOps F] in
/-- The sums are the tiles' parts of them. -/
theorem ptsU_parts (d : Dev nD) (f : Buf (Elt F) (locU d)) :
    (locU d ↦{fullShare} f : sProp 𝕄) = bigSep Finset.univ fun w : Fin 32 => locU d ↦[setU w]{fullShare} f := by
  rw [← pointsTo_biUnion Finset.univ (ℓ := locU d) setU setU_disjoint, setU_cover]; try rfl
omit [FloatOps F] in
/-- The denominators are the tiles' parts of them. -/
theorem ptsD_parts (d : Dev nD) (f : Buf (Elt F) (locD d)) :
    (locD d ↦{fullShare} f : sProp 𝕄) = bigSep Finset.univ fun w : Fin 32 => locD d ↦[setD w]{fullShare} f := by
  rw [← pointsTo_biUnion Finset.univ (ℓ := locD d) setD setD_disjoint, setD_cover]; try rfl

omit [FloatOps F] in
/-- The thirty-two tiles, core by core. -/
theorem bigSep_tiles (Φ : Fin 32 → sProp 𝕄) :
    bigSep Finset.univ Φ = bigSep Finset.univ fun c : Fin ((K (F := F)).nCore 0) => bigSep Finset.univ fun i : Fin ((K (F := F)).nSub 0) =>
      Φ (tileNo (Fin.cast nCore_zero c) (Fin.cast nSub_zero i)) := by
  show bigSep Finset.univ Φ = bigSep Finset.univ fun c : Fin 2 => bigSep Finset.univ fun i : Fin 16 => Φ (tileNo c i)
  rw [← bigSep_univ_prod fun p : Fin 2 × Fin 16 => Φ (tileNo p.1 p.2)]
  have hinj : Function.Injective fun p : Fin 2 × Fin 16 => tileNo p.1 p.2 := by
    rintro ⟨a, b⟩ ⟨a', b'⟩ h
    have h' : a.val * 16 + b.val = a'.val * 16 + b'.val := congrArg Fin.val h
    exact Prod.ext (Fin.ext (by simp only; omega)) (Fin.ext (by simp only; omega))
  refine Eq.trans ?_ (bigSep_map (s := Finset.univ) (⟨_, hinj⟩ : Fin 2 × Fin 16 ↪ Fin 32) (Φ := Φ))
  refine congrArg (fun t => bigSep t Φ) ?_
  refine (Finset.eq_univ_of_forall fun w => Finset.mem_map.mpr ⟨(⟨w.val / 16, by omega⟩, ⟨w.val % 16, by omega⟩), Finset.mem_univ _, Fin.ext ?_⟩).symm
  show w.val / 16 * 16 + w.val % 16 = w.val
  omega

section Deal

variable (d : Dev nD) (x : S50000x512.Idx → F .f32) (t : S50000.Idx → F .f32) (ids : S50000.Idx → BitVec 32) (s : S1024.Idx → F .f32)

/-- What the TensorCore keeps of the arrays it shares out. -/
def kept : sProp 𝕄 :=
  iprop((locX d ↦{shareDrop fullShare 32} x) ∗ (locT d ↦{shareDrop fullShare 32} t) ∗ (locI d ↦{shareDrop fullShare 32} ids) ∗ (locS d ↦{shareDrop fullShare 32} s))

/-- The six arrays are the tiles' parts and what is kept. -/
theorem deal (u : S1024x512.Idx → F .f32) (dn : S1024x16.Idx → F .f32) :
    iprop((locX d ↦{fullShare} x) ∗ (locT d ↦{fullShare} t) ∗ (locI d ↦{fullShare} ids) ∗ (locS d ↦{fullShare} s) ∗ (locU d ↦{fullShare} u) ∗ (locD d ↦{fullShare} dn))
      ⊣⊢ iprop(kept d x t ids s ∗ bigSep Finset.univ fun w : Fin 32 => tilePart d x t ids s w u dn) := by
  unfold kept tilePart
  rw [bigSep_sep', bigSep_sep', bigSep_sep', bigSep_sep', bigSep_sep', ← ptsU_parts (F := F) d u, ← ptsD_parts (F := F) d dn]
  have hx := Transfers.pointsTo_toks (Val := Elt F) (Ix := HIx 1) (Name := ℕ) (U := UU) (Lvl := ℕ) (ℓ := locX d) (S := Finset.univ) (f := x) fullShare 32
  have ht := Transfers.pointsTo_toks (Val := Elt F) (Ix := HIx 1) (Name := ℕ) (U := UU) (Lvl := ℕ) (ℓ := locT d) (S := Finset.univ) (f := t) fullShare 32
  have hi := Transfers.pointsTo_toks (Val := Elt F) (Ix := HIx 1) (Name := ℕ) (U := UU) (Lvl := ℕ) (ℓ := locI d) (S := Finset.univ) (f := ids) fullShare 32
  have hs := Transfers.pointsTo_toks (Val := Elt F) (Ix := HIx 1) (Name := ℕ) (U := UU) (Lvl := ℕ) (ℓ := locS d) (S := Finset.univ) (f := s) fullShare 32
  constructor
  · iintro ⟨Hx, Ht, Hi, Hs, Hu, Hd⟩
    ihave Hx' := hx.1 $$ Hx
    ihave Ht' := ht.1 $$ Ht
    ihave Hi' := hi.1 $$ Hi
    ihave Hs' := hs.1 $$ Hs
    icases Hx' with ⟨Hx0, Hx1⟩
    icases Ht' with ⟨Ht0, Ht1⟩
    icases Hi' with ⟨Hi0, Hi1⟩
    icases Hs' with ⟨Hs0, Hs1⟩
    isplitl [Hx0 Ht0 Hi0 Hs0]
    · isplitl [Hx0]; · iexact Hx0
      isplitl [Ht0]; · iexact Ht0
      isplitl [Hi0]; · iexact Hi0
      iexact Hs0
    isplitl [Hx1 Ht1 Hi1 Hs1]
    · isplitl [Hx1]; · iexact Hx1
      isplitl [Ht1]; · iexact Ht1
      isplitl [Hi1]; · iexact Hi1
      iexact Hs1
    isplitl [Hu]; · iexact Hu
    iexact Hd
  · iintro ⟨⟨Hx0, Ht0, Hi0, Hs0⟩, ⟨Hx1, Ht1, Hi1, Hs1⟩, Hu, Hd⟩
    isplitl [Hx0 Hx1]; · iapply hx.2; isplitl [Hx0] <;> iassumption
    isplitl [Ht0 Ht1]; · iapply ht.2; isplitl [Ht0] <;> iassumption
    isplitl [Hi0 Hi1]; · iapply hi.2; isplitl [Hi0] <;> iassumption
    isplitl [Hs0 Hs1]; · iapply hs.2; isplitl [Hs0] <;> iassumption
    isplitl [Hu]; · iexact Hu
    iexact Hd

end Deal

/-- What the call's start takes is every core's share. -/
theorem st0_eq (d : Dev nD) :
    (bigSep Finset.univ fun c : Fin ((K (F := F)).nCore 0) => (P A).st 0 d c) = bigSep Finset.univ fun w : Fin 32 => goPart A d w :=
  (bigSep_tiles (F := F) fun w => goPart A d w).symm
/-- What the call's end gives back is every core's share. -/
theorem dn0_eq (d : Dev nD) :
    (bigSep Finset.univ fun c : Fin ((K (F := F)).nCore 0) => (P A).dn 0 d c) = bigSep Finset.univ fun w : Fin 32 => tdPart A d w :=
  (bigSep_tiles (F := F) fun w => tdPart A d w).symm

end Cert.Proof.Pool

end
-- ==== Proof.Host.lean ====
/-  @main on the TensorCore: the host operations, the two TensorCore calls and the SparseCore call in order, and what every
    buffer holds after each; the program's run. -/
module

public import proofs.«01_k».proof.Proof.Launch

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within held_sub_split)
open Idealize.ShloMosaic.Pipeline (ucRefs sub_ucRefs unscopedBufs_held)

variable {F : FTy → Type} [FloatOps F] [∀ e, Nonempty (Elt F e)]

local notation "𝕄" => MT nD τ sig (SparseCore.Cfg.HIx 1) (Elt F) ℕ UU ℕ

/-! ## The host operations -/

/-- The scores' bias, as a one by one array. -/
abbrev op1 : HloOp τ sig (Elt F) := StableHlo.reshape main_arg4 main_v0 (rfl : (.f32 : EltTy) = .f32) shapeCasts_S1_S1x1
/-- The scores' weights for the graphs. -/
abbrev op2 : HloOp τ sig (Elt F) := StableHlo.unary main_arg3 main_v1 ((extractStridedSlice S512x1 ![0, 0] · slices_S1024x1_S512x1_0_0) : (⟨S1024x1, .f32⟩ : BufTy).Contents (Elt F) → (⟨S512x1, .f32⟩ : BufTy).Contents (Elt F))
/-- The scores' weights for the rows. -/
abbrev op3 : HloOp τ sig (Elt F) := StableHlo.unary main_arg3 main_v2 ((extractStridedSlice S512x1 ![512, 0] · slices_S1024x1_S512x1_512_0) : (⟨S1024x1, .f32⟩ : BufTy).Contents (Elt F) → (⟨S512x1, .f32⟩ : BufTy).Contents (Elt F))
/-- The rows' scores, flat. -/
abbrev op4 : HloOp τ sig (Elt F) := StableHlo.reshape main_v3_0 main_v4 (rfl : (.f32 : EltTy) = .f32) shapeCasts_S50000x1_S50000
/-- The graphs' scores, flat. -/
abbrev op5 : HloOp τ sig (Elt F) := StableHlo.reshape main_v3_1 main_v5 (rfl : (.f32 : EltTy) = .f32) shapeCasts_S1024x1_S1024
/-- The projection's bias, as a row. -/
abbrev op6 : HloOp τ sig (Elt F) := StableHlo.reshape main_arg6 main_v7 (rfl : (.f32 : EltTy) = .f32) shapeCasts_S512_S1x512

/-- A TensorCore buffer, on the device. -/
abbrev dr (r : Ref sig .tc) : DevRef τ sig := Proc.devRef .tc r
/-- Different buffers of the TensorCore are different buffers of the device. -/
theorem dr_ne {r r' : Ref sig .tc} (h : r ≠ r') : dr r ≠ dr r' := fun e => h (Proc.devRef_injective _ e)

/-- Each device's valuation, as the TensorCore's buffers. -/
abbrev bufsOf (W : Dev nD → Valuation τ sig (Elt F)) : Val1 F := fun c b => W c (dr b)

/-! ## What the buffers hold -/

variable (m : (ℓ : Loc nD τ sig) → Buf (Elt F) ℓ) (ρ : Dev nD → PrngReg)

/-- What the TensorCore owes before call `n`. -/
abbrev owed (n : ℕ) (d : Dev nD) : CellTallies nD τ sig (HIx 1) := (K (F := F)).Otc d n

/-- Nothing is owed at no round. -/
theorem owed_none (n : ℕ) (d : Dev nD) (g : GSem nD τ sig) : owed (F := F) n d g none = 0 := by
  by_contra h
  have h1 := SparseCore.Cfg.lev_of_Otc_pos (K := K (F := F)) (d := d) (n := n) (g := g) (ι := none) (Nat.pos_of_ne_zero h)
  rw [SparseCore.Cfg.lev_none] at h1
  omega

/-- At the start; -/
def W0 (d : Dev nD) : Valuation τ sig (Elt F) := fun b => m (d, b)
/-- entering the first TensorCore call; -/
def W3 (d : Dev nD) : Valuation τ sig (Elt F) := op3.result (op2.result (op1.result (W0 m d)))
/-- after it; -/
def W4 (d : Dev nD) : Valuation τ sig (Elt F) :=
  Function.update (Function.update (W3 m d) (dr main_v3_0) (resT (bufsOf (W3 m)) (owed (F := F) 0) 0 d)) (dr main_v3_1) (resS (bufsOf (W3 m)) (owed (F := F) 0) 0 d)
/-- entering the SparseCore call; -/
def W6 (d : Dev nD) : Valuation τ sig (Elt F) := op5.result (op4.result (W4 m d))
/-- the buffers the SparseCore call reads. -/
abbrev A6 : Val1 F := bufsOf (W6 m)
/-- After it; -/
def W7 (d : Dev nD) : Valuation τ sig (Elt F) :=
  Function.update (Function.update (W6 m d) (dr main_v6_0) (allU (A6 m d main_arg0) (A6 m d main_v4) (A6 m d main_arg2) (A6 m d main_v5)))
    (dr main_v6_1) (allD (A6 m d main_arg0) (A6 m d main_v4) (A6 m d main_arg2) (A6 m d main_v5))
/-- entering the second TensorCore call; -/
def W8 (d : Dev nD) : Valuation τ sig (Elt F) := op6.result (W7 m d)
/-- at the end. -/
def W9 (d : Dev nD) : Valuation τ sig (Elt F) := Function.update (W8 m d) (dr main_v8) (res2 (bufsOf (W8 m)) (owed (F := F) 1) 8 d)

/-! ## The six arrays of the SparseCore call among the core's -/

/-- The six. -/
def six : Finset (DevRef τ sig) := {dr main_arg0, dr main_v4, dr main_arg2, dr main_v5, dr main_v6_0, dr main_v6_1}

omit [FloatOps F] [∀ e, Nonempty (Elt F e)] in
/-- A buffer that is not scoped is among those @main holds. -/
theorem mem_uc (r : Ref sig .tc) (h : r.isScoped = false) : dr r ∈ ucRefs τ sig := by
  unfold Pipeline.ucRefs
  exact Finset.mem_filter.mpr ⟨StableHlo.devRef_mem_tcRefs r, by rw [show (dr r).isScoped = r.isScoped from rfl, h]; decide⟩

/-- @main holds the six arrays. -/
theorem six_sub : six ⊆ ucRefs τ sig := by
  intro b hb
  simp only [six, Finset.mem_insert, Finset.mem_singleton] at hb
  rcases hb with rfl | rfl | rfl | rfl | rfl | rfl <;> exact mem_uc _ rfl

omit [FloatOps F] [∀ e, Nonempty (Elt F e)] in
/-- The six arrays, one by one. -/
theorem held_six (d : Dev nD) (W : Valuation τ sig (Elt F)) :
    (held (SparseCore.T d) six W : sProp 𝕄)
      = iprop((locX d ↦{fullShare} W (dr main_arg0)) ∗ (locT d ↦{fullShare} W (dr main_v4)) ∗ (locI d ↦{fullShare} W (dr main_arg2)) ∗ (locS d ↦{fullShare} W (dr main_v5))
        ∗ (locU d ↦{fullShare} W (dr main_v6_0)) ∗ (locD d ↦{fullShare} W (dr main_v6_1))) := by
  have ne : ∀ r r' : Ref sig .tc, r ≠ r' → dr r ≠ dr r' := fun _ _ h => dr_ne h
  unfold held six
  rw [SparseCore.bigSep_insert', SparseCore.bigSep_insert', SparseCore.bigSep_insert', SparseCore.bigSep_insert', SparseCore.bigSep_insert', bigSep_singleton]
  all_goals
    simp only [Finset.mem_insert, Finset.mem_singleton, not_or]
    repeat' (first | exact ne _ _ (by decide) | refine ⟨?_, ?_⟩)

omit [FloatOps F] [∀ e, Nonempty (Elt F e)] in
/-- A buffer outside a set may change under what holds the set. -/
theorem held_update (c : Thread nD τ) (S' : Finset (DevRef τ sig)) (W : Valuation τ sig (Elt F)) (b : DevRef τ sig) (v : b.ty.Contents (Elt F)) (hb : b ∉ S') :
    (held c S' (Function.update W b v) : sProp 𝕄) = held c S' W :=
  bigSep_congr fun b' hb' => by rw [Function.update_of_ne (fun e => hb (by rw [← e]; exact hb'))]

/-- The SparseCore call changes nothing but the six arrays. -/
theorem rest_six (d : Dev nD) : (held (SparseCore.T d) (ucRefs τ sig \ six) (W7 m d) : sProp 𝕄) = held (SparseCore.T d) (ucRefs τ sig \ six) (W6 m d) := by
  unfold W7
  rw [held_update _ _ _ _ _ (fun h => (Finset.mem_sdiff.mp h).2 (by simp [six])), held_update _ _ _ _ _ (fun h => (Finset.mem_sdiff.mp h).2 (by simp [six]))]

/-! ## The ghost state -/

/-- Where the pipelines' rounds live in the algebra. -/
abbrev EP : Emb UP (MT nD τ sig (HIx 1) (Elt F) ℕ UU ℕ) := (Emb.inl : Emb UP (UP × Counters)).trans embR

/-- The two pipelines are admissible. -/
abbrev adm : (p : Fin 2) → (pcfgs (F := F) p).Adm := fun p => (cfgs p).toPCfg_adm

/-- The ghost state at the start. -/
def u₀ : UU := (initOf (K (F := F)).hsCells (K (F := F)).hsToks, initOf (Pipeline.cells (nD := nD) (τ := τ) cfgs cellOf_inj) (Pipeline.launchToks cfgs cellOf_inj), 1)

/-- What each device's TensorCore is given for its two pipelines. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] [∀ e, Nonempty (Elt F e)] in
/-- Nothing, any number of times, is nothing. -/
theorem bigSep_emp' {I : Type} (s : Finset I) : (bigSep s fun _ => iprop(emp)) = (iprop(emp) : sProp 𝕄) := bigSep_emp_const s

/-- The ghost state at the start is the handshakes', the pipelines' and the counters' own. -/
theorem hu₀ (A : Val1 F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P A).x q thr) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UP × Counters)) $$ Hu
  icases H with ⟨HH, HR⟩
  ihave HP := (own_pair_emb (embR : Emb (UP × Counters) 𝕄) (initOf (Pipeline.cells (nD := nD) (τ := τ) cfgs cellOf_inj) (Pipeline.launchToks cfgs cellOf_inj)) 1) $$ HR
  icases HP with ⟨HP, -⟩
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P A).x q thr) = bigSep Finset.univ fun _ => (iprop(emp) : sProp 𝕄) from
    bigSep_congr fun _ _ => bigSep_univ_of_subsingleton (0 : Fin 1), bigSep_emp']
  iempintro

/-! ## A TensorCore call inside @main -/

/-- A region's step, as @main calls it. -/
theorem region_step {pd : (p : Fin 2) → (c : Dev nD) → Pipeline.Dat τ (Elt F) (HIx 1) ℕ UU ℕ (Pipeline.pin (pcfgs (F := F)) adm p) c} {p : Fin 2}
    (R : Pipeline.RegionSeg (pcfgs (F := F)) adm pd none defs₀ 𝒱₀ (K (F := F)).L (K (F := F)).lev p) (d : Dev nD) (Q : PUnit → sProp 𝕄) :
    iprop((iprop(boundary (SparseCore.T d) ∗ R.post d) -∗ Q ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (Prog.lift (.customCall (SparseCore.inner (Pipeline.entry p)) ())) Q := by
  refine BI.Entails.trans ?_ ((K (F := F)).wp_liftProg (D (F := F)) 𝒱 (SparseCore.T d) Set.univ none (Prog.op (.customCall (Pipeline.entry p) ()) Prog.ret) Q)
  have h := Pipeline.RegionSeg.wp (pcfgs (F := F)) adm pd none cellOf_inj EP defs₀ 𝒱₀ (K (F := F)).L (K (F := F)).lev R d none
    (fun u hu => nomatch hu) (fun a => Prog.ret a) Q
  have hr : Q ⟨⟩ ⊢ wp frame (wpE (D (F := F)) 𝒱 (SparseCore.T d) none) Set.univ (Prog.ret ⟨⟩ : Prog (TpuEff nD τ sig (Elt F) ΛP .tc) PUnit) Q := by
    iintro H; rw [wp_ret]; imodintro; iexact H
  exact (sep_mono_left (wand_mono_right hr)).trans h

/-! ## The two regions at their contents -/

/-- The first TensorCore call as a region of @main. -/
def R0 : Pipeline.RegionSeg (pcfgs (F := F)) adm (pdats0 (bufsOf (W3 m)) (owed (F := F) 0) 0 adm) none defs₀ 𝒱₀ (K (F := F)).L (K (F := F)).lev 0 :=
  reg0 (bufsOf (W3 m)) (owed (F := F) 0) 0 adm (bufsOf (W4 m)) (fun _ => iprop(emp)) (fun c g => owed_none 0 c g)
    (fun c => by
      show W4 m c (dr main_v3_0) = _
      unfold W4
      rw [Function.update_of_ne (dr_ne (by decide)), Function.update_self])
    (fun c => by
      show W4 m c (dr main_v3_1) = _
      unfold W4
      rw [Function.update_self])
    (fun c r h0 h1 => by
      show W4 m c (dr r) = W3 m c (dr r)
      unfold W4
      rw [Function.update_of_ne (dr_ne h1), Function.update_of_ne (dr_ne h0)])

/-- The second TensorCore call as a region of @main. -/
def R2 : Pipeline.RegionSeg (pcfgs (F := F)) adm (pdats2 (bufsOf (W8 m)) (owed (F := F) 1) 8 adm) none defs₀ 𝒱₀ (K (F := F)).L (K (F := F)).lev 1 :=
  reg2 (bufsOf (W8 m)) (owed (F := F) 1) 8 adm (bufsOf (W9 m)) (fun _ => iprop(emp)) (fun c g => owed_none 1 c g)
    (fun c => by
      show W9 m c (dr main_v8) = _
      unfold W9
      rw [Function.update_self])
    (fun c r h => by
      show W9 m c (dr r) = W8 m c (dr r)
      unfold W9
      rw [Function.update_of_ne (dr_ne h)])

/-- What the first region takes -/
theorem R0_pre (d : Dev nD) : (R0 m).pre d = iprop(held (SparseCore.T d) (ucRefs τ sig) (W3 m d) ∗ emp ∗ owesB (F := F) (owed (F := F) 0) 0 d) := by
  rw [show (R0 m).pre d = iprop(unscopedBufs d (fun b => W3 m d (dr b)) ∗ emp ∗ owesB (F := F) (owed (F := F) 0) 0 d) from rfl, unscopedBufs_held]
/-- and leaves. -/
theorem R0_post (d : Dev nD) : (R0 m).post d = iprop(held (SparseCore.T d) (ucRefs τ sig) (W4 m d) ∗ emp ∗ owesB (F := F) (owed (F := F) 0) 0 d) := by
  rw [show (R0 m).post d = iprop(unscopedBufs d (fun b => W4 m d (dr b)) ∗ emp ∗ owesB (F := F) (owed (F := F) 0) 0 d) from rfl, unscopedBufs_held]
/-- What the second region takes -/
theorem R2_pre (d : Dev nD) : (R2 m).pre d = iprop(held (SparseCore.T d) (ucRefs τ sig) (W8 m d) ∗ emp ∗ owesB (F := F) (owed (F := F) 1) 8 d) := by
  rw [show (R2 m).pre d = iprop(unscopedBufs d (fun b => W8 m d (dr b)) ∗ emp ∗ owesB (F := F) (owed (F := F) 1) 8 d) from rfl, unscopedBufs_held]
/-- and leaves. -/
theorem R2_post (d : Dev nD) : (R2 m).post d = iprop(held (SparseCore.T d) (ucRefs τ sig) (W9 m d) ∗ emp ∗ owesB (F := F) (owed (F := F) 1) 8 d) := by
  rw [show (R2 m).post d = iprop(unscopedBufs d (fun b => W9 m d (dr b)) ∗ emp ∗ owesB (F := F) (owed (F := F) 1) 8 d) from rfl, unscopedBufs_held]

/-- The TensorCore's records before call `n`: what it owes, and the rest. -/
theorem tcSt_owes (n : ℕ) (d : Dev nD) : ∃ X : sProp 𝕄, ((K (F := F)).tcSt EH d n : sProp 𝕄) = iprop(owesB (F := F) (owed (F := F) n) (8 * n) d ∗ X) :=
  ⟨_, rfl⟩

/-- What @main leaves: every buffer of the core at its final contents. -/
abbrev FIN (d : Dev nD) : sProp 𝕄 := held (SparseCore.T d) (ucRefs τ sig) (W9 m d)

/-- The SparseCore call's arrays, dealt to the tiles; -/
theorem deal6 (d : Dev nD) : (held (SparseCore.T d) (ucRefs τ sig) (W6 m d) : sProp 𝕄)
    ⊢ iprop((kept d (A6 m d main_arg0) (A6 m d main_v4) (A6 m d main_arg2) (A6 m d main_v5) ∗ held (SparseCore.T d) (ucRefs τ sig \ six) (W6 m d))
      ∗ bigSep Finset.univ fun c : Fin ((K (F := F)).nCore 0) => (P (A6 m)).st 0 d c) := by
  rw [held_sub_split (SparseCore.T d) six_sub, held_six, st0_eq]
  refine (sep_mono_left (deal (F := F) d (A6 m d main_arg0) (A6 m d main_v4) (A6 m d main_arg2) (A6 m d main_v5) (A6 m d main_v6_0) (A6 m d main_v6_1)).1).trans ?_
  iintro ⟨⟨Hk, Hw⟩, Hr⟩
  isplitl [Hk Hr]
  · isplitl [Hk]; · iexact Hk
    iexact Hr
  iexact Hw

/-- The last two of three change places. -/
theorem swap3 (X Y Z : sProp 𝕄) : iprop((X ∗ Y) ∗ Z) ⊢ iprop((X ∗ Z) ∗ Y) := by
  iintro ⟨⟨Hk, Hr⟩, Hw⟩
  isplitl [Hk Hw]
  · isplitl [Hk]; · iexact Hk
    iexact Hw
  iexact Hr

/-- and gathered from them. -/
theorem gather7 (d : Dev nD) :
    iprop((kept d (A6 m d main_arg0) (A6 m d main_v4) (A6 m d main_arg2) (A6 m d main_v5) ∗ held (SparseCore.T d) (ucRefs τ sig \ six) (W6 m d))
      ∗ bigSep Finset.univ fun c : Fin ((K (F := F)).nCore 0) => (P (A6 m)).dn 0 d c)
    ⊢ (held (SparseCore.T d) (ucRefs τ sig) (W7 m d) : sProp 𝕄) := by
  have e0 : W7 m d (dr main_arg0) = A6 m d main_arg0 := by
    unfold W7; rw [Function.update_of_ne (dr_ne (by decide)), Function.update_of_ne (dr_ne (by decide))]
  have e1 : W7 m d (dr main_v4) = A6 m d main_v4 := by
    unfold W7; rw [Function.update_of_ne (dr_ne (by decide)), Function.update_of_ne (dr_ne (by decide))]
  have e2 : W7 m d (dr main_arg2) = A6 m d main_arg2 := by
    unfold W7; rw [Function.update_of_ne (dr_ne (by decide)), Function.update_of_ne (dr_ne (by decide))]
  have e3 : W7 m d (dr main_v5) = A6 m d main_v5 := by
    unfold W7; rw [Function.update_of_ne (dr_ne (by decide)), Function.update_of_ne (dr_ne (by decide))]
  have e4 : W7 m d (dr main_v6_0) = allU (A6 m d main_arg0) (A6 m d main_v4) (A6 m d main_arg2) (A6 m d main_v5) := by
    unfold W7; rw [Function.update_of_ne (dr_ne (by decide)), Function.update_self]
  have e5 : W7 m d (dr main_v6_1) = allD (A6 m d main_arg0) (A6 m d main_v4) (A6 m d main_arg2) (A6 m d main_v5) := by
    unfold W7; rw [Function.update_self]
  rw [held_sub_split (SparseCore.T d) six_sub, held_six, rest_six, dn0_eq, e0, e1, e2, e3, e4, e5]
  refine BI.Entails.trans ?_ (sep_mono_left (deal (F := F) d (A6 m d main_arg0) (A6 m d main_v4) (A6 m d main_arg2) (A6 m d main_v5)
    (allU (A6 m d main_arg0) (A6 m d main_v4) (A6 m d main_arg2) (A6 m d main_v5)) (allD (A6 m d main_arg0) (A6 m d main_v4) (A6 m d main_arg2) (A6 m d main_v5))).2)
  exact swap3 _ _ _

/-- What a device is given for its pipelines, pipeline by pipeline. -/
theorem G_split (d : Dev nD) : (G (F := F) d : sProp 𝕄) ⊢ iprop((Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d) := by
  unfold G
  rw [BI.bigSep_fin_two, BI.bigSep_fin_two]
  exact .rfl

/-- @main on a device's TensorCore. -/
theorem hmain (κ : GSem nD τ sig → ℕ) (d : Dev nD) :
    iprop((K (F := F)).ctx EH (P (A6 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨X0, hX0⟩ := tcSt_owes (F := F) 0 d
  obtain ⟨X1, hX1⟩ := tcSt_owes (F := F) 1 d
  unfold SparseCore.Cfg.tcRes SparseCore.Cfg.tcEnd
  rw [show unscopedBufs d (fun b => m ((SparseCore.T d).loc b)) = held (SparseCore.T d) (ucRefs τ sig) (W0 m d) from unscopedBufs_held d (W0 m d)]
  simp only [main, wp_bind, wp_pure]
  iintro ⟨#Hctx, Hst, ⟨Hb, Hheld, Hts, -⟩, HG⟩
  ihave HG' := (G_split (F := F) d) $$ HG
  icases HG' with ⟨⟨Hg0, Hg1⟩, Ht0, Ht1⟩
  ihave #Hlv := ((K (F := F)).ctx_levAts (P := P (A6 m)) κ) $$ Hctx
  iapply (wp_hlo_within 𝒱 (SparseCore.T d) none Set.univ (op := op1) (S := ucRefs τ sig) (sub_ucRefs _ (StableHlo.reshape_bufs_sub ..)) (V := W0 m d)) $$ [Hb Hheld]
  · isplitl [Hb] <;> iassumption
  iintro ⟨Hb, Hheld⟩
  rw [wp_ret]; imodintro
  iapply (wp_hlo_within 𝒱 (SparseCore.T d) none Set.univ (op := op2) (S := ucRefs τ sig) (sub_ucRefs _ (StableHlo.unary_bufs_sub ..)) (V := op1.result (W0 m d))) $$ [Hb Hheld]
  · isplitl [Hb] <;> iassumption
  iintro ⟨Hb, Hheld⟩
  rw [wp_ret]; imodintro
  iapply (wp_hlo_within 𝒱 (SparseCore.T d) none Set.univ (op := op3) (S := ucRefs τ sig) (sub_ucRefs _ (StableHlo.unary_bufs_sub ..)) (V := op2.result (op1.result (W0 m d)))) $$ [Hb Hheld]
  · isplitl [Hb] <;> iassumption
  iintro ⟨Hb, Hheld⟩
  rw [wp_ret]; imodintro
  ihave Hst' := (Entails.of_eq hX0) $$ Hst
  icases Hst' with ⟨HO, HX⟩
  iapply (region_step (F := F) (R0 m) d)
  isplitr [Hb Hheld HO Hg0 Ht0]
  rotate_left
  · isplitl [Hb]; · iexact Hb
    isplitl [Hheld HO]
    · rw [R0_pre]
      isplitl [Hheld]; · iexact Hheld
      isplitr; · iempintro
      iexact HO
    isplitr; · iexact Hlv
    isplitl [Hg0]; · iexact Hg0
    iexact Ht0
  iintro ⟨Hb, Hpost⟩
  ihave Hpost' := (Entails.of_eq (R0_post (F := F) m d)) $$ Hpost
  icases Hpost' with ⟨Hheld, -, HO⟩
  iapply (wp_hlo_within 𝒱 (SparseCore.T d) none Set.univ (op := op4) (S := ucRefs τ sig) (sub_ucRefs _ (StableHlo.reshape_bufs_sub ..)) (V := W4 m d)) $$ [Hb Hheld]
  · isplitl [Hb] <;> iassumption
  iintro ⟨Hb, Hheld⟩
  rw [wp_ret]; imodintro
  iapply (wp_hlo_within 𝒱 (SparseCore.T d) none Set.univ (op := op5) (S := ucRefs τ sig) (sub_ucRefs _ (StableHlo.reshape_bufs_sub ..)) (V := op4.result (W4 m d))) $$ [Hb Hheld]
  · isplitl [Hb] <;> iassumption
  iintro ⟨Hb, Hheld⟩
  rw [wp_ret]; imodintro
  ihave Hheld' := (show held (SparseCore.T d) (ucRefs τ sig) (op5.result (op4.result (W4 m d))) ⊢ _ from deal6 (F := F) m d) $$ Hheld
  icases Hheld' with ⟨Hkept, Htiles⟩
  iapply ((K (F := F)).wp_run (D (F := F)) 𝒱 (EH := EH) (P := P (A6 m)) κ d 0)
  isplitr; · iexact Hctx
  isplitl [HO HX]
  · iapply (Entails.of_eq hX0.symm)
    isplitl [HO]; · iexact HO
    iexact HX
  isplitl [Htiles]; · iexact Htiles
  iintro ⟨Hst, Hdn⟩
  ihave Hheld := (gather7 (F := F) m d) $$ [Hkept Hdn]
  · isplitl [Hkept]; · iexact Hkept
    iexact Hdn
  iapply (wp_hlo_within 𝒱 (SparseCore.T d) none Set.univ (op := op6) (S := ucRefs τ sig) (sub_ucRefs _ (StableHlo.reshape_bufs_sub ..)) (V := W7 m d)) $$ [Hb Hheld]
  · isplitl [Hb] <;> iassumption
  iintro ⟨Hb, Hheld⟩
  rw [wp_ret]; imodintro
  ihave Hst' := (show ((K (F := F)).tcSt EH d ((0 : Fin 1).val + 1) : sProp 𝕄) ⊢ _ from Entails.of_eq hX1) $$ Hst
  icases Hst' with ⟨HO, HX⟩
  iapply (region_step (F := F) (R2 m) d)
  isplitr [Hb Hheld HO Hg1 Ht1]
  rotate_left
  · isplitl [Hb]; · iexact Hb
    isplitl [Hheld HO]
    · rw [R2_pre]
      isplitl [Hheld]; · iexact Hheld
      isplitr; · iempintro
      iexact HO
    isplitr; · iexact Hlv
    isplitl [Hg1]; · iexact Hg1
    iexact Ht1
  iintro ⟨Hb, Hpost⟩
  ihave Hpost' := (Entails.of_eq (R2_post (F := F) m d)) $$ Hpost
  icases Hpost' with ⟨Hheld, -, HO⟩
  imodintro
  isplitl [HO HX]
  · iapply (Entails.of_eq hX1.symm)
    isplitl [HO]; · iexact HO
    iexact HX
  isplitl [Hheld]; · iexact Hheld
  isplitl [Hb] <;> iassumption

/-! ## The run -/

/-- What the claims read of a device's final state: every buffer of its TensorCore at its final contents. -/
def fq (d : Dev nD) (s' : Phys nD τ sig (Elt F)) : Prop := ∀ r : Ref sig .tc, r.isScoped = false → s'.mem.mem ((SparseCore.T d).loc r) = W9 m d (dr r)

/-- A fact for each value is the fact for all of them. -/
theorem pure_all {α : Sort _} {φ : α → Prop} (X : sProp 𝕄) (h : ∀ a, X ⊢ (⌜φ a⌝ : sProp 𝕄)) : X ⊢ (⌜∀ a, φ a⌝ : sProp 𝕄) :=
  (forall_intro h).trans pure_forall.2

/-- What @main leaves fixes the final state's buffers. -/
theorem hfin (d : Dev nD) (s' : Phys nD τ sig (Elt F)) : iprop(FIN m d ∗ SI s') ⊢ (⌜fq m d s'⌝ : sProp 𝕄) := by
  unfold fq
  refine pure_all _ fun r => pure_all _ fun hr => ?_
  unfold FIN
  rw [held_sub_split (SparseCore.T d) (T := {dr r}) (Finset.singleton_subset_iff.mpr (mem_uc r hr))]
  unfold held
  rw [bigSep_singleton]
  iintro ⟨⟨Hx, -⟩, HSI⟩
  ihave H := (SI_pointsTo_agree (st := s') (ℓ := (SparseCore.T d).loc r) (I := Finset.univ) (q := fullShare) (f := W9 m d (dr r))) $$ [HSI Hx]
  · isplitl [HSI] <;> iassumption
  icases H with %ha
  ipureintro; exact funext fun i => ha i (Finset.mem_univ i)

/-- Every device's buffers at their final contents, every semaphore at zero. -/
def QC : PUnit × MemSt nD τ sig (Elt F) → Prop := fun r =>
  (∀ (c : Dev nD) (b : Ref sig .tc), b.isScoped = false → r.2.mem ((SparseCore.T c).loc b) = W9 m c (dr b)) ∧ r.2.sem = fun _ => 0

/-- The program's run. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (A6 m)) (A := ∅) facts v₀
    (fun q hq => match q with | 0 => nomatch hq)
    (fun q _ => match q with | 0 => tileObl (A6 m) facts)
    (fun q _ => match q with | 0 => SparseCore.Cfg.VecSplit.of_plain (vecSplit (A6 m)))
    m ρ main (G (F := F)) (FIN m) (u₀ (F := F)) (sep_elim_left.trans (hu₀ (A6 m))) (hmain m ρ) (fq m) (hfin m) (QC m) (fun _ h hz => ⟨fun c b hb => h c b hb, hz⟩)

end Cert.Proof.Pool

end
-- ==== Proof.Frames.lean ====
/-  What the program leaves in each buffer it names: the arguments as they were, and the frames of the three programs. -/
module

public import proofs.«01_k».proof.Proof.Host
public import proofs.«01_k».proof.Defs
public import proofs.«01_k».proof.Proof.Gen.Kernel
public import proofs.«01_k».proof.Proof.Gen.Pre_inputs_ok
public import proofs.«01_k».proof.Proof.Gen.ReferenceIdeal
public import proofs.«01_k».proof.Proof.Gen.ReferenceIdeal.Run
public import Idealize.ShloMosaic.Lib.Quiescent

@[expose] public section

noncomputable section

namespace Cert.Proof.Pool

open Cert.KernelIdeal Cert.KernelIdeal.Gen
open Idealize.ShloMosaic
open Idealize.SL.Sem

variable {F : FTy → Type} [FloatOps F] [∀ e, Nonempty (Elt F e)]
variable (m : (ℓ : Loc nD τ sig) → Buf (Elt F) ℓ)

/-- The buffers the program writes. -/
def written : List (Ref sig .tc) :=
  [main_v0, main_v1, main_v2, main_v3_0, main_v3_1, main_v4, main_v5, main_v6_0, main_v6_1, main_v7, main_v8]

omit [∀ e, Nonempty (Elt F e)] in
/-- A buffer the first three operations do not write. -/
theorem W3_keep (d : Dev nD) {r : Ref sig .tc} (h : r ∉ [main_v0, main_v1, main_v2]) : W3 m d (dr r) = m (d, dr r) := by
  simp only [List.mem_cons, List.not_mem_nil, or_false, not_or] at h
  obtain ⟨h0, h1, h2⟩ := h
  unfold W3
  rw [StableHlo.unary_result_ne (h := h2), StableHlo.unary_result_ne (h := h1), StableHlo.reshape_result_ne (h := h0)]
  rfl

/-- A buffer the operations up to the SparseCore call do not write. -/
theorem W6_keep (d : Dev nD) {r : Ref sig .tc} (h : r ∉ [main_v3_0, main_v3_1, main_v4, main_v5]) : W6 m d (dr r) = W3 m d (dr r) := by
  simp only [List.mem_cons, List.not_mem_nil, or_false, not_or] at h
  obtain ⟨h0, h1, h2, h3⟩ := h
  unfold W6
  rw [StableHlo.reshape_result_ne (h := h3), StableHlo.reshape_result_ne (h := h2)]
  unfold W4
  rw [Function.update_of_ne (dr_ne h1), Function.update_of_ne (dr_ne h0)]

/-- A buffer the SparseCore call and the operation after it do not write. -/
theorem W8_keep (d : Dev nD) {r : Ref sig .tc} (h : r ∉ [main_v6_0, main_v6_1, main_v7]) : W8 m d (dr r) = W6 m d (dr r) := by
  simp only [List.mem_cons, List.not_mem_nil, or_false, not_or] at h
  obtain ⟨h0, h1, h2⟩ := h
  unfold W8
  rw [StableHlo.reshape_result_ne (h := h2)]
  unfold W7
  rw [Function.update_of_ne (dr_ne h1), Function.update_of_ne (dr_ne h0)]

/-- A buffer the program does not write ends as it began. -/
theorem W9_keep (d : Dev nD) {r : Ref sig .tc} (h : r ∉ written) : W9 m d (dr r) = m (d, dr r) := by
  simp only [written, List.mem_cons, List.not_mem_nil, or_false, not_or] at h
  obtain ⟨h0, h1, h2, h3, h4, h5, h6, h7, h8, h9, h10⟩ := h
  unfold W9
  rw [Function.update_of_ne (dr_ne h10), W8_keep m d (by simp [*]), W6_keep m d (by simp [*]), W3_keep m d (by simp [*])]

end Cert.Proof.Pool

namespace Cert.Proof

open Idealize.ShloMosaic Idealize.SL.Sem
open Cert.Proof.Pool (W9_keep)

/-- The arguments after the run are the arguments before it, at any float instance. -/
theorem args_kept {F : FTy → Type} [FloatOps F] [∀ e, Nonempty (Elt F e)]
    (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : Pool.QC m r)
    (c : Dev Cert.KernelIdeal.nD) {b : Ref Cert.KernelIdeal.sig .tc} (hb : b.isScoped = false) (hw : b ∉ Pool.written) :
    r.2.mem ((c.tc : Thread Cert.KernelIdeal.nD Cert.KernelIdeal.τ).loc b) = m ((c.tc : Thread Cert.KernelIdeal.nD Cert.KernelIdeal.τ).loc b) :=
  (h.1 c b hb).trans (W9_keep m c hw)

/-- The frame of the kernel at exact reals. -/
theorem frame_kernelIdeal : Cert.quiescent_KernelIdeal := fun m ρ _ =>
  (θ_run (Cert.KernelIdeal.defs (F := Ideal)) _ _).mono (fun r h => ⟨fun c =>
    ⟨args_kept m r h c (by decide) (by decide), args_kept m r h c (by decide) (by decide), args_kept m r h c (by decide) (by decide),
      args_kept m r h c (by decide) (by decide), args_kept m r h c (by decide) (by decide), args_kept m r h c (by decide) (by decide),
      args_kept m r h c (by decide) (by decide)⟩, h.2⟩) (Pool.run_main (F := Ideal) m ρ)

/-! The kernel's two programs — at the machine's floats and at exact reals — are one text. -/

set_option maxHeartbeats 1000000 in
/-- The SparseCore tile's body is the same in both programs. -/
theorem body1_same : Cert.Kernel.cc1__sc_body (F := Bits) = Cert.KernelIdeal.cc1__sc_body (F := Bits) := rfl
/-- So is the first TensorCore call's, -/
theorem body0_same : Cert.Kernel.cc0__pre_kernel (F := Bits) = Cert.KernelIdeal.cc0__pre_kernel (F := Bits) := rfl
/-- and the last's; -/
theorem body2_same : Cert.Kernel.cc2__final_kernel (F := Bits) = Cert.KernelIdeal.cc2__final_kernel (F := Bits) := rfl
set_option maxHeartbeats 1000000 in
/-- so the table of bodies is the same, -/
theorem defs₀_same : Cert.Kernel.defs₀ (F := Bits) = Cert.KernelIdeal.defs₀ (F := Bits) := by
  unfold Cert.Kernel.defs₀ Cert.KernelIdeal.defs₀
  rw [body0_same, body1_same, body2_same]
  funext p l a
  match p, l, a with
  | .tc, 0, (t, s) => rfl
  | .tc, 1, _ => rfl
  | .tc, 2, (t, s) => rfl
  | .scVector c s, 0, _ => rfl
  | .scVector c s, 1, _ => rfl
  | .scVector c s, 2, _ => rfl
  | .scScalar c, 0, _ => rfl
  | .scScalar c, 1, _ => rfl
  | .scScalar c, 2, _ => rfl
set_option maxHeartbeats 1000000 in
/-- the whole table is the same, -/
theorem defs_same : Cert.Kernel.defs (F := Bits) = Cert.KernelIdeal.defs (F := Bits) :=
  congrArg (fun x => (Cert.KernelIdeal.sc (F := Bits)).defs (Pipeline.defs (Cert.KernelIdeal.pcfgs (F := Bits)) x)) defs₀_same
set_option maxHeartbeats 1000000 in
/-- @main is the same, -/
theorem main_same : Cert.Kernel.main (F := Bits) = Cert.KernelIdeal.main (F := Bits) := rfl

/-- and so are the threads' programs. -/
theorem threads_same : Cert.Kernel.threads (F := Bits) = Cert.KernelIdeal.threads (F := Bits) :=
  congrArg (fun x => (Cert.KernelIdeal.sc (F := Bits)).threads x) main_same

/-- The kernel's run at the machine's floats. -/
theorem run_kernel (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (Cert.Kernel.threads (F := Bits)) ⟨m, fun _ => 0, ρ⟩ (Pool.QC (F := Bits) m) := by
  rw [defs_same, threads_same]
  exact Pool.run_main (F := Bits) m ρ

/-- The frame of the kernel at the machine's floats: its text is the same. -/
theorem frame_kernel : Cert.quiescent_Kernel := fun m ρ _ =>
  (θ_run (Cert.Kernel.defs (F := Bits)) _ _).mono (fun r h => ⟨fun c =>
    ⟨args_kept m r h c (by decide) (by decide), args_kept m r h c (by decide) (by decide), args_kept m r h c (by decide) (by decide),
      args_kept m r h c (by decide) (by decide), args_kept m r h c (by decide) (by decide), args_kept m r h c (by decide) (by decide),
      args_kept m r h c (by decide) (by decide)⟩, h.2⟩) (run_kernel m ρ)

/-- The frame of the reference: it has no semaphore. -/
theorem frame_referenceIdeal : Cert.quiescent_ReferenceIdeal := fun m ρ _ =>
  (θ_run (Cert.ReferenceIdeal.defs (F := Ideal)) _ _).mono (fun r h => ⟨fun c => (h c).2, sem_eq_zero_of_no_sems (by decide) _⟩)
    (Cert.ReferenceIdeal.Value.run (F := Ideal) m ρ)

end Cert.Proof

end
-- ==== Proof.Ref.lean ====
/-  The reference, entry by entry, over the reals: its steps named, each read at an index. -/
module

public import proofs.«01_k».proof.Proof.Gen.ReferenceIdeal.Run
public import Idealize.ShloMosaic.PureOps.Ideal.Laws
public import Idealize.ShloMosaic.Lib.Pipeline.Value
public import Idealize.ShloMosaic.Lib.Pointwise
public import Idealize.ShloMosaic.Lib.Routing.Ops
public import Idealize.ShloMosaic.Lib.Routing.OpsPair

@[expose] public section

noncomputable section

namespace Cert.Proof.Ref

open Cert.ReferenceIdeal Cert.ReferenceIdeal.Gen
open Idealize.ShloMosaic

section Steps

variable {F : FTy → Type} [FloatOps F]
variable (x : FVec F S50000x512 .f32) (gf : FVec F S1000x512 .f32) (ids : IVec S50000 32) (w1 : FVec F S1024x1 .f32) (b1 : FVec F S1 .f32)
  (w2 : FVec F S512x512 .f32) (b2 : FVec F S512 .f32)

/-- The ids as a column. -/
def col : IVec S50000x1 32 := broadcastInDim S50000x1 ![0] bcast_S50000_S50000x1_0 ids
/-- The ids as a column, a negative one counted from the end. -/
def idx : IVec S50000x1 32 :=
  broadcastInDim S50000x1 ![0] bcast_S50000_S50000x1_0 (select (cmpi .slt ids (broadcastInDim S50000 ![] bcast_S_S50000 (constantI S_ 32 0#32))) (addi ids (broadcastInDim S50000 ![] bcast_S_S50000 (constantI S_ 32 1000#32))) ids)
/-- Each row's graph features after the unit, and the row's own, side by side. -/
def cat : FVec F S50000x1024 .f32 :=
  concatenate S50000x1024 1 [⟨S50000x512, (Host.gather gather_S1000x512_S50000x1_S50000x512_1_0_n_n_0_1_1512 (maximumf gf (broadcastInDim S1000x512 ![] bcast_S_S1000x512 (constant S_ .f32 0x00000000#32))) (idx ids))⟩, ⟨S50000x512, x⟩] concatenates_S50000x512_S50000x512_S50000x1024_d1
/-- The scores before the leaky unit. -/
def z0 : FVec F S50000x1 .f32 :=
  addf (Host.dotGeneral dot_S50000x1024_S1024x1_S50000x1_1_0_0_1_n_n none (cat x gf ids) w1) (broadcastInDim S50000x1 ![0, 1] bcast_S1x1_S50000x1_0_1 (broadcastInDim S1x1 ![1] bcast_S1_S1x1_1 b1))
/-- The leaky unit. -/
def unit (z : FVec F S50000x1 .f32) : FVec F S50000x1 .f32 :=
  select (cmpf .oge z (broadcastInDim S50000x1 ![] bcast_S_S50000x1 (constant S_ .f32 0x00000000#32))) z (mulf (broadcastInDim S50000x1 ![] bcast_S_S50000x1 (constant S_ .f32 0x3C23D70A#32)) z)
/-- Each graph's largest score, the least value where it has no rows. -/
def top0 (z : FVec F S50000x1 .f32) : FVec F S1000x1 .f32 :=
  broadcastInDim S1000x1 ![0] bcast_S1000_S1000x1_0 (Host.reduce FloatOps.maximumf (select (cmpi .eq (broadcastInDim S1000x50000 ![0, 1] bcast_S1x50000_S1000x50000_0_1 (broadcastInDim S1x50000 ![1] bcast_S50000_S1x50000_1 ids)) (broadcastInDim S1000x50000 ![0, 1] bcast_S1000x1_S1000x50000_0_1 (broadcastInDim S1000x1 ![0] bcast_S1000_S1000x1_0 (iotaInDim S1000 32 0)))) (broadcastInDim S1000x50000 ![0, 1] bcast_S1x50000_S1000x50000_0_1 (broadcastInDim S1x50000 ![1] bcast_S50000_S1x50000_1 (shapeCast S50000 z shapeCasts_S50000x1_S50000))) (broadcastInDim S1000x50000 ![] bcast_S_S1000x50000 (id (constant S_ .f32 0xFF800000#32)))) (constant S_ .f32 0xFF800000#32) reducesTo_S1000x50000_S1000_d1 h_S_)
/-- Nought in the place of the least value. -/
def top (t : FVec F S1000x1 .f32) : FVec F S1000x1 .f32 :=
  select (cmpf .ogt t (broadcastInDim S1000x1 ![] bcast_S_S1000x1 (constant S_ .f32 0xFF800000#32))) t (broadcastInDim S1000x1 ![] bcast_S_S1000x1 (id (constant S_ .f32 0x00000000#32)))
/-- A value per graph, at each row. -/
def spread (t : FVec F S1000x1 .f32) : FVec F S50000x1 .f32 := Host.gather gather_S1000x1_S50000x1_S50000x1_1_0_n_n_0_1_11 t (idx ids)
/-- The exponentials of the scores less their graph's largest. -/
def ex (z : FVec F S50000x1 .f32) (t : FVec F S1000x1 .f32) : FVec F S50000x1 .f32 := Host.exp (subf z (spread ids t))
/-- Their sum in each graph. -/
def den (e : FVec F S50000x1 .f32) : FVec F S1000x1 .f32 :=
  Host.scatterAdd scatter_S1000x1_S50000x1_S50000x1_1_0_0_1 (broadcastInDim S1000x1 ![] bcast_S_S1000x1 (constant S_ .f32 0x00000000#32)) (col ids) e
/-- The rows' projections. -/
def hv : FVec F S50000x512 .f32 :=
  addf (Host.dotGeneral dot_S50000x512_S512x512_S50000x512_1_0_0_1_n_n none x w2) (broadcastInDim S50000x512 ![0, 1] bcast_S1x512_S50000x512_0_1 (broadcastInDim S1x512 ![1] bcast_S512_S1x512_1 b2))
/-- The weighted projections' sum in each graph. -/
def pool (e : FVec F S50000x1 .f32) (t : FVec F S1000x1 .f32) : FVec F S1000x512 .f32 :=
  Host.scatterAdd scatter_S1000x512_S50000x1_S50000x512_1_0_0_1 (broadcastInDim S1000x512 ![] bcast_S_S1000x512 (constant S_ .f32 0x00000000#32)) (col ids)
    (mulf (broadcastInDim S50000x512 ![0, 1] bcast_S50000x1_S50000x512_0_1 (Host.divf e (spread ids t))) (hv x w2 b2))

/-- The scores. -/
def z : FVec F S50000x1 .f32 := unit (z0 x gf ids w1 b1)
/-- The exponentials. -/
def e : FVec F S50000x1 .f32 := ex ids (z x gf ids w1 b1) (top (top0 ids (z x gf ids w1 b1)))
/-- The result. -/
def out : FVec F S1000x512 .f32 := pool x ids w2 b2 (e x gf ids w1 b1) (den ids (e x gf ids w1 b1))

open Idealize.ShloMosaic.StableHlo in
set_option maxRecDepth 8192 in
/-- The reference's result is its steps, one after another. -/
theorem res_eq (m : (ℓ : Loc nD τ sig) → Buf (Elt F) ℓ) (c : Dev nD) :
    Cert.ReferenceIdeal.Value.res_main_v61 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Steps

/-! ## Rows named by a column of ids -/

/-- Update `(c, y)` of a scatter of rows lands at `(b, w)` just when row `c`'s id is `b` and the columns agree. -/
theorem row_lands {nb B n : ℕ} (d : ScatterDims ⟨2, ![nb, B]⟩ ⟨2, ![n, 1]⟩ ⟨2, ![n, B]⟩) (hu : d.updateWindowDims = [1]) (hiw : d.insertedWindowDims = [0])
    (hsd : d.scatterDimsToOperandDims = [0]) (hivd : d.indexVectorDim = 1) (idx : IVec ⟨2, ![n, 1]⟩ 32) (c : Fin n) (y w : Fin B) (b : Fin nb) :
    d.resultIdx? (ValueIdx.ix2 c y) idx = some (ValueIdx.ix2 b w) ↔ (idx (ValueIdx.ix2 c 0)).toInt = (b.val : ℤ) ∧ y = w := by
  have e0 : ∀ X : Fin 2, X = 0 → (ValueIdx.ix2 c y X).val = c.val := fun X h => by subst h; rfl
  have e1 : ∀ X : Fin 2, X = 1 → (ValueIdx.ix2 c y X).val = y.val := fun X h => by subst h; rfl
  have hm : (0 : Fin 2) ∈ d.scatterDimsToOperandDims := by rw [hsd]; exact List.mem_singleton.2 rfl
  have hkept : d.sKept = [1] := by
    show Shape.kept ⟨2, ![nb, B]⟩ d.insertedWindowDims = _
    rw [hiw]
    rfl
  have hw0 : d.window (ValueIdx.ix2 c y) 0 = 0 := by
    unfold ScatterDims.window
    rw [dif_neg (by rw [hkept]; exact (by decide : (0 : Fin 2) ∉ ([1] : List (Fin 2))))]
  have hw1 : d.window (ValueIdx.ix2 c y) 1 = y.val := by
    unfold ScatterDims.window
    rw [dif_pos (by rw [hkept]; exact List.mem_singleton.2 rfl)]
    refine e1 _ (List.mem_singleton.1 (?_ : _ ∈ [(1 : Fin 2)]))
    exact Eq.subst (motive := fun l => d.updateWindowDims[_]'_ ∈ l) hu (List.getElem_mem _)
  have hs1 : d.start (ValueIdx.ix2 c y) idx 1 = 0 := by
    unfold ScatterDims.start
    rw [dif_neg (by rw [hsd]; exact (by decide : (1 : Fin 2) ∉ ([0] : List (Fin 2))))]
  have hsc : d.uScatter = [0] := by
    show Shape.kept ⟨2, ![n, B]⟩ d.updateWindowDims = _
    rw [hu]
    rfl
  have hs0 : d.start (ValueIdx.ix2 c y) idx 0 = (idx (ValueIdx.ix2 c 0)).toInt := by
    unfold ScatterDims.start
    rw [dif_pos hm]
    congr 2
    funext b'
    apply Fin.ext
    match b' with
    | ⟨0, _⟩ =>
      unfold ScatterDims.siIdx
      rw [dif_neg (by rw [hivd]; exact Nat.zero_ne_one)]
      unfold ScatterDims.siCoord
      simp only [Fin.val_cast]
      exact e0 _ (List.mem_singleton.1 (hsc ▸ List.getElem_mem _))
    | ⟨1, _⟩ =>
      unfold ScatterDims.siIdx
      rw [dif_pos (by rw [hivd])]
      show List.idxOf (0 : Fin 2) d.scatterDimsToOperandDims = 0
      rw [hsd]; simp
  have hr := Routing.resultIdx?_ix2 d (ValueIdx.ix2 c y) idx b w
  rw [hs0, hs1, hw0, hw1] at hr
  rw [Fin.ext_iff]
  refine Iff.trans ?_ (hr.trans ?_)
  · exact Iff.rfl
  · omega

/-- A scatter of rows adds to each row of the operand the updates that name it. -/
theorem scatter_rows {nb B n : ℕ} (d : ScatterDims ⟨2, ![nb, B]⟩ ⟨2, ![n, 1]⟩ ⟨2, ![n, B]⟩) (hu : d.updateWindowDims = [1]) (hiw : d.insertedWindowDims = [0])
    (hsd : d.scatterDimsToOperandDims = [0]) (hivd : d.indexVectorDim = 1) (o : FVec Ideal ⟨2, ![nb, B]⟩ .f32) (idx : IVec ⟨2, ![n, 1]⟩ 32) (u : FVec Ideal ⟨2, ![n, B]⟩ .f32)
    (b : Fin nb) (w : Fin B) :
    Host.scatterAdd d o idx u (ValueIdx.ix2 b w) = o (ValueIdx.ix2 b w) + ∑ c : Fin n, if (idx (ValueIdx.ix2 c 0)).toInt = (b.val : ℤ) then u (ValueIdx.ix2 c w) else 0 := by
  show o (ValueIdx.ix2 b w) + ∑ j ∈ Finset.univ.filter (fun j => d.resultIdx? j idx = some (ValueIdx.ix2 b w)), u j = _
  congr 1
  rw [Finset.sum_filter, ValueIdx.sum_idx2]
  refine Finset.sum_congr rfl fun c _ => ?_
  simp only [row_lands d hu hiw hsd hivd]
  by_cases h : (idx (ValueIdx.ix2 c 0)).toInt = (b.val : ℤ)
  · simp [h]
  · simp [h]

end Cert.Proof.Ref

end
-- ==== Proof.Sums.lean ====
/-  Rows sorted by graph: where each graph's rows begin, and what the search finds. -/
module

public import proofs.«01_k».proof.Proof.Tile

@[expose] public section

noncomputable section

namespace Cert.Proof.Pool

open Cert.KernelIdeal Cert.KernelIdeal.Gen
open Idealize.ShloMosaic

section Order

variable (ids : S50000.Idx → BitVec 32)

/-- The id of row `v`, as an integer. -/
def idn (v : Fin 50000) : ℤ := (ids (ValueIdx.ix1 v)).toInt

/-- The rows come in the order of their ids. -/
structure Sorted : Prop where
  mono : ∀ u v : Fin 50000, u ≤ v → idn ids u ≤ idn ids v

/-- Row `p` is the first of graph `n` or a later one. -/
structure IsLo (n p : ℕ) : Prop where
  le : p ≤ 50000
  iff : ∀ v : Fin 50000, idn ids v < (n : ℤ) ↔ v.val < p

variable {ids}

/-- Every graph has a first row, perhaps the end. -/
theorem Sorted.exists_lo (h : Sorted ids) (n : ℕ) : ∃ p, IsLo ids n p := by
  classical
  have hex : ∃ p, p = 50000 ∨ ∃ hp : p < 50000, (n : ℤ) ≤ idn ids ⟨p, hp⟩ := ⟨50000, Or.inl rfl⟩
  have hle : Nat.find hex ≤ 50000 := Nat.find_min' hex (Or.inl rfl)
  refine ⟨Nat.find hex, hle, fun v => ⟨fun hv => ?_, fun hv => ?_⟩⟩
  · by_contra hc
    rcases Nat.find_spec hex with he | ⟨hp, hn⟩
    · have := v.isLt; omega
    · have := h.mono ⟨Nat.find hex, hp⟩ v (by show Nat.find hex ≤ v.val; omega)
      omega
  · by_contra hc
    exact Nat.find_min hex hv (Or.inr ⟨v.isLt, by simpa using hc⟩)

/-- It has only one. -/
theorem IsLo.unique {n p q : ℕ} (hp : IsLo ids n p) (hq : IsLo ids n q) : p = q := by
  rcases Nat.lt_trichotomy p q with h | h | h
  · have h1 := (hp.iff ⟨p, by have := hq.le; omega⟩).1 ((hq.iff _).2 h)
    exact absurd h1 (lt_irrefl _)
  · exact h
  · have h1 := (hq.iff ⟨q, by have := hp.le; omega⟩).1 ((hp.iff _).2 h)
    exact absurd h1 (lt_irrefl _)

/-- A later graph starts no earlier. -/
theorem IsLo.mono {m n p q : ℕ} (hp : IsLo ids m p) (hq : IsLo ids n q) (h : m ≤ n) : p ≤ q := by
  by_contra hc
  have h1 := (hp.iff ⟨q, by have := hp.le; omega⟩).2 (by show q < p; omega)
  exact absurd ((hq.iff ⟨q, by have := hp.le; omega⟩).1 (by omega)) (lt_irrefl _)

/-- A row belongs to graph `g` just when it lies between the first rows of `g` and of the next graph. -/
theorem IsLo.mem {g p q : ℕ} (hp : IsLo ids g p) (hq : IsLo ids (g + 1) q) (v : Fin 50000) :
    idn ids v = (g : ℤ) ↔ p ≤ v.val ∧ v.val < q := by
  have h1 := hp.iff v
  have h2 := hq.iff v
  omega

/-- The sixteen steps of the search find the first row of graph `gb` or a later one. -/
theorem lows_isLo (h : Sorted ids) (gb : ℕ) : IsLo ids gb (lows ids gb 16) := by
  obtain ⟨p, hp⟩ := h.exists_lo gb
  have key : ∀ j, j ≤ 16 → lows ids gb j ≤ p ∧ p < lows ids gb j + 2 ^ (16 - j) := by
    intro j
    induction j with
    | zero => intro _; have := hp.le; show 0 ≤ p ∧ p < 0 + 65536; omega
    | succ j ih =>
      intro hj
      obtain ⟨h1, h2⟩ := ih (by omega)
      have he : 2 ^ (16 - j) = 2 * 2 ^ (15 - j) := by rw [show 16 - j = (15 - j) + 1 by omega, pow_succ]; ring
      have hpos : 0 < 2 ^ (15 - j) := Nat.two_pow_pos _
      have e2 : 16 - (j + 1) = 15 - j := by omega
      rw [lows, e2]
      by_cases hc : lows ids gb j + 2 ^ (15 - j) ≤ 50000
      · have hid : (idAt ids (lows ids gb j + 2 ^ (15 - j) - 1)).toInt
            = idn ids ⟨lows ids gb j + 2 ^ (15 - j) - 1, by omega⟩ := by
          have hm : min (lows ids gb j + 2 ^ (15 - j) - 1) 49999 = lows ids gb j + 2 ^ (15 - j) - 1 := by omega
          unfold idAt idn
          simp only [hm]
        have hiff := hp.iff ⟨lows ids gb j + 2 ^ (15 - j) - 1, by omega⟩
        simp only at hiff
        rw [hid]
        split
        · next hh => have := hiff.1 hh.2; omega
        · next hh =>
          have : ¬ (idn ids ⟨lows ids gb j + 2 ^ (15 - j) - 1, by omega⟩ < (gb : ℤ)) := fun hl => hh ⟨hc, hl⟩
          rw [hiff] at this
          omega
      · rw [if_neg (fun hh => hc hh.1)]
        have := hp.le
        omega
  obtain ⟨h1, h2⟩ := key 16 le_rfl
  have : lows ids gb 16 = p := by simp at h2; omega
  rw [this]; exact hp

end Order

/-! ## Sums over a block -/

/-- A sum over a block is a sum over its six groups of sixteen. -/
theorem sum_groups {M : Type} [AddCommMonoid M] (f : Fin 96 → M) :
    ∑ j, f j = (∑ l, f (row 0 l)) + (∑ l, f (row 1 l)) + (∑ l, f (row 2 l)) + (∑ l, f (row 3 l)) + (∑ l, f (row 4 l)) + ∑ l, f (row 5 l) := by
  rw [← Equiv.sum_comp (finProdFinEquiv : Fin 6 × Fin 16 ≃ Fin (6 * 16)) f, Fintype.sum_prod_type, Fin.sum_univ_six]
  have e : ∀ (g : Fin 6) (l : Fin 16), (finProdFinEquiv (g, l) : Fin (6 * 16)) = row g l := fun g l => Fin.ext (by
    show l.val + 16 * g.val = 16 * g.val + l.val; omega)
  simp only [e]

/-- A block's counted rows, summed: the rows from the pointer to the graph's end or the block's. -/
theorem sum_block {M : Type} [AddCommMonoid M] (f : ℕ → M) {b p hi : ℕ} (hb : b ≤ p) (hp : p ≤ b + 96) (h : p ≤ hi) :
    (∑ j : Fin 96, if p ≤ b + j.val ∧ b + j.val < hi then f (b + j.val) else 0) = ∑ v ∈ Finset.Ico p (min hi (b + 96)), f v := by
  rw [Fin.sum_univ_eq_sum_range (fun j => if p ≤ b + j ∧ b + j < hi then f (b + j) else 0) 96]
  have := Finset.sum_Ico_eq_sum_range (fun v => if p ≤ v ∧ v < hi then f v else 0) b (b + 96)
  rw [show b + 96 - b = 96 by omega] at this
  rw [← this, ← Finset.sum_filter]
  congr 1
  ext v
  simp only [Finset.mem_filter, Finset.mem_Ico]
  omega

end Cert.Proof.Pool

end
-- ==== Proof.Total.lean ====
/-  What the SparseCore's blocks add up to, over the reals: each graph's weighted rows and the sum of its weights. -/
module

public import proofs.«01_k».proof.Proof.Sums
public import Idealize.ShloMosaic.PureOps.Ideal.Laws
public import Idealize.ShloMosaic.Lib.Pipeline.Value

@[expose] public section

noncomputable section

namespace Cert.Proof.Pool

open Cert.KernelIdeal Cert.KernelIdeal.Gen
open Idealize.ShloMosaic

/-- The score after the leaky unit. -/
def leaky (z : EReal) : EReal := if 0 ≤ z then z else Ideal.ofBits .f32 0x3C23D70A#32 * z

section Trip

variable (x : S50000x512.Idx → Ideal .f32) (ids : S50000.Idx → BitVec 32) (t : S50000.Idx → Ideal .f32) (s : S1024.Idx → Ideal .f32)

/-- Row `v`, the last row's from there on. -/
def at' (v : ℕ) : Fin 50000 := ⟨min v 49999, by omega⟩

/-- A row in range is itself. -/
theorem at'_eq {v : ℕ} (h : v < 50000) : at' v = ⟨v, h⟩ := Fin.ext (by show min v 49999 = v; omega)

/-- Graph `g`'s score. -/
def sc (g : ℕ) : EReal := s (ValueIdx.ix1 ⟨g % 1024, Nat.mod_lt _ (by decide)⟩)

/-- The weight of row `v` in graph `g`. -/
def wgt (g v : ℕ) : EReal := Ideal.exp (leaky (sc s g + t (ValueIdx.ix1 (at' v))))

/-- Row `v`'s feature `f`, weighted. -/
def wx (g : ℕ) (f : Fin 512) (v : ℕ) : EReal := x (ValueIdx.ix2 (at' v) f) * wgt t s g v

/-- The denominator starts at nought. -/
theorem pay66_apply (y : S16.Idx) : k1_pay66 (F := Ideal) y = 0 := by
  show Ideal.ofBits .f32 0x00000000#32 = 0
  exact Ideal.ofBits_zero_f32

/-- A group's weights, lane by lane: the score's exponential where the mask is set, else nought. -/
theorem pay33_apply (sv tv : Vec Ideal S16 .f32) (m : IVec S16 1) (y : S16.Idx) :
    k1_pay33 (F := Ideal) sv tv m y = if m y = 1#1 then Ideal.exp (leaky (sv y + tv y)) else 0 := by
  show (if m y = 1#1 then Ideal.exp (if BitVec.ofBool (decide (Ideal.ofBits .f32 0x00000000#32 ≤ sv y + tv y)) = 1#1 then sv y + tv y else Ideal.ofBits .f32 0x3C23D70A#32 * (sv y + tv y)) else Ideal.ofBits .f32 0x00000000#32) = _
  rw [Ideal.ofBits_zero_f32, leaky]
  by_cases h : 0 ≤ sv y + tv y
  · have hb : BitVec.ofBool (decide (0 ≤ sv y + tv y)) = 1#1 := by rw [decide_eq_true h]; rfl
    rw [if_pos h, if_pos hb]
  · have hb : ¬BitVec.ofBool (decide (0 ≤ sv y + tv y)) = 1#1 := by rw [decide_eq_false h]; decide
    rw [if_neg h, if_neg hb]

/-- A group's weights in terms of the rows they belong to. -/
theorem ezg_apply (g n : ℕ) (k : Fin 6) (y : S16.Idx) :
    ezg ids t (W g) (score s g) n k y = if Member ids (W g) n (row k (y 0)) then wgt t s g (blk n + (row k (y 0)).val) else 0 := by
  rw [ezg, pay33_apply]
  have hb := blk_le n
  have hr := (row k (y 0)).isLt
  have e : at' (blk n + (row k (y 0)).val) = ⟨blk n + (row k (y 0)).val, by omega⟩ := at'_eq _
  rw [wgt, e]
  exact if_congr bit_eq_one rfl rfl

/-- A block's weights in terms of the rows they belong to. -/
theorem ezb_apply (g n : ℕ) (j : Fin 96) :
    ezb ids t (W g) (score s g) n (ValueIdx.ix1 j) = if Member ids (W g) n j then wgt t s g (blk n + j.val) else 0 := by
  have e : row ⟨j.val / 16, by omega⟩ ⟨j.val % 16, by omega⟩ = j := Fin.ext (by show 16 * (j.val / 16) + j.val % 16 = j.val; omega)
  have := ezg_apply ids t s g n ⟨j.val / 16, by omega⟩ (ValueIdx.ix1 ⟨j.val % 16, by omega⟩)
  show ezg ids t (W g) (score s g) n ⟨j.val / 16, _⟩ (ValueIdx.ix1 ⟨j.val % 16, _⟩) = _
  rw [this]
  show (if Member ids (W g) n (row ⟨j.val / 16, _⟩ ⟨j.val % 16, _⟩) then wgt t s g (blk n + (row ⟨j.val / 16, _⟩ ⟨j.val % 16, _⟩).val) else 0) = _
  rw [e]

variable {ids}

/-- With sorted rows, a block's counted rows are those from the pointer to the graph's end. -/
theorem member_iff (h : Sorted ids) {g lo hi n : ℕ} (hg : g < 1024) (hlo : IsLo ids g lo) (hhi : IsLo ids (g + 1) hi) (hn : lo ≤ n) (j : Fin 96) :
    Member ids (W g) n j ↔ n ≤ blk n + j.val ∧ blk n + j.val < hi := by
  have hb := blk_le n
  have hm := hlo.mem hhi ⟨blk n + j.val, by omega⟩
  have he : ids (ValueIdx.ix1 ⟨blk n + j.val, by omega⟩) = W g ↔ idn ids ⟨blk n + j.val, by omega⟩ = (g : ℤ) := by
    rw [idn]
    exact ⟨fun hh => by rw [hh, W_toInt (by omega)], fun hh => BitVec.eq_of_toInt_eq (hh.trans (W_toInt (by omega)).symm)⟩
  unfold Member
  rw [he, hm]
  simp only
  omega

/-- The count of a trip is the number of the block's rows from the pointer to the graph's end. -/
theorem hits_eq (h : Sorted ids) {g lo hi n : ℕ} (hg : g < 1024) (hlo : IsLo ids g lo) (hhi : IsLo ids (g + 1) hi) (hn : lo ≤ n) (hn' : n ≤ hi) :
    n + hits ids (W g) n = min hi (blk n + 96) := by
  have hb := blk_le n
  have hn5 := hhi.le
  have hb' : blk n ≤ n ∧ n ≤ blk n + 96 := by unfold blk at *; omega
  have e : hits ids (W g) n = ∑ j : Fin 96, if Member ids (W g) n j then 1 else 0 := by
    rw [sum_groups]; unfold hits cnt; omega
  have := sum_block (fun _ => 1) hb'.1 hb'.2 hn'
  simp only [Finset.sum_const, Nat.card_Ico, smul_eq_mul, mul_one] at this
  simp only [e, member_iff h hg hlo hhi hn]
  rw [this]
  omega

/-- What a trip adds to the denominator's lanes is the weights of the rows it counts. -/
theorem dadd_sum (h : Sorted ids) {g lo hi n : ℕ} (hg : g < 1024) (hlo : IsLo ids g lo) (hhi : IsLo ids (g + 1) hi) (hn : lo ≤ n) (hn' : n ≤ hi) :
    ∑ l : Fin 16, dadd ids t (W g) (score s g) n (ValueIdx.ix1 l) = ∑ v ∈ Finset.Ico n (min hi (blk n + 96)), wgt t s g v := by
  have hb := blk_le n
  have hn5 := hhi.le
  have hb' : blk n ≤ n ∧ n ≤ blk n + 96 := by unfold blk at *; omega
  rw [← sum_block _ hb'.1 hb'.2 hn', sum_groups]
  have e : ∀ l : Fin 16, dadd ids t (W g) (score s g) n (ValueIdx.ix1 l)
      = ezg ids t (W g) (score s g) n 0 (ValueIdx.ix1 l) + ezg ids t (W g) (score s g) n 1 (ValueIdx.ix1 l) + ezg ids t (W g) (score s g) n 2 (ValueIdx.ix1 l)
        + ezg ids t (W g) (score s g) n 3 (ValueIdx.ix1 l) + ezg ids t (W g) (score s g) n 4 (ValueIdx.ix1 l) + ezg ids t (W g) (score s g) n 5 (ValueIdx.ix1 l) := by
    intro l
    show k1_pay66 (F := Ideal) (ValueIdx.ix1 l) + _ + _ + _ + _ + _ + _ = _
    rw [pay66_apply, zero_add]
  simp only [e, Finset.sum_add_distrib, ezg_apply, ← member_iff h hg hlo hhi hn]

/-- What a block's rows leave in a lane of the sums. -/
theorem rows_apply (xb : S96x512.Idx → Ideal .f32) (ez : S96.Idx → Ideal .f32) (a : Acc Ideal) (c : Fin 32) (l : Fin 16) :
    rows xb ez a 96 c (ValueIdx.ix1 l) = a c (ValueIdx.ix1 l) + ∑ k : Fin 96, xb (ValueIdx.ix2 k ⟨16 * c.val + l.val, by omega⟩) * ez (ValueIdx.ix1 k) := by
  have key : ∀ n, n ≤ 96 → rows xb ez a n c (ValueIdx.ix1 l)
      = a c (ValueIdx.ix1 l) + ∑ k ∈ Finset.range n, if hk : k < 96 then xb (ValueIdx.ix2 ⟨k, hk⟩ ⟨16 * c.val + l.val, by omega⟩) * ez (ValueIdx.ix1 ⟨k, hk⟩) else 0 := by
    intro n
    induction n with
    | zero => intro _; simp [rows]
    | succ n ih =>
      intro hn
      have hn' : n < 96 := by omega
      rw [Finset.sum_range_succ, ← add_assoc, ← ih (by omega), dif_pos hn']
      show (if hk : n < 96 then rowStep xb ez ⟨n, hk⟩ (rows xb ez a n) else rows xb ez a n) c (ValueIdx.ix1 l) = _
      rw [dif_pos hn']
      show rows xb ez a n c (ValueIdx.ix1 l) + shapeCast S16 (chunk xb ⟨n, hn'⟩ c) shapeCasts_S1x16_S16 (ValueIdx.ix1 l) * ez (ValueIdx.ix1 ⟨n, hn'⟩) = _
      congr 2
      rw [shapeCast_dropUnit_apply ![16] (chunk xb ⟨n, hn'⟩ c) shapeCasts_S1x16_S16 (ValueIdx.ix1 l)]
      rfl
  rw [key 96 le_rfl, ← Fin.sum_univ_eq_sum_range (fun k => if hk : k < 96 then xb (ValueIdx.ix2 ⟨k, hk⟩ ⟨16 * c.val + l.val, by omega⟩) * ez (ValueIdx.ix1 ⟨k, hk⟩) else 0)]
  congr 1

/-- What a trip adds to the sums is the weighted rows it counts. -/
theorem rows_sum (h : Sorted ids) {g lo hi n : ℕ} (hg : g < 1024) (hlo : IsLo ids g lo) (hhi : IsLo ids (g + 1) hi) (hn : lo ≤ n) (hn' : n ≤ hi) (a : Acc Ideal) (c : Fin 32) (l : Fin 16) :
    rows (block x n) (ezb ids t (W g) (score s g) n) a 96 c (ValueIdx.ix1 l)
      = a c (ValueIdx.ix1 l) + ∑ v ∈ Finset.Ico n (min hi (blk n + 96)), wx x t s g ⟨16 * c.val + l.val, by omega⟩ v := by
  have hb := blk_le n
  have hn5 := hhi.le
  have hb' : blk n ≤ n ∧ n ≤ blk n + 96 := by unfold blk at *; omega
  rw [← sum_block _ hb'.1 hb'.2 hn', rows_apply]
  congr 1
  refine Finset.sum_congr rfl fun j _ => ?_
  rw [ezb_apply]
  have hm := member_iff h hg hlo hhi hn j
  by_cases hc : n ≤ blk n + j.val ∧ blk n + j.val < hi
  · rw [if_pos hc, if_pos (hm.2 hc), wx, at'_eq (show blk n + j.val < 50000 by omega)]; rfl
  · rw [if_neg hc, if_neg (fun hh => hc (hm.1 hh)), mul_zero]

/-- What holds of graph `g` after `k` trips from its first row. -/
structure Inv (g lo hi k : ℕ) (z : St Ideal) : Prop where
  ge : lo ≤ z.ptr
  le : z.ptr ≤ hi
  d : ∑ l : Fin 16, z.d (ValueIdx.ix1 l) = ∑ v ∈ Finset.Ico lo z.ptr, wgt t s g v
  a : ∀ (c : Fin 32) (l : Fin 16), z.a c (ValueIdx.ix1 l) = ∑ v ∈ Finset.Ico lo z.ptr, wx x t s g ⟨16 * c.val + l.val, by omega⟩ v
  stop : z.go = false → z.ptr = hi
  far : z.go = true → k = 0 ∨ z.ptr = 50000 ∨ (8 ∣ z.ptr ∧ 96 * k ≤ z.ptr + 7)

/-- After any number of trips the pointer, the flag and the sums are those of the rows passed. -/
theorem after_inv (h : Sorted ids) {g lo hi : ℕ} (hg : g < 1024) (hlo : IsLo ids g lo) (hhi : IsLo ids (g + 1) hi) (k : ℕ) :
    Inv x t s g lo hi k (after x ids t s g lo k) := by
  induction k with
  | zero =>
    refine ⟨le_rfl, hlo.mono hhi (by omega), ?_, fun c l => ?_, fun hh => absurd hh (by simp [after, start]), fun _ => Or.inl rfl⟩
    · show ∑ l : Fin 16, k1_pay66 (F := Ideal) (ValueIdx.ix1 l) = ∑ v ∈ Finset.Ico lo lo, _
      simp [pay66_apply]
    · show k1_pay66 (F := Ideal) (ValueIdx.ix1 l) = ∑ v ∈ Finset.Ico lo lo, _
      simp [pay66_apply]
  | succ k ih =>
    rw [after, Function.iterate_succ_apply']
    change Inv x t s g lo hi (k + 1) (trip x ids t (W g) (score s g) (after x ids t s g lo k))
    generalize after x ids t s g lo k = z at ih
    obtain ⟨go, p, d, a⟩ := z
    obtain ⟨h1, h2, h3, h4, h5, h6⟩ := ih
    simp only at h1 h2 h3 h4 h5 h6
    cases go with
    | false => exact ⟨h1, h2, h3, h4, fun _ => h5 rfl, fun hh => by cases hh⟩
    | true =>
      rw [trip_true]
      have hp := hits_eq h hg hlo hhi h1 h2
      have hp5 := hhi.le
      have hb' : blk p ≤ p ∧ p ≤ blk p + 96 := by have := blk_le p; unfold blk at *; omega
      have hm : p ≤ min hi (blk p + 96) := by omega
      refine ⟨?_, ?_, ?_, ?_, ?_, ?_⟩
      · show lo ≤ p + hits ids (W g) p; omega
      · show p + hits ids (W g) p ≤ hi; omega
      · show ∑ l : Fin 16, (d (ValueIdx.ix1 l) + dadd ids t (W g) (score s g) p (ValueIdx.ix1 l)) = ∑ v ∈ Finset.Ico lo (p + hits ids (W g) p), _
        rw [Finset.sum_add_distrib, dadd_sum t s h hg hlo hhi h1 h2, h3, hp, Finset.sum_Ico_consecutive _ h1 hm]
      · intro c l
        show rows (block x p) (ezb ids t (W g) (score s g) p) a 96 c (ValueIdx.ix1 l) = ∑ v ∈ Finset.Ico lo (p + hits ids (W g) p), _
        rw [rows_sum x t s h hg hlo hhi h1 h2, h4, hp, Finset.sum_Ico_consecutive _ h1 hm]
      · intro hh
        dsimp only at hh
        have hh' : ¬(hits ids (W g) p = blk p + 96 - p ∧ 0 < blk p + 96 - p) := of_decide_eq_false hh
        show p + hits ids (W g) p = hi
        unfold blk at *
        omega
      · intro hh
        dsimp only at hh
        have hh' : hits ids (W g) p = blk p + 96 - p ∧ 0 < blk p + 96 - p := of_decide_eq_true hh
        show k + 1 = 0 ∨ p + hits ids (W g) p = 50000 ∨ (8 ∣ p + hits ids (W g) p ∧ 96 * (k + 1) ≤ p + hits ids (W g) p + 7)
        rw [hp]
        have hd := blk_dvd p
        rcases h6 rfl with hk | hk | hk
        · subst hk; unfold blk at *; omega
        · unfold blk at *; omega
        · unfold blk at *; omega

/-- After enough trips a graph's pointer is at the next graph's first row. -/
theorem after_ptr_eq (h : Sorted ids) {g lo hi : ℕ} (hg : g < 1024) (hlo : IsLo ids g lo) (hhi : IsLo ids (g + 1) hi) (k : ℕ) (hk : 523 ≤ k) :
    (after x ids t s g lo k).ptr = hi := by
  obtain ⟨h1, h2, -, -, h5, h6⟩ := after_inv x t s h hg hlo hhi k
  cases hgo : (after x ids t s g lo k).go with
  | false => exact h5 hgo
  | true =>
    have := hhi.le
    rcases h6 hgo with hk | hk | hk
    · omega
    · omega
    · omega

/-- A graph's loop starts where the one before ended. -/
theorem ptrs_succ (gb lo k : ℕ) : ptrs x ids t s gb lo (k + 1) = (after x ids t s (gb + k) (ptrs x ids t s gb lo k) 523).ptr := rfl

/-- The tile's `k`-th graph starts at its first row. -/
theorem ptrs_isLo (h : Sorted ids) (gb k : ℕ) (hk : gb + k < 1025) : IsLo ids (gb + k) (ptrs x ids t s gb (lows ids gb 16) k) := by
  induction k with
  | zero => exact lows_isLo h gb
  | succ k ih =>
    obtain ⟨hi, hhi⟩ := h.exists_lo (gb + k + 1)
    rw [ptrs_succ, after_ptr_eq x t s h (by omega) (ih (by omega)) hhi 523 le_rfl]
    exact hhi

/-- A sum over a range of rows is a sum over all rows, the others counting nought. -/
theorem sum_fin (N : ℕ) {lo hi : ℕ} (hN : hi ≤ N) (f : ℕ → EReal) :
    ∑ v ∈ Finset.Ico lo hi, f v = ∑ v : Fin N, if lo ≤ v.val ∧ v.val < hi then f v.val else 0 := by
  rw [Fin.sum_univ_eq_sum_range (fun v => if lo ≤ v ∧ v < hi then f v else 0) N, ← Finset.sum_filter]
  refine Finset.sum_congr ?_ fun _ _ => rfl
  ext v
  simp only [Finset.mem_filter, Finset.mem_range, Finset.mem_Ico]
  omega

/-- The rows of graph `g`, summed: as a range of rows and as the rows that name it. -/
theorem sum_rows {g lo hi : ℕ} (hlo : IsLo ids g lo) (hhi : IsLo ids (g + 1) hi) (f : ℕ → EReal) :
    ∑ v ∈ Finset.Ico lo hi, f v = ∑ v : Fin 50000, if idn ids v = (g : ℤ) then f v.val else 0 :=
  (sum_fin 50000 hhi.le f).trans (Finset.sum_congr rfl fun v _ => if_congr (hlo.mem hhi v).symm rfl rfl)

/-- The tile's `k`-th graph, its loop ended: the sums over the graph's rows. -/
theorem fin_sums (h : Sorted ids) {gb k : ℕ} (hk : gb + k < 1024) (n : ℕ) (hn : 523 ≤ n) (z : St Ideal)
    (hz : z = after x ids t s (gb + k) (ptrs x ids t s gb (lows ids gb 16) k) n) :
    (∑ l : Fin 16, z.d (ValueIdx.ix1 l) = ∑ v : Fin 50000, if idn ids v = ((gb + k : ℕ) : ℤ) then wgt t s (gb + k) v.val else 0)
      ∧ ∀ (c : Fin 32) (l : Fin 16), z.a c (ValueIdx.ix1 l) = ∑ v : Fin 50000, if idn ids v = ((gb + k : ℕ) : ℤ) then wx x t s (gb + k) ⟨16 * c.val + l.val, by omega⟩ v.val else 0 := by
  subst hz
  have hlo := ptrs_isLo x t s h gb k (by omega)
  obtain ⟨hi, hhi⟩ := h.exists_lo (gb + k + 1)
  have hI := after_inv x t s h hk hlo hhi n
  have hp := after_ptr_eq x t s h hk hlo hhi n hn
  have hd := hI.d
  have ha := hI.a
  rw [hp] at hd ha
  exact ⟨hd.trans (sum_rows hlo hhi _), fun c l => (ha c l).trans (sum_rows hlo hhi _)⟩

/-- The denominators' row of a tile's `k`-th graph. -/
theorem allD_at (b k j : ℕ) (hj : j < 16) (hb : b / 32 * 32 = b) (hk : k < 32) (z : S1024x16.Idx) (h0 : (z 0).val = b + k) (h1 : (z 1).val = j) :
    allD x t ids s z = tileD x t ids s b k (ValueIdx.ix1 ⟨j, hj⟩) := by
  have e0 : (z 0).val / 32 * 32 = b := by omega
  have e1 : (z 0).val % 32 = k := by omega
  subst h1
  unfold allD
  rw [e0, e1]

/-- Feature `f` of graph `g`'s weighted rows. -/
theorem allU_apply (h : Sorted ids) (g : Fin 1024) (f : Fin 512) :
    allU x t ids s (ValueIdx.ix2 g f) = ∑ v : Fin 50000, if idn ids v = g.val then wx x t s g.val f v.val else 0 := by
  have hg := g.isLt
  have e : g.val / 32 * 32 + g.val % 32 = g.val := by omega
  have e' : (⟨16 * (f.val / 16) + f.val % 16, by omega⟩ : Fin 512) = f := Fin.ext (by show 16 * (f.val / 16) + f.val % 16 = f.val; omega)
  have hU := allU_at x t ids s (g.val / 32 * 32) (g.val % 32) f.val f.isLt (by omega) (by omega) (ValueIdx.ix2 g f) e.symm rfl
  have hs := (fin_sums x t s h (gb := g.val / 32 * 32) (k := g.val % 32) (by omega) 523 le_rfl _ rfl).2 ⟨f.val / 16, by omega⟩ ⟨f.val % 16, by omega⟩
  rw [hU]
  unfold tileU fin
  rw [hs]
  simp only [e, e']

/-- Graph `g`'s lanes add up to the sum of its rows' weights. -/
theorem allD_apply (h : Sorted ids) (g : Fin 1024) :
    ∑ l : Fin 16, allD x t ids s (ValueIdx.ix2 g l) = ∑ v : Fin 50000, if idn ids v = g.val then wgt t s g.val v.val else 0 := by
  have hg := g.isLt
  have e : g.val / 32 * 32 + g.val % 32 = g.val := by omega
  have hD := fun l : Fin 16 => allD_at x t s (ids := ids) (g.val / 32 * 32) (g.val % 32) l.val l.isLt (by omega) (by omega) (ValueIdx.ix2 g l) e.symm rfl
  have hs := (fin_sums x t s h (gb := g.val / 32 * 32) (k := g.val % 32) (by omega) 523 le_rfl _ rfl).1
  simp only [hD]
  unfold tileD fin
  rw [hs]
  simp only [e]

end Trip

end Cert.Proof.Pool

end
-- ==== Proof.Pay.lean ====
/-  What the two TensorCore bodies compute, entry by entry, over the reals. -/
module

public import proofs.«01_k».proof.Proof.Total
public import Idealize.ShloMosaic.Lib.Pointwise

@[expose] public section

noncomputable section

namespace Cert.Proof.Pool

open Cert.KernelIdeal Cert.KernelIdeal.Gen
open Idealize.ShloMosaic

/-- A row's own part of its score. -/
theorem k0_pay3_apply (x : Vec Ideal S1000x512 .f32) (w : Vec Ideal S512x1 .f32) (r : Fin 1000) (c : Fin 1) :
    k0_pay3 (F := Ideal) x w (ValueIdx.ix2 r c) = ∑ k : Fin 512, x (ValueIdx.ix2 r k) * w (ValueIdx.ix2 k 0) := by
  pointwise [k0_pay3]
  simp only [ix2_eq_valueIdx]
  rw [Subsingleton.elim c 0]

/-- A graph's part of its rows' scores. -/
theorem k0_pay1_apply (x : Vec Ideal S1000x512 .f32) (w : Vec Ideal S512x1 .f32) (b : Elt Ideal .f32) (r : Fin 1000) (c : Fin 1) :
    k0_pay1 (F := Ideal) x w b (ValueIdx.ix2 r c) = (∑ k : Fin 512, max (x (ValueIdx.ix2 r k)) 0 * w (ValueIdx.ix2 k 0)) + b := by
  pointwise [k0_pay1]
  simp only [ix2_eq_valueIdx]
  rw [Subsingleton.elim c 0]

/-- A graph's denominator, one where the graph is empty. -/
def safe (d : EReal) : EReal := if 0 < d then d else 1

/-- The last body's entry: the graph's quotients times the second weights, and the bias where the graph has rows. -/
theorem k2_pay1_apply (d : Vec Ideal S1024x16 .f32) (u : Vec Ideal S1024x512 .f32) (w : Vec Ideal S512x512 .f32) (b : Vec Ideal S1x512 .f32) (r : Fin 1000) (c : Fin 512) :
    k2_pay1 (F := Ideal) d u w b (ValueIdx.ix2 r c)
      = (∑ k : Fin 512, Ideal.div (u (ValueIdx.ix2 ⟨r.val, by omega⟩ k)) (safe (∑ l : Fin 16, d (ValueIdx.ix2 ⟨r.val, by omega⟩ l))) * w (ValueIdx.ix2 k c))
        + (if 0 < ∑ l : Fin 16, d (ValueIdx.ix2 ⟨r.val, by omega⟩ l) then 1 else 0) * b (ValueIdx.ix2 0 c) := by
  pointwise [k2_pay1]
  simp only [ix2_eq_valueIdx]
  rfl

end Cert.Proof.Pool

end
-- ==== Proof.Geo.lean ====
/-  The two TensorCore calls' results, entry by entry, over the reals: the blocks put back into their arrays. -/
module

public import proofs.«01_k».proof.Proof.Pay
public import proofs.«01_k».proof.Proof.Pre
public import Idealize.ShloMosaic.Lib.Pipeline.ValueKit.Geometry
public import Idealize.ShloMosaic.Lib.Pipeline.ValueKit.Tiles

@[expose] public section

noncomputable section

namespace Cert.Proof.Pool

open Cert.KernelIdeal Cert.KernelIdeal.Gen

open Idealize.ShloMosaic Idealize.ShloMosaic.TcCoe Idealize.ShloMosaic.ValueIdx
open Idealize.SL Idealize.SL.RA
open Idealize.ShloMosaic.Pipeline (Dat Cfg Window cellOf)

variable (V : Val1 Ideal) (O : Dev nD → CellTallies nD τ sig (SparseCore.Cfg.HIx 1)) (b : ℕ) (c : Dev nD)

/-- A row's own part of its score. -/
def tval (x : FVec Ideal S50000x512 .f32) (w : FVec Ideal S512x1 .f32) : FVec Ideal S50000x1 .f32 := fun i => ∑ k : Fin 512, x (ValueIdx.ix2 (i 0) k) * w (ValueIdx.ix2 k 0)

/-- Each row's own part of its score, as the first call leaves it. -/
theorem resT_eq : resT V O b c = tval (V c main_arg0) (V c main_v2) := by
  have e1 : ∀ t : Fin cfg0.N, win0_1.index t = ![t.val, 0] := by decide +kernel
  have e4 : ∀ t : Fin cfg0.N, win0_4.index t = ![0, 0] := by decide +kernel
  have e5 : ∀ t : Fin cfg0.N, win0_5.index t = ![t.val, 0] := by decide +kernel
  refine (dat0 V O b c).arrAt_eq_of_covers 5 _ (by decide +kernel) fun t hf y => ?_
  blk_simp
  show tOut V c t y = _
  obtain ⟨r, q, rfl⟩ : ∃ (r : Fin 1000) (q : Fin 1), y = ValueIdx.ix2 r q := ⟨y 0, y 1, by funext a; match a with | ⟨0, _⟩ => rfl | ⟨1, _⟩ => rfl⟩
  unfold tOut
  rw [k0_pay3_apply]
  unfold tval
  refine Finset.sum_congr rfl fun k _ => congrArg₂ (· * ·) (congrArg (V c main_arg0) ?_) (congrArg (V c main_v2) ?_)
  · have h5 : ((((cfg0.win 5).blk t).view.emb (ValueIdx.ix2 r q) 0 : Fin 50000) : ℕ) = t.val * 1000 + r.val := by
      blk_simp [e5]
      rfl
    blk_ext [e1]
    exact h5.symm
  · blk_ext [e4]

/-- The graph scores, as the first call leaves them. -/
theorem resS_eq : resS V O b c = sOut V c := by
  refine (dat0 V O b c).arrAt_eq_of_after_last 6 ⟨49, by decide⟩ (by decide +kernel) _ fun j => ?_
  blk_simp
  rfl

/-- Each staged block at the first point is its array. -/
theorem stgO_eq : stgO V c t00 = V c main_v0 := by
  have e : ∀ t : Fin cfg0.N, win0_0.index t = ![0, 0] := by decide +kernel
  funext y
  refine congrArg (V c main_v0) ?_
  blk_ext [e]

/-- What the first call reads of the graphs' features: the whole array. -/
theorem stgG_eq : stgG V c t00 = V c main_arg1 := by
  have e : ∀ t : Fin cfg0.N, win0_2.index t = ![0, 0] := by decide +kernel
  funext y
  refine congrArg (V c main_arg1) ?_
  blk_ext [e]

/-- What it reads of the scores' weights for the graphs: the whole array. -/
theorem stgA_eq : stgA V c t00 = V c main_v1 := by
  have e : ∀ t : Fin cfg0.N, win0_3.index t = ![0, 0] := by decide +kernel
  funext y
  refine congrArg (V c main_v1) ?_
  blk_ext [e]

/-- A graph's part of its rows' scores. -/
def sval (g : FVec Ideal S1000x512 .f32) (w : FVec Ideal S512x1 .f32) (o : FVec Ideal S1x1 .f32) (r : Fin 1000) : EReal :=
  (∑ k : Fin 512, max (g (ValueIdx.ix2 r k)) 0 * w (ValueIdx.ix2 k 0)) + o (ValueIdx.ix2 0 0)

/-- The graph scores' block in its first thousand rows. -/
theorem sBlock_apply (o : S1x1.Idx → Elt Ideal .f32) (g : S1000x512.Idx → Elt Ideal .f32) (w : S512x1.Idx → Elt Ideal .f32) (r : Fin 1000) (R : Fin 1024) (hR : R.val = r.val) :
    sBlock (F := Ideal) o g w (ValueIdx.ix2 R 0) = sval g w o r := by
  unfold sBlock
  refine View.canon_eq_of_allAt _ _ _ ⟨_, List.mem_cons_of_mem _ List.mem_cons_self, ?_⟩ (View.allAt_cons_unit _ _ _ _ _ ?_ (View.allAt_cons_unit _ _ _ _ _ ?_ (View.allAt_nil _ _)))
  · show ValueIdx.ix2 R (0 : Fin 1) ∈ (Rect.unit (s := S1024x1) ![0, 0] S1000x1.size inb_S1024x1_S1000x1_0_0).set
    rw [Rect.mem_set_unit]
    intro a
    match a with
    | ⟨0, _⟩ => exact ⟨Nat.zero_le _, by show R.val < 0 + 1000; omega⟩
    | ⟨1, _⟩ => exact ⟨Nat.zero_le _, Nat.one_pos⟩
  · intro x hx
    have h0 : R.val = 1000 + (x 0 : Fin 24).val := hx 0
    omega
  · intro x hx
    have h0 : R.val = 0 + (x 0 : Fin 1000).val := hx 0
    obtain ⟨p, q, rfl⟩ : ∃ (p : Fin 1000) (q : Fin 1), x = ValueIdx.ix2 p q := ⟨x 0, x 1, by funext a; match a with | ⟨0, _⟩ => rfl | ⟨1, _⟩ => rfl⟩
    obtain rfl : p = r := Fin.ext (by have : (ValueIdx.ix2 p q 0 : Fin 1000).val = p.val := rfl; omega)
    exact k0_pay1_apply _ _ _ p q

/-- A graph's score, as the first call leaves it. -/
theorem resS_apply (r : Fin 1000) (R : Fin 1024) (hR : R.val = r.val) : resS V O b c (ValueIdx.ix2 R 0) = sval (V c main_arg1) (V c main_v1) (V c main_v0) r := by
  rw [resS_eq]
  unfold sOut
  rw [stgO_eq, stgG_eq, stgA_eq]
  exact sBlock_apply _ _ _ r R hR

/-- Each of the last call's staged blocks is its array. -/
theorem stgU_eq : stgU V c = V c main_v6_0 := by
  funext y
  refine congrArg (V c main_v6_0) ?_
  blk_ext [show win2_0.index t2_0 = fun _ => 0 from rfl]

/-- What the last call reads of the denominators: the whole array. -/
theorem stgD_eq : stgD V c = V c main_v6_1 := by
  funext y
  refine congrArg (V c main_v6_1) ?_
  blk_ext [show win2_1.index t2_0 = fun _ => 0 from rfl]

/-- What it reads of the projection's matrix: the whole array. -/
theorem stgW_eq : stgW V c = V c main_arg5 := by
  funext y
  refine congrArg (V c main_arg5) ?_
  blk_ext [show win2_2.index t2_0 = fun _ => 0 from rfl]

/-- What it reads of the projection's bias: the whole array. -/
theorem stgB_eq : stgB V c = V c main_v7 := by
  funext y
  refine congrArg (V c main_v7) ?_
  blk_ext [show win2_3.index t2_0 = fun _ => 0 from rfl]

/-- The last call's result. -/
theorem res2_eq : res2 V O b c = k2_pay1 (F := Ideal) (V c main_v6_1) (V c main_v6_0) (V c main_arg5) (V c main_v7) := by
  rw [← stgU_eq V c, ← stgD_eq V c, ← stgW_eq V c, ← stgB_eq V c]
  refine (dat2 V O b c).arrAt_eq_of_after_last 4 t2_0 (by decide +kernel) _ fun j => ?_
  blk_simp
  rfl

end Cert.Proof.Pool

end
-- ==== Proof.Kern.lean ====
/-  The kernel's result, entry by entry, over the reals, in terms of the arguments. -/
module

public import proofs.«01_k».proof.Proof.Geo
public import proofs.«01_k».proof.Proof.Frames

@[expose] public section

noncomputable section

namespace Cert.Proof.Pool

open Cert.KernelIdeal Cert.KernelIdeal.Gen

open Idealize.ShloMosaic Idealize.ShloMosaic.TcCoe Idealize.ShloMosaic.ValueIdx
open Idealize.SL Idealize.SL.RA

/-! ## The kernel's numbers, from its arguments -/

section Numbers

variable (x : FVec Ideal S50000x512 .f32) (gf : FVec Ideal S1000x512 .f32) (ids : IVec S50000 32) (w1 : FVec Ideal S1024x1 .f32) (b1 : FVec Ideal S1 .f32)
  (w2 : FVec Ideal S512x512 .f32) (b2 : FVec Ideal S512 .f32)

/-- A graph's part of its rows' scores, with the bias. -/
def gpart (g : Fin 1000) : EReal := (∑ k : Fin 512, max (gf (ValueIdx.ix2 g k)) 0 * w1 (ValueIdx.ix2 (⟨k.val, by omega⟩ : Fin 1024) 0)) + b1 (ValueIdx.ix1 0)
/-- A row's own part of its score. -/
def xpart (v : Fin 50000) : EReal := ∑ k : Fin 512, x (ValueIdx.ix2 v k) * w1 (ValueIdx.ix2 (⟨512 + k.val, by omega⟩ : Fin 1024) 0)
/-- A row's weight in a graph. -/
def wt (g : Fin 1000) (v : Fin 50000) : EReal := Ideal.exp (leaky (gpart gf w1 b1 g + xpart x w1 v))
/-- A graph's weights' sum. -/
def dsum (g : Fin 1000) : EReal := ∑ v : Fin 50000, if idn ids v = g.val then wt x gf w1 b1 g v else 0
/-- A graph's weighted rows' sum. -/
def usum (g : Fin 1000) (k : Fin 512) : EReal := ∑ v : Fin 50000, if idn ids v = g.val then x (ValueIdx.ix2 v k) * wt x gf w1 b1 g v else 0
/-- An entry of the kernel's result. -/
def kout (g : Fin 1000) (f : Fin 512) : EReal :=
  (∑ k : Fin 512, Ideal.div (usum x gf ids w1 b1 g k) (safe (dsum x gf ids w1 b1 g)) * w2 (ValueIdx.ix2 k f))
    + (if 0 < dsum x gf ids w1 b1 g then 1 else 0) * b2 (ValueIdx.ix1 f)

/-- The denominators' and the sums' arrays, where the two scores' arrays hold the parts. -/
theorem sums_eq (h : Sorted ids) (t : FVec Ideal S50000 .f32) (s : FVec Ideal S1024 .f32) (ht : ∀ v, t (ValueIdx.ix1 v) = xpart x w1 v)
    (hs : ∀ (g : Fin 1000) (R : Fin 1024), R.val = g.val → s (ValueIdx.ix1 R) = gpart gf w1 b1 g) (g : Fin 1000) (R : Fin 1024) (hR : R.val = g.val) :
    (∀ k, allU x t ids s (ValueIdx.ix2 R k) = usum x gf ids w1 b1 g k) ∧ ∑ l : Fin 16, allD x t ids s (ValueIdx.ix2 R l) = dsum x gf ids w1 b1 g := by
  have hw : ∀ v : Fin 50000, wgt t s R.val v.val = wt x gf w1 b1 g v := fun v => by
    unfold wgt wt sc
    rw [at'_eq, ht, hs g _ (by show R.val % 1024 = g.val; omega)]
  refine ⟨fun k => ?_, ?_⟩
  · rw [allU_apply x t s h]
    unfold usum
    refine Finset.sum_congr rfl fun v _ => ?_
    rw [hR]
    refine if_congr Iff.rfl ?_ rfl
    rw [← hR]
    unfold wx
    rw [hw, at'_eq]
  · rw [allD_apply x t s h]
    unfold dsum
    refine Finset.sum_congr rfl fun v _ => ?_
    rw [hw, hR]

end Numbers

/-! ## The buffers along the way -/

variable (m : (ℓ : Loc nD τ sig) → Buf (Elt Ideal) ℓ) (d : Dev nD)

/-- An argument's array. -/
abbrev ax : FVec Ideal S50000x512 .f32 := m (d, dr main_arg0)
/-- The graphs' features, at the start. -/
abbrev ag : FVec Ideal S1000x512 .f32 := m (d, dr main_arg1)
/-- The rows' graph ids. -/
abbrev ai : IVec S50000 32 := m (d, dr main_arg2)
/-- The scores' weights. -/
abbrev aw1 : FVec Ideal S1024x1 .f32 := m (d, dr main_arg3)
/-- The scores' bias. -/
abbrev ab1 : FVec Ideal S1 .f32 := m (d, dr main_arg4)
/-- The projection's matrix. -/
abbrev aw2 : FVec Ideal S512x512 .f32 := m (d, dr main_arg5)
/-- The projection's bias. -/
abbrev ab2 : FVec Ideal S512 .f32 := m (d, dr main_arg6)

/-- The scores' bias as the first call takes it. -/
theorem W3_v0 : (W3 m d (dr main_v0) : FVec Ideal S1x1 .f32) = shapeCast S1x1 (ab1 m d) shapeCasts_S1_S1x1 := by
  unfold W3
  rw [StableHlo.unary_result_ne (h := by decide), StableHlo.unary_result_ne (h := by decide), StableHlo.reshape_result']
  rfl

/-- The scores' weights for the graphs' features are the first 512 rows. -/
theorem W3_v1 : (W3 m d (dr main_v1) : FVec Ideal S512x1 .f32) = extractStridedSlice S512x1 ![0, 0] (aw1 m d) slices_S1024x1_S512x1_0_0 := by
  unfold W3
  rw [StableHlo.unary_result_ne (h := by decide), StableHlo.unary_result', StableHlo.reshape_result_ne (h := by decide)]
  rfl

/-- The scores' weights for the rows' features are the last 512 rows. -/
theorem W3_v2 : (W3 m d (dr main_v2) : FVec Ideal S512x1 .f32) = extractStridedSlice S512x1 ![512, 0] (aw1 m d) slices_S1024x1_S512x1_512_0 := by
  unfold W3
  rw [StableHlo.unary_result', StableHlo.unary_result_ne (h := by decide), StableHlo.reshape_result_ne (h := by decide)]
  rfl

/-- The rows' scores that the SparseCore call reads are the first call's. -/
theorem W6_v4 : (W6 m d (dr main_v4) : FVec Ideal S50000 .f32) = shapeCast S50000 (resT (bufsOf (W3 m)) (owed (F := Ideal) 0) 0 d : FVec Ideal S50000x1 .f32) shapeCasts_S50000x1_S50000 := by
  unfold W6
  rw [StableHlo.reshape_result_ne (h := by decide), StableHlo.reshape_result']
  unfold W4
  rw [Function.update_of_ne (dr_ne (by decide)), Function.update_self]
  rfl

/-- The graphs' scores that the SparseCore call reads are the first call's. -/
theorem W6_v5 : (W6 m d (dr main_v5) : FVec Ideal S1024 .f32) = shapeCast S1024 (resS (bufsOf (W3 m)) (owed (F := Ideal) 0) 0 d : FVec Ideal S1024x1 .f32) shapeCasts_S1024x1_S1024 := by
  unfold W6
  rw [StableHlo.reshape_result', StableHlo.reshape_result_ne (h := by decide)]
  unfold W4
  rw [Function.update_self]
  rfl

/-- The projection's bias as the last call takes it. -/
theorem W8_v7 : (W8 m d (dr main_v7) : FVec Ideal S1x512 .f32) = shapeCast S1x512 (ab2 m d) shapeCasts_S512_S1x512 := by
  unfold W8
  rw [StableHlo.reshape_result']
  unfold W7
  rw [Function.update_of_ne (dr_ne (by decide)), Function.update_of_ne (dr_ne (by decide)), W6_keep m d (by decide), W3_keep m d (by decide)]
  rfl

/-- What the SparseCore call reads is the arguments' rows and ids and the first call's scores. -/
theorem A6_x : A6 m d main_arg0 = ax m d := (W6_keep m d (by decide)).trans (W3_keep m d (by decide))
/-- The ids that the SparseCore call reads are the argument's. -/
theorem A6_i : A6 m d main_arg2 = ai m d := (W6_keep m d (by decide)).trans (W3_keep m d (by decide))

/-- The denominators that the last call reads are the SparseCore's. -/
theorem W8_v61 : (W8 m d (dr main_v6_1) : FVec Ideal S1024x16 .f32) = allD (ax m d) (W6 m d (dr main_v4)) (ai m d) (W6 m d (dr main_v5)) := by
  unfold W8
  rw [StableHlo.reshape_result_ne (h := by decide)]
  unfold W7
  rw [Function.update_self, A6_x, A6_i]

/-- The weighted sums that the last call reads are the SparseCore's. -/
theorem W8_v60 : (W8 m d (dr main_v6_0) : FVec Ideal S1024x512 .f32) = allU (ax m d) (W6 m d (dr main_v4)) (ai m d) (W6 m d (dr main_v5)) := by
  unfold W8
  rw [StableHlo.reshape_result_ne (h := by decide)]
  unfold W7
  rw [Function.update_of_ne (dr_ne (by decide)), Function.update_self, A6_x, A6_i]

/-- A column flattened, at an index. -/
theorem flat_apply {n : ℕ} (x : FVec Ideal ⟨2, ![n, 1]⟩ .f32) (h : (⟨2, ![n, 1]⟩ : Shape).ShapeCasts ⟨1, ![n]⟩) (v : Fin n) :
    shapeCast ⟨1, ![n]⟩ x h (ValueIdx.ix1 v) = x (ValueIdx.ix2 v 0) := by
  refine shapeCast_apply x h _ _ ?_
  rw [Shape.rowMajor_val_two, Shape.rowMajor_val_one]
  show v.val * 1 + 0 = v.val
  omega

/-- A row vector given a leading axis, at an index. -/
theorem lead_apply {n : ℕ} (x : FVec Ideal ⟨1, ![n]⟩ .f32) (h : (⟨1, ![n]⟩ : Shape).ShapeCasts ⟨2, ![1, n]⟩) (v : Fin n) :
    shapeCast ⟨2, ![1, n]⟩ x h (ValueIdx.ix2 0 v) = x (ValueIdx.ix1 v) := by
  refine (shapeCast_addUnit_apply ![n] x h (ValueIdx.ix2 0 v)).trans (congrArg x ?_)
  funext a
  match a with
  | ⟨0, _⟩ => rfl

/-- A part of a column, at an index. -/
theorem part_apply (w : FVec Ideal S1024x1 .f32) (o : ℕ) (h : S1024x1.Slices ![o, 0] S512x1) (k : Fin 512) (ho : o + 512 ≤ 1024) :
    extractStridedSlice S512x1 ![o, 0] w h (ValueIdx.ix2 k 0) = w (ValueIdx.ix2 (⟨o + k.val, by omega⟩ : Fin 1024) 0) := by
  refine extractStridedSlice_apply _ w h _ _ fun a => ?_
  match a with
  | ⟨0, _⟩ => rfl
  | ⟨1, _⟩ => rfl

/-- A row's score, as the SparseCore call reads it. -/
theorem v4_apply (v : Fin 50000) : (W6 m d (dr main_v4) : FVec Ideal S50000 .f32) (ValueIdx.ix1 v) = xpart (ax m d) (aw1 m d) v := by
  rw [W6_v4, resT_eq]
  show shapeCast S50000 (tval (W3 m d (dr main_arg0)) (W3 m d (dr main_v2))) shapeCasts_S50000x1_S50000 (ValueIdx.ix1 v) = _
  rw [W3_v2, W3_keep m d (by decide), flat_apply]
  unfold tval xpart
  exact Finset.sum_congr rfl fun k _ => congrArg _ (part_apply _ 512 _ k (by omega))

/-- A graph's score, as the SparseCore call reads it. -/
theorem v5_apply (g : Fin 1000) (R : Fin 1024) (hR : R.val = g.val) :
    (W6 m d (dr main_v5) : FVec Ideal S1024 .f32) (ValueIdx.ix1 R) = gpart (ag m d) (aw1 m d) (ab1 m d) g := by
  have hc : (W6 m d (dr main_v5) : FVec Ideal S1024 .f32) (ValueIdx.ix1 R) = (resS (bufsOf (W3 m)) (owed (F := Ideal) 0) 0 d : FVec Ideal S1024x1 .f32) (ValueIdx.ix2 R 0) := by
    rw [W6_v5]
    exact flat_apply _ _ R
  rw [hc, resS_apply _ _ _ _ g R hR]
  show sval (W3 m d (dr main_arg1)) (W3 m d (dr main_v1)) (W3 m d (dr main_v0)) g = _
  rw [W3_v1, W3_v0, W3_keep m d (by decide)]
  unfold sval gpart
  rw [lead_apply]
  refine congrArg (· + _) (Finset.sum_congr rfl fun k _ => congrArg _ ?_)
  rw [part_apply _ 0 _ k (by omega)]
  simp only [Nat.zero_add]

/-- The kernel's result at an entry. -/
theorem W9_out (h : Sorted (ai m d)) (g : Fin 1000) (f : Fin 512) :
    (W9 m d (dr main_v8) : FVec Ideal S1000x512 .f32) (ValueIdx.ix2 g f) = kout (ax m d) (ag m d) (ai m d) (aw1 m d) (ab1 m d) (aw2 m d) (ab2 m d) g f := by
  have h8 : (W9 m d (dr main_v8) : FVec Ideal S1000x512 .f32)
      = k2_pay1 (F := Ideal) (W8 m d (dr main_v6_1)) (W8 m d (dr main_v6_0)) (W8 m d (dr main_arg5)) (W8 m d (dr main_v7)) := by
    unfold W9
    rw [Function.update_self, res2_eq]
  rw [h8, W8_v7, W8_v60, W8_v61, W8_keep m d (r := main_arg5) (by decide), W6_keep m d (r := main_arg5) (by decide), W3_keep m d (r := main_arg5) (by decide), k2_pay1_apply]
  obtain ⟨hu, hd⟩ := sums_eq (ax m d) (ag m d) (ai m d) (aw1 m d) (ab1 m d) h _ _ (v4_apply m d) (v5_apply m d) g ⟨g.val, by omega⟩ rfl
  rw [hd]
  unfold kout
  simp only [hu]
  rw [lead_apply]

end Cert.Proof.Pool

end
-- ==== Proof.RefVal.lean ====
/-  The reference's steps, each at an index, on the rows whose id names a graph. -/
module

public import proofs.«01_k».proof.Proof.Ref
public import proofs.«01_k».proof.Proof.Kern

@[expose] public section

noncomputable section

namespace Cert.Proof.Ref

open Cert.ReferenceIdeal Cert.ReferenceIdeal.Gen
open Idealize.ShloMosaic
open Cert.Proof.Pool (idn leaky gpart xpart)

variable (x : FVec Ideal S50000x512 .f32) (gf : FVec Ideal S1000x512 .f32) (ids : IVec S50000 32) (w1 : FVec Ideal S1024x1 .f32) (b1 : FVec Ideal S1 .f32)
  (w2 : FVec Ideal S512x512 .f32) (b2 : FVec Ideal S512 .f32)

/-- Row `v`'s entry of the column of ids. -/
theorem col_apply (v : Fin 50000) : col ids (ValueIdx.ix2 v 0) = ids (ValueIdx.ix1 v) := by
  unfold col
  refine broadcastInDim_apply _ _ _ _ _ fun a => ?_
  match a with
  | ⟨0, _⟩ => rfl

/-- A row's id that is a graph's number, as a word. -/
theorem ids_eq {v : Fin 50000} {g : Fin 1000} (h : idn ids v = g.val) : ids (ValueIdx.ix1 v) = BitVec.ofNat 32 g.val :=
  BitVec.eq_of_toInt_eq (h.trans (Pool.W_toInt (by omega)).symm)

/-- Such an id is not counted from the end. -/
theorem idx_apply {v : Fin 50000} {g : Fin 1000} (h : idn ids v = g.val) : idx ids (ValueIdx.ix2 v 0) = BitVec.ofNat 32 g.val := by
  have e := ids_eq ids h
  pointwise [idx]
  rw [Routing.wrap_of_lt]
  · exact e
  · show (ids (ValueIdx.ix1 v)).toNat < _
    rw [e, Pool.W_toNat (by omega)]
    omega

/-- A value per graph, at a row of graph `g`, is `g`'s. -/
theorem spread_apply (t : FVec Ideal S1000x1 .f32) {v : Fin 50000} {g : Fin 1000} (h : idn ids v = g.val) : spread ids t (ValueIdx.ix2 v 0) = t (ValueIdx.ix2 g 0) := by
  unfold spread
  exact Routing.gather_row gather_S1000x1_S50000x1_S50000x1_1_0_n_n_0_1_11 rfl rfl rfl rfl rfl t (idx ids) v 0 g (idx_apply ids h) (by decide)

/-- The last 512 columns of the concatenation are the row's features, -/
theorem cat_right (v : Fin 50000) (k : Fin 512) : cat x gf ids (ValueIdx.ix2 v (Fin.natAdd 512 k)) = x (ValueIdx.ix2 v k) := by
  unfold cat
  refine concatenate_pair_apply_right (t := S50000x1024) (s₁ := S50000x512) (s₂ := S50000x512) 1 _ _ _ _ rfl rfl (ValueIdx.ix2 v k) (fun b hb => ?_) ?_
  · match b, hb with
    | ⟨0, _⟩, _ => rfl
    | ⟨1, _⟩, hb => exact absurd rfl hb
  · show k.val + 512 = 512 + k.val
    omega

/-- the first 512 its graph's, cut off at nought. -/
theorem cat_left {v : Fin 50000} {g : Fin 1000} (h : idn ids v = g.val) (k : Fin 512) : cat x gf ids (ValueIdx.ix2 v (Fin.castAdd 512 k)) = max (gf (ValueIdx.ix2 g k)) 0 := by
  unfold cat
  refine (concatenate_pair_apply_left (t := S50000x1024) (s₁ := S50000x512) (s₂ := S50000x512) 1 _ _ _ _ rfl (ValueIdx.ix2 v k) (fun b => ?_)).trans ?_
  · match b with
    | ⟨0, _⟩ => rfl
    | ⟨1, _⟩ => rfl
  · refine (Routing.gather_row gather_S1000x512_S50000x1_S50000x512_1_0_n_n_0_1_1512 rfl rfl rfl rfl rfl _ (idx ids) v k g (idx_apply ids h) (by decide)).trans ?_
    pointwise

/-- A row's score before the unit is its graph's part and its own. -/
theorem z0_apply {v : Fin 50000} {g : Fin 1000} (h : idn ids v = g.val) : z0 x gf ids w1 b1 (ValueIdx.ix2 v 0) = gpart gf w1 b1 g + xpart x w1 v := by
  have e : z0 x gf ids w1 b1 (ValueIdx.ix2 v 0) = (∑ k : Fin (512 + 512), cat x gf ids (ValueIdx.ix2 v k) * w1 (ValueIdx.ix2 k 0)) + b1 (ValueIdx.ix1 0) := by
    pointwise [z0]
    rfl
  rw [e, Fin.sum_univ_add]
  simp only [cat_right, cat_left x gf ids h]
  unfold gpart xpart
  exact add_right_comm _ _ _

/-- The unit at row `v`. -/
theorem unit_apply (z : FVec Ideal S50000x1 .f32) (v : Fin 50000) : unit z (ValueIdx.ix2 v 0) = leaky (z (ValueIdx.ix2 v 0)) := by
  pointwise [unit]
  rfl

/-- The least value's bits denote the least real. -/
theorem neg_inf : Ideal.ofBits .f32 4286578688#32 = ⊥ := by
  show Ideal.ieee 8 23 4286578688#32 = ⊥
  unfold Ideal.ieee
  simp

/-- A graph's largest score is below the greatest value if its rows' scores are, -/
theorem top0_lt (z : FVec Ideal S50000x1 .f32) (g : Fin 1000) (hz : ∀ v, idn ids v = g.val → z (ValueIdx.ix2 v 0) < ⊤) : top0 ids z (ValueIdx.ix2 g 0) < ⊤ := by
  pointwise [top0]
  rw [neg_inf, Finset.fold_max_lt]
  refine ⟨bot_lt_top, fun v _ => ?_⟩
  unfold Scalar.select
  split
  · next hc => exact hz v (by
      have he : ids (ValueIdx.ix1 v) = Pool.W g.val := by
        by_contra hn
        exact absurd (hc.symm.trans (congrArg BitVec.ofBool (beq_eq_false_iff_ne.2 hn))) (by decide)
      rw [Pool.idn, he, Pool.W_toInt (by omega)])
  · show Ideal.ofBits .f32 4286578688#32 < ⊤
    rw [neg_inf]
    exact bot_lt_top

/-- so with nought in the least value's place it is real. -/
theorem top_real (t : FVec Ideal S1000x1 .f32) (g : Fin 1000) (ht : t (ValueIdx.ix2 g 0) < ⊤) : ∃ r : ℝ, top t (ValueIdx.ix2 g 0) = (r : EReal) := by
  pointwise [top]
  rw [neg_inf]
  by_cases hb : ⊥ < t (ValueIdx.ix2 g 0)
  · rw [if_pos hb]
    exact ⟨_, (EReal.coe_toReal ht.ne hb.ne').symm⟩
  · rw [if_neg hb]
    exact ⟨0, Ideal.ofBits_zero_f32⟩

/-- Row `v`'s exponential. -/
theorem ex_apply (z : FVec Ideal S50000x1 .f32) (t : FVec Ideal S1000x1 .f32) {v : Fin 50000} {g : Fin 1000} (h : idn ids v = g.val) :
    ex ids z t (ValueIdx.ix2 v 0) = Ideal.exp (z (ValueIdx.ix2 v 0) - t (ValueIdx.ix2 g 0)) := by
  rw [← spread_apply ids t h]
  pointwise [ex]

/-- A graph's denominator is the sum of its rows' exponentials. -/
theorem den_apply (e : FVec Ideal S50000x1 .f32) (g : Fin 1000) :
    den ids e (ValueIdx.ix2 g 0) = ∑ v : Fin 50000, if idn ids v = g.val then e (ValueIdx.ix2 v 0) else 0 := by
  unfold den
  rw [scatter_rows _ rfl rfl rfl rfl]
  have e0 : broadcastInDim S1000x1 ![] bcast_S_S1000x1 (constant (F := Ideal) S_ .f32 0x00000000#32) (ValueIdx.ix2 g 0) = 0 := by pointwise
  rw [e0, zero_add]
  refine Finset.sum_congr rfl fun v _ => if_congr ?_ rfl rfl
  rw [col_apply]
  exact Iff.rfl

/-- An entry of the rows' projections. -/
theorem hv_apply (v : Fin 50000) (f : Fin 512) : hv x w2 b2 (ValueIdx.ix2 v f) = (∑ k : Fin 512, x (ValueIdx.ix2 v k) * w2 (ValueIdx.ix2 k f)) + b2 (ValueIdx.ix1 f) := by
  pointwise [hv]
  rfl

/-- An entry of the pooled result: the graph's rows' projections, each by its share. -/
theorem pool_apply (e : FVec Ideal S50000x1 .f32) (t : FVec Ideal S1000x1 .f32) (g : Fin 1000) (f : Fin 512) :
    pool x ids w2 b2 e t (ValueIdx.ix2 g f)
      = ∑ v : Fin 50000, if idn ids v = g.val then Ideal.div (e (ValueIdx.ix2 v 0)) (t (ValueIdx.ix2 g 0)) * hv x w2 b2 (ValueIdx.ix2 v f) else 0 := by
  unfold pool
  rw [scatter_rows _ rfl rfl rfl rfl]
  have e0 : broadcastInDim S1000x512 ![] bcast_S_S1000x512 (constant (F := Ideal) S_ .f32 0x00000000#32) (ValueIdx.ix2 g f) = 0 := by pointwise
  rw [e0, zero_add]
  refine Finset.sum_congr rfl fun v _ => ?_
  rw [col_apply]
  change (if idn ids v = g.val then _ else _) = _
  by_cases hg : idn ids v = g.val
  · rw [if_pos hg, if_pos hg, ← spread_apply ids t hg]
    pointwise
    rfl
  · rw [if_neg hg, if_neg hg]

/-- A row's weight in a graph, a real taken from its score. -/
def ew (g : Fin 1000) (v : Fin 50000) (r : ℝ) : EReal := Ideal.exp (leaky (gpart gf w1 b1 g + xpart x w1 v) - (r : EReal))

/-- The reference's result at an entry: some real per graph is taken from its rows' scores. -/
theorem out_apply (hr : ∀ g v, leaky (gpart gf w1 b1 g + xpart x w1 v) < ⊤) (g : Fin 1000) (f : Fin 512) :
    ∃ r : ℝ, out x gf ids w1 b1 w2 b2 (ValueIdx.ix2 g f)
      = ∑ v : Fin 50000, if idn ids v = g.val then
          Ideal.div (ew x gf w1 b1 g v r) (∑ u : Fin 50000, if idn ids u = g.val then ew x gf w1 b1 g u r else 0)
            * ((∑ k : Fin 512, x (ValueIdx.ix2 v k) * w2 (ValueIdx.ix2 k f)) + b2 (ValueIdx.ix1 f)) else 0 := by
  have hz : ∀ v, idn ids v = g.val → z x gf ids w1 b1 (ValueIdx.ix2 v 0) = leaky (gpart gf w1 b1 g + xpart x w1 v) := fun v hv => by
    unfold z
    rw [unit_apply, z0_apply x gf ids w1 b1 hv]
  obtain ⟨r, hμ⟩ := top_real (top0 ids (z x gf ids w1 b1)) g (top0_lt ids _ g (fun v hv => by rw [hz v hv]; exact hr _ v))
  have he : ∀ v, idn ids v = g.val → e x gf ids w1 b1 (ValueIdx.ix2 v 0) = ew x gf w1 b1 g v r := fun v hv => by
    unfold e ew
    rw [ex_apply ids _ _ hv, hz v hv, hμ]
  have hd : (∑ u : Fin 50000, if idn ids u = g.val then e x gf ids w1 b1 (ValueIdx.ix2 u 0) else 0) = ∑ u : Fin 50000, if idn ids u = g.val then ew x gf w1 b1 g u r else 0 :=
    Finset.sum_congr rfl fun u _ => by
      by_cases hu : idn ids u = g.val
      · rw [if_pos hu, if_pos hu, he u hu]
      · rw [if_neg hu, if_neg hu]
  refine ⟨r, ?_⟩
  unfold out
  rw [pool_apply x ids w2 b2, den_apply ids, hd]
  refine Finset.sum_congr rfl fun v _ => ?_
  by_cases hv : idn ids v = g.val
  · rw [if_pos hv, if_pos hv, he v hv, hv_apply]
  · rw [if_neg hv, if_neg hv]

end Cert.Proof.Ref

end
-- ==== Proof.Real.lean ====
/-  Pooling a softmax by quotients: taking a real from the scores changes nothing, and the quotient may be taken after the sums. -/
module

public import proofs.«01_k».proof.Proof.Pay

@[expose] public section

noncomputable section

namespace Cert.Proof.Pool

open Idealize.ShloMosaic

/-! ## Values that are real -/

/-- A value that is a real number. -/
def Rl (y : EReal) : Prop := ∃ r : ℝ, y = (r : EReal)

/-- A real is real, -/
theorem Rl.coe (r : ℝ) : Rl (r : EReal) := ⟨r, rfl⟩
/-- nought is, -/
theorem Rl.zero : Rl 0 := ⟨0, rfl⟩
/-- the sum of two reals is, -/
theorem Rl.add {a b : EReal} : Rl a → Rl b → Rl (a + b) := fun ⟨r, hr⟩ ⟨s, hs⟩ => ⟨r + s, by rw [hr, hs, EReal.coe_add]⟩
/-- their product is, -/
theorem Rl.mul {a b : EReal} : Rl a → Rl b → Rl (a * b) := fun ⟨r, hr⟩ ⟨s, hs⟩ => ⟨r * s, by rw [hr, hs, EReal.coe_mul]⟩
/-- the larger of them is, -/
theorem Rl.max {a b : EReal} (ha : Rl a) (hb : Rl b) : Rl (max a b) := by
  rcases max_choice a b with h | h <;> rw [h] <;> assumption
/-- and a sum of reals over a finite set is. -/
theorem Rl.sum {ι : Type} (s : Finset ι) (f : ι → EReal) (h : ∀ i, Rl (f i)) : Rl (∑ i ∈ s, f i) :=
  Finset.sum_induction f Rl (fun _ _ => Rl.add) Rl.zero fun i _ => h i
/-- A real is below the greatest value. -/
theorem Rl.lt_top {a : EReal} : Rl a → a < ⊤ := fun ⟨r, hr⟩ => hr ▸ EReal.coe_lt_top r

/-- The slope is a real. -/
theorem slope_real : Rl (Ideal.ofBits .f32 0x3C23D70A#32) := by
  show Rl (Ideal.ieee 8 23 0x3C23D70A#32)
  unfold Ideal.ieee
  rw [if_neg (by decide), if_neg (by decide)]
  exact ⟨_, rfl⟩

/-- The leaky unit of a real is real. -/
theorem Rl.leaky {a : EReal} (h : Rl a) : Rl (leaky a) := by
  unfold Pool.leaky
  split
  · exact h
  · exact slope_real.mul h

/-! ## The pooling -/

/-- A sum of reals, taken as reals or as extended reals. -/
theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

/-- A real or nought, chosen before or after it is taken as an extended real. -/
theorem coe_ite (p : Prop) [Decidable p] (a : ℝ) : (if p then (a : EReal) else 0) = ((if p then a else 0 : ℝ) : EReal) := by
  split <;> rfl

/-- Division by a real other than nought is the reals' division. -/
theorem div_real (a b : ℝ) (hb : b ≠ 0) : Ideal.div (a : EReal) (b : EReal) = ((a / b : ℝ) : EReal) := by
  rw [Ideal.div_coe hb, ← EReal.coe_mul, mul_one_div]

/-- Over the reals: the quotients' sum is the sums' quotient. -/
theorem pool_real {V K : Type} [Fintype V] [Fintype K] (p : V → Prop) [DecidablePred p] (X : V → K → ℝ) (L : V → ℝ) (μ : ℝ) (W : K → ℝ) (β : ℝ)
    (hD : 0 < ∑ v, if p v then Real.exp (L v) else 0) :
    (∑ v, if p v then Real.exp (L v - μ) / (∑ u, if p u then Real.exp (L u - μ) else 0) * ((∑ k, X v k * W k) + β) else 0)
      = (∑ k, (∑ v, if p v then X v k * Real.exp (L v) else 0) / (∑ v, if p v then Real.exp (L v) else 0) * W k) + β := by
  have hs : (∑ u, if p u then Real.exp (L u - μ) else 0) = (∑ u, if p u then Real.exp (L u) else 0) * Real.exp (-μ) := by
    rw [Finset.sum_mul]
    refine Finset.sum_congr rfl fun u _ => ?_
    rw [ite_mul, zero_mul, ← Real.exp_add, sub_eq_add_neg]
  rw [hs]
  set D := ∑ u, if p u then Real.exp (L u) else 0 with hDd
  have h1 : ∀ v, (if p v then Real.exp (L v - μ) / (D * Real.exp (-μ)) * ((∑ k, X v k * W k) + β) else 0)
      = (∑ k, (if p v then X v k * Real.exp (L v) else 0) / D * W k) + (if p v then Real.exp (L v) else 0) / D * β := fun v => by
    by_cases hp : p v
    · simp only [if_pos hp]
      rw [sub_eq_add_neg, Real.exp_add, mul_div_mul_right _ _ (Real.exp_pos _).ne', mul_add, Finset.mul_sum]
      refine congrArg (· + _) (Finset.sum_congr rfl fun k _ => ?_)
      ring
    · simp only [if_neg hp, zero_div, zero_mul, Finset.sum_const_zero, add_zero]
  rw [Finset.sum_congr rfl fun v _ => h1 v, Finset.sum_add_distrib, Finset.sum_comm]
  congr 1
  · refine Finset.sum_congr rfl fun k _ => ?_
    rw [← Finset.sum_mul, ← Finset.sum_div]
  · rw [← Finset.sum_mul, ← Finset.sum_div, ← hDd, div_self hD.ne', one_mul]

/-- The same where every number is real. -/
theorem pool_coe {V K : Type} [Fintype V] [Fintype K] (p : V → Prop) [DecidablePred p] (X : V → K → ℝ) (L : V → ℝ) (μ : ℝ) (W : K → ℝ) (β : ℝ) (hex : ∃ v, p v) :
    (∑ v, if p v then Ideal.div (Ideal.exp ((L v : EReal) - (μ : EReal))) (∑ u, if p u then Ideal.exp ((L u : EReal) - (μ : EReal)) else 0)
        * ((∑ k, (X v k : EReal) * (W k : EReal)) + (β : EReal)) else 0)
      = (∑ k, Ideal.div (∑ v, if p v then (X v k : EReal) * Ideal.exp (L v : EReal) else 0) (safe (∑ v, if p v then Ideal.exp (L v : EReal) else 0)) * (W k : EReal))
        + (if 0 < ∑ v, (if p v then Ideal.exp (L v : EReal) else 0) then 1 else 0) * (β : EReal) := by
  have hD : 0 < ∑ v, if p v then Real.exp (L v) else 0 := by
    obtain ⟨v, hv⟩ := hex
    refine Finset.sum_pos' (fun u _ => ?_) ⟨v, Finset.mem_univ v, ?_⟩
    · split
      · exact (Real.exp_pos _).le
      · exact le_rfl
    · rw [if_pos hv]; exact Real.exp_pos _
  have hE : 0 < ∑ u, if p u then Real.exp (L u - μ) else 0 := by
    obtain ⟨v, hv⟩ := hex
    refine Finset.sum_pos' (fun u _ => ?_) ⟨v, Finset.mem_univ v, ?_⟩
    · split
      · exact (Real.exp_pos _).le
      · exact le_rfl
    · rw [if_pos hv]; exact Real.exp_pos _
  simp only [← EReal.coe_sub, Ideal.exp_coe, ← EReal.coe_mul, coe_ite, ← coe_sum, ← EReal.coe_add]
  unfold safe
  rw [if_pos (EReal.coe_pos.2 hD), if_pos (EReal.coe_pos.2 hD), one_mul]
  simp only [div_real _ _ hD.ne', div_real _ _ hE.ne', ← EReal.coe_mul, coe_ite, ← coe_sum, ← EReal.coe_add]
  exact congrArg _ (pool_real p X L μ W β hD)

/-- A positive share of a real and an infinite number is that number. -/
theorem share_top {a h : ℝ} (ha : 0 < a) : (a : EReal) * ((h : EReal) + ⊤) = ⊤ := by
  rw [EReal.coe_add_top, EReal.coe_mul_top_of_pos ha]
/-- The same below. -/
theorem share_bot {a h : ℝ} (ha : 0 < a) : (a : EReal) * ((h : EReal) + ⊥) = ⊥ := by
  rw [EReal.add_bot, EReal.coe_mul_bot_of_pos ha]

/-- A sum with an infinite term and no other but nought is infinite. -/
theorem sum_top {V : Type} [Fintype V] (p : V → Prop) [DecidablePred p] (hex : ∃ v, p v) : (∑ v, if p v then (⊤ : EReal) else 0) = ⊤ := by
  classical
  obtain ⟨v, hv⟩ := hex
  rw [← Finset.add_sum_erase _ _ (Finset.mem_univ v), if_pos hv]
  refine EReal.top_add_of_ne_bot (ne_of_gt (lt_of_lt_of_le EReal.bot_lt_zero (Finset.sum_nonneg fun u _ => ?_)))
  split
  · exact le_top
  · exact le_rfl
/-- The same below. -/
theorem sum_bot {V : Type} [Fintype V] (p : V → Prop) [DecidablePred p] (hex : ∃ v, p v) : (∑ v, if p v then (⊥ : EReal) else 0) = ⊥ := by
  classical
  obtain ⟨v, hv⟩ := hex
  rw [← Finset.add_sum_erase _ _ (Finset.mem_univ v), if_pos hv, EReal.bot_add]

/-- The two ways of pooling agree where every number is real but perhaps the bias. -/
theorem pool_eq {V K : Type} [Fintype V] [Fintype K] (p : V → Prop) [DecidablePred p] (X : V → K → ℝ) (L : V → ℝ) (μ : ℝ) (W : K → ℝ) (β : EReal) :
    (∑ v, if p v then Ideal.div (Ideal.exp ((L v : EReal) - (μ : EReal))) (∑ u, if p u then Ideal.exp ((L u : EReal) - (μ : EReal)) else 0)
        * ((∑ k, (X v k : EReal) * (W k : EReal)) + β) else 0)
      = (∑ k, Ideal.div (∑ v, if p v then (X v k : EReal) * Ideal.exp (L v : EReal) else 0) (safe (∑ v, if p v then Ideal.exp (L v : EReal) else 0)) * (W k : EReal))
        + (if 0 < ∑ v, (if p v then Ideal.exp (L v : EReal) else 0) then 1 else 0) * β := by
  by_cases hex : ∃ v, p v
  · have hpos : ∀ c : ℝ, 0 < ∑ u, if p u then Real.exp (L u - c) else 0 := fun c => by
      obtain ⟨v, hv⟩ := hex
      refine Finset.sum_pos' (fun u _ => ?_) ⟨v, Finset.mem_univ v, ?_⟩
      · split
        · exact (Real.exp_pos _).le
        · exact le_rfl
      · rw [if_pos hv]; exact Real.exp_pos _
    have hD : 0 < ∑ u, if p u then Real.exp (L u) else 0 := by simpa using hpos 0
    have hE := hpos μ
    induction β with
    | coe β => exact pool_coe p X L μ W β hex
    | top =>
      simp only [← EReal.coe_sub, Ideal.exp_coe, ← EReal.coe_mul, coe_ite, ← coe_sum]
      unfold safe
      rw [if_pos (EReal.coe_pos.2 hD), if_pos (EReal.coe_pos.2 hD), one_mul]
      simp only [div_real _ _ hD.ne', div_real _ _ hE.ne', ← EReal.coe_mul, ← coe_sum, share_top (div_pos (Real.exp_pos _) hE)]
      rw [sum_top p hex, EReal.coe_add_top]
    | bot =>
      simp only [← EReal.coe_sub, Ideal.exp_coe, ← EReal.coe_mul, coe_ite, ← coe_sum]
      unfold safe
      rw [if_pos (EReal.coe_pos.2 hD), if_pos (EReal.coe_pos.2 hD), one_mul]
      simp only [div_real _ _ hD.ne', div_real _ _ hE.ne', ← EReal.coe_mul, ← coe_sum, share_bot (div_pos (Real.exp_pos _) hE)]
      rw [sum_bot p hex, EReal.add_bot]
  · have hn : ∀ v, ¬ p v := fun v hv => hex ⟨v, hv⟩
    have h0 : ∀ F : V → EReal, (∑ v, if p v then F v else 0) = 0 := fun F => Finset.sum_eq_zero fun v _ => if_neg (hn v)
    simp only [h0, lt_irrefl, if_false, zero_mul, add_zero]
    refine (Finset.sum_eq_zero fun k _ => ?_).symm
    have e : Ideal.div 0 (safe 0) = 0 := by
      unfold safe Ideal.div
      rw [if_neg (lt_irrefl _), if_neg one_ne_zero, zero_mul]
    rw [e, zero_mul]

end Cert.Proof.Pool

end
-- ==== Proof.Cond.lean ====
/-  What the precondition says: the ids are sorted, the other arguments' entries but the projection's bias are real. -/
module

public import proofs.«01_k».proof.Proof.Gen.Pre_inputs_ok
public import proofs.«01_k».proof.Proof.Real
public import Idealize.ShloMosaic.Lib.ReduceAll
public import Idealize.ShloMosaic.Lib.Pointwise

@[expose] public section

noncomputable section

namespace Cert.Proof.Cond

open Cert.Pre_inputs_ok Cert.Pre_inputs_ok.Gen
open Idealize.ShloMosaic
open Cert.Proof.Pool (idn Sorted Rl)

/-- The bits of the greatest value. -/
theorem pos_inf : Ideal.ofBits .f32 0x7F800000#32 = ⊤ := by
  show Ideal.ieee 8 23 0x7F800000#32 = ⊤
  unfold Ideal.ieee
  simp

/-- A condition's bit is one only if the condition holds. -/
theorem of_bit {p : Prop} [Decidable p] (h : BitVec.ofBool (decide p) = 1#1) : p := by
  by_contra hc
  rw [decide_eq_false hc] at h
  exact absurd h (by decide)

/-- A value whose magnitude is below the greatest value is real. -/
theorem real_of_abs (y : EReal) (h : max y (-y) < ⊤) : Rl y := by
  have h1 := lt_of_le_of_lt (le_max_left y (-y)) h
  have h2 := lt_of_le_of_lt (le_max_right y (-y)) h
  refine ⟨y.toReal, (EReal.coe_toReal h1.ne fun e => ?_).symm⟩
  rw [e, EReal.neg_bot] at h2
  exact lt_irrefl _ h2

/-- There is one index into a scalar. -/
instance : Subsingleton S_.Idx := ⟨fun a b => funext fun i => i.elim0⟩

/-- An array whose entries' magnitudes all compare below the greatest value is real throughout. -/
theorem all_real {s : Shape} (x : FVec Ideal s .f32) (hb : S_.BroadcastsInDim s ![]) {axes : List (Fin s.rank)} (hr : s.ReducesTo axes S_) (j : S_.Idx)
    (h : Host.reduce IntOp.andi (cmpf (F := Ideal) .olt (Host.absf x) (broadcastInDim s ![] hb (constant (F := Ideal) S_ .f32 0x7F800000#32))) (constantI S_ 1 1#1) hr h_S_ j = 1#1) (i : s.Idx) : Rl (x i) := by
  have h1 := Host.reduce_andi_all _ _ hr h_S_ j h i
  have h2 : Ideal.cmp .olt (max (x i) (-(x i))) (Ideal.ofBits .f32 0x7F800000#32) = 1#1 := h1
  rw [pos_inf] at h2
  exact real_of_abs _ (of_bit h2)

variable (x : FVec Ideal S50000x512 .f32) (gf : FVec Ideal S1000x512 .f32) (ids : IVec S50000 32) (w1 : FVec Ideal S1024x1 .f32) (b1 : FVec Ideal S1 .f32)
  (w2 : FVec Ideal S512x512 .f32) (b2 : FVec Ideal S512 .f32)

/-- What the precondition says. -/
structure Ok : Prop where
  sorted : Sorted ids
  x : ∀ i, Rl (x i)
  gf : ∀ i, Rl (gf i)
  w1 : ∀ i, Rl (w1 i)
  b1 : ∀ i, Rl (b1 i)
  w2 : ∀ i, Rl (w2 i)

/-- Ids each at most the next are sorted. -/
theorem sorted_of (h2 : ∀ (n : ℕ) (hn : n + 1 < 50000), (ids (ValueIdx.ix1 (⟨n, by omega⟩ : Fin 50000))).toInt ≤ (ids (ValueIdx.ix1 (⟨n + 1, hn⟩ : Fin 50000))).toInt) : Sorted ids := by
  refine ⟨fun u v huv => ?_⟩
  obtain ⟨u, hu⟩ := u
  obtain ⟨v, hv⟩ := v
  have huv' : u ≤ v := huv
  induction v, huv' using Nat.le_induction with
  | base => exact le_rfl
  | succ n hn ih => exact (ih (by omega) hn).trans (h2 n hv)

/-- The precondition, read: the ids sorted, every float argument but the projection's bias real. -/
theorem ok_of (h : Cert.Pre_inputs_ok.fn (F := Ideal) x gf ids w1 b1 w2 b2 = fun _ => 1#1) : Ok x gf ids w1 b1 w2 := by
  have h := congrFun h (fun i => i.elim0)
  unfold Cert.Pre_inputs_ok.fn fn_part1 at h
  dsimp only at h
  obtain ⟨h, hw2⟩ := IntOp.andi_eq_one.1 h
  obtain ⟨h, hb1⟩ := IntOp.andi_eq_one.1 h
  obtain ⟨h, hw1⟩ := IntOp.andi_eq_one.1 h
  obtain ⟨h, hg⟩ := IntOp.andi_eq_one.1 h
  obtain ⟨hle, hx⟩ := IntOp.andi_eq_one.1 h
  refine ⟨sorted_of ids (fun n hn => ?_), all_real x _ _ _ hx, all_real gf _ _ _ hg, all_real w1 _ _ _ hw1, all_real b1 _ _ _ hb1,
    all_real w2 _ _ _ hw2⟩
  · have h1 := Host.reduce_andi_all _ _ _ h_S_ _ hle (ValueIdx.ix1 (⟨n, by omega⟩ : Fin 49999))
    have e0 : extractStridedSlice S49999 ![0] ids slices_S50000_S49999_0 (ValueIdx.ix1 (⟨n, by omega⟩ : Fin 49999)) = ids (ValueIdx.ix1 (⟨n, by omega⟩ : Fin 50000)) :=
      extractStridedSlice_apply _ _ _ _ _ fun a => by match a with | ⟨0, _⟩ => exact (Nat.zero_add n).symm
    have e1 : extractStridedSlice S49999 ![1] ids slices_S50000_S49999_1 (ValueIdx.ix1 (⟨n, by omega⟩ : Fin 49999)) = ids (ValueIdx.ix1 (⟨n + 1, hn⟩ : Fin 50000)) :=
      extractStridedSlice_apply _ _ _ _ _ fun a => by match a with | ⟨0, _⟩ => exact Nat.add_comm n 1
    rw [← e0, ← e1]
    exact of_bit h1

end Cert.Proof.Cond

end
-- ==== Proof.Agree.lean ====
/-  The kernel's result is the reference's, over the reals. -/
module

public import proofs.«01_k».proof.Proof.RefVal
public import proofs.«01_k».proof.Proof.Cond

@[expose] public section

noncomputable section

namespace Cert.Proof

open Idealize.ShloMosaic Idealize.SL.Sem
open Cert.KernelIdeal (S50000x512 S1000x512 S50000 S1024x1 S1 S512x512 S512)
open Cert.Proof.Pool

section Values

variable (x : FVec Ideal S50000x512 .f32) (gf : FVec Ideal S1000x512 .f32) (ids : IVec S50000 32) (w1 : FVec Ideal S1024x1 .f32) (b1 : FVec Ideal S1 .f32)
  (w2 : FVec Ideal S512x512 .f32) (b2 : FVec Ideal S512 .f32)

/-- Every score is a real. -/
theorem score_real (h : Cond.Ok x gf ids w1 b1 w2) (g : Fin 1000) (v : Fin 50000) : Rl (leaky (gpart gf w1 b1 g + xpart x w1 v)) := by
  refine Rl.leaky (Rl.add (Rl.add (Rl.sum _ _ fun k => ((h.gf _).max Rl.zero).mul (h.w1 _)) (h.b1 _)) (Rl.sum _ _ fun k => (h.x _).mul (h.w1 _)))

/-- The reference's result is the kernel's formula, where the precondition holds. -/
theorem out_eq (h : Cond.Ok x gf ids w1 b1 w2) (g : Fin 1000) (f : Fin 512) :
    Ref.out (F := Ideal) x gf ids w1 b1 w2 b2 (ValueIdx.ix2 g f) = kout x gf ids w1 b1 w2 b2 g f := by
  obtain ⟨r, hr⟩ := Ref.out_apply x gf ids w1 b1 w2 b2 (fun g v => (score_real x gf ids w1 b1 w2 h g v).lt_top) g f
  rw [hr]
  choose L hL using score_real x gf ids w1 b1 w2 h g
  choose X hX using h.x
  choose W hW using h.w2
  unfold kout usum dsum wt Ref.ew
  simp only [hL, hX, hW]
  exact pool_eq (fun v : Fin 50000 => idn ids v = g.val) (fun v k => X (ValueIdx.ix2 v k)) L r (fun k : Fin 512 => W (ValueIdx.ix2 k f)) (b2 (ValueIdx.ix1 f))

end Values

/-- The two results as arrays, from memories that agree on the arguments. -/
theorem result_eq (m : (ℓ : Loc Cert.KernelIdeal.nD Cert.KernelIdeal.τ Cert.KernelIdeal.sig) → Buf (Elt Ideal) ℓ) (d : Dev Cert.KernelIdeal.nD)
    (h : Cond.Ok (ax m d) (ag m d) (ai m d) (aw1 m d) (ab1 m d) (aw2 m d)) :
    Ref.out (F := Ideal) (ax m d) (ag m d) (ai m d) (aw1 m d) (ab1 m d) (aw2 m d) (ab2 m d) = W9 m d (dr Cert.KernelIdeal.main_v8) := by
  funext i
  obtain ⟨g, f, rfl⟩ : ∃ (g : Fin 1000) (f : Fin 512), i = ValueIdx.ix2 g f := ⟨i 0, i 1, by funext a; match a with | ⟨0, _⟩ => rfl | ⟨1, _⟩ => rfl⟩
  exact (out_eq _ _ _ _ _ _ _ h g f).trans (W9_out m d h.sorted g f).symm

/-- The kernel and the reference, from memories agreeing on the arguments, end with the same result. -/
theorem algebraic : Cert.algebraic_KernelIdeal_ReferenceIdeal_pre_inputs_ok := by
  intro m g m' g' hpre hagree
  refine ⟨fun c => W9 m c (dr Cert.KernelIdeal.main_v8), ?_, ?_⟩
  · exact (θ_run (Cert.KernelIdeal.defs (F := Ideal)) _ _).mono (fun r h c =>
      ⟨h.1 c _ (by decide), args_kept m r h c (by decide) (by decide), args_kept m r h c (by decide) (by decide), args_kept m r h c (by decide) (by decide),
        args_kept m r h c (by decide) (by decide), args_kept m r h c (by decide) (by decide), args_kept m r h c (by decide) (by decide),
        args_kept m r h c (by decide) (by decide)⟩) (Pool.run_main (F := Ideal) m g)
  · refine (θ_run (Cert.ReferenceIdeal.defs (F := Ideal)) _ _).mono (fun r h c => ⟨(h c).1.trans ?_, (h c).2⟩) (Cert.ReferenceIdeal.Value.run m' g')
    obtain ⟨h0, h1, h2, h3, h4, h5, h6⟩ := hagree c
    rw [Ref.res_eq, h0, h1, h2, h3, h4, h5, h6]
    exact result_eq m c (Cond.ok_of _ _ _ _ _ _ _ (hpre c))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_inputs_ok
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The certificate: the kernel's, its idealization's and the reference's runs are safe and end quiescent, the
idealization preserves the kernel, and over the reals the kernel computes the reference's array. -/
theorem claim : Cert.Claim := ⟨Cert.Kernel.Gen.facts, Cert.KernelIdeal.Gen.facts, Cert.ReferenceIdeal.Gen.facts, Cert.Pre_inputs_ok.Gen.facts, frame_kernel,
  frame_kernelIdeal, fun m ρ _ => frame_kernelIdeal m ρ trivial, frame_referenceIdeal, fun m ρ _ => frame_referenceIdeal m ρ trivial, trivial, algebraic⟩

end Cert.Proof

end
